-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite [hPre_finite : Cert.Pre_finite.Facts] (m : (ℓ : Loc Cert.GqaIdeal.nD Cert.GqaIdeal.τ Cert.GqaIdeal.sig) → Buf (Elt Ideal) ℓ) : Prop :=
  ∀ c : Dev Cert.GqaIdeal.nD,
    (Cert.Pre_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite [hPre_finite : Cert.Pre_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite [hGqaIdeal : Cert.GqaIdeal.Facts] [hPre_finite : Cert.Pre_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite [hGqaRefIdeal : Cert.GqaRefIdeal.Facts] [hPre_finite : Cert.Pre_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def preserves_Gqa_GqaIdeal : Prop :=
  IdealRules.named_const.Statement Cert.GqaIdeal.κ "scale_log2e" .f32 0x3E38AA3B#32 (((8 * (Real.log 2))⁻¹ : ℝ) : EReal)

def algebraic_GqaIdeal_GqaRefIdeal_pre_finite [hGqaIdeal : Cert.GqaIdeal.Facts] [hGqaRefIdeal : Cert.GqaRefIdeal.Facts] [hPre_finite : Cert.Pre_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v5)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v5) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v21) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v112) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v132_0)) (v1 : (c : Dev Cert.InprojIdeal.nD) → Buf (Elt Ideal) ((c.tc : Thread Cert.InprojIdeal.nD Cert.InprojIdeal.τ).loc Cert.InprojIdeal.main_v132_1)) (v2 : (c : Dev Cert.InprojIdeal.nD) → Buf (Elt Ideal) ((c.tc : Thread Cert.InprojIdeal.nD Cert.InprojIdeal.τ).loc Cert.InprojIdeal.main_v132_2)) (v3 : (c : Dev Cert.InprojIdeal.nD) → Buf (Elt Ideal) ((c.tc : Thread Cert.InprojIdeal.nD Cert.InprojIdeal.τ).loc Cert.InprojIdeal.main_v132_3)) (v4 : (c : Dev Cert.InprojIdeal.nD) → Buf (Elt Ideal) ((c.tc : Thread Cert.InprojIdeal.nD Cert.InprojIdeal.τ).loc Cert.InprojIdeal.main_v132_4)) (v5 : (c : Dev Cert.InprojIdeal.nD) → Buf (Elt Ideal) ((c.tc : Thread Cert.InprojIdeal.nD Cert.InprojIdeal.τ).loc Cert.InprojIdeal.main_v132_5)) (v6 : (c : Dev Cert.InprojIdeal.nD) → Buf (Elt Ideal) ((c.tc : Thread Cert.InprojIdeal.nD Cert.InprojIdeal.τ).loc Cert.InprojIdeal.main_v132_6)) (v7 : (c : Dev Cert.InprojIdeal.nD) → Buf (Elt Ideal) ((c.tc : Thread Cert.InprojIdeal.nD Cert.InprojIdeal.τ).loc Cert.InprojIdeal.main_v132_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v132_0) = v0 c
          ∧ r.2.mem ((c.tc : Thread Cert.InprojIdeal.nD Cert.InprojIdeal.τ).loc Cert.InprojIdeal.main_v132_1) = v1 c
          ∧ r.2.mem ((c.tc : Thread Cert.InprojIdeal.nD Cert.InprojIdeal.τ).loc Cert.InprojIdeal.main_v132_2) = v2 c
          ∧ r.2.mem ((c.tc : Thread Cert.InprojIdeal.nD Cert.InprojIdeal.τ).loc Cert.InprojIdeal.main_v132_3) = v3 c
          ∧ r.2.mem ((c.tc : Thread Cert.InprojIdeal.nD Cert.InprojIdeal.τ).loc Cert.InprojIdeal.main_v132_4) = v4 c
          ∧ r.2.mem ((c.tc : Thread Cert.InprojIdeal.nD Cert.InprojIdeal.τ).loc Cert.InprojIdeal.main_v132_5) = v5 c
          ∧ r.2.mem ((c.tc : Thread Cert.InprojIdeal.nD Cert.InprojIdeal.τ).loc Cert.InprojIdeal.main_v132_6) = v6 c
          ∧ r.2.mem ((c.tc : Thread Cert.InprojIdeal.nD Cert.InprojIdeal.τ).loc Cert.InprojIdeal.main_v132_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v297) = v0 c
          ∧ r.2.mem ((c.tc : Thread Cert.InprojRefIdeal.nD Cert.InprojRefIdeal.τ).loc Cert.InprojRefIdeal.main_v299) = v1 c
          ∧ r.2.mem ((c.tc : Thread Cert.InprojRefIdeal.nD Cert.InprojRefIdeal.τ).loc Cert.InprojRefIdeal.main_v301) = v2 c
          ∧ r.2.mem ((c.tc : Thread Cert.InprojRefIdeal.nD Cert.InprojRefIdeal.τ).loc Cert.InprojRefIdeal.main_v305) = v3 c
          ∧ r.2.mem ((c.tc : Thread Cert.InprojRefIdeal.nD Cert.InprojRefIdeal.τ).loc Cert.InprojRefIdeal.main_v307) = v4 c
          ∧ r.2.mem ((c.tc : Thread Cert.InprojRefIdeal.nD Cert.InprojRefIdeal.τ).loc Cert.InprojRefIdeal.main_v309) = v5 c
          ∧ r.2.mem ((c.tc : Thread Cert.InprojRefIdeal.nD Cert.InprojRefIdeal.τ).loc Cert.InprojRefIdeal.main_v313) = v6 c
          ∧ r.2.mem ((c.tc : Thread Cert.InprojRefIdeal.nD Cert.InprojRefIdeal.τ).loc Cert.InprojRefIdeal.main_v315) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hPre_finite : Cert.Pre_finite.Facts),
    quiescent_Gqa (hGqa := hGqa)
    ∧ quiescent_GqaIdeal (hGqaIdeal := hGqaIdeal)
    ∧ quiescent_GqaIdeal_pre_finite (hGqaIdeal := hGqaIdeal) (hPre_finite := hPre_finite)
    ∧ quiescent_GqaRefIdeal (hGqaRefIdeal := hGqaRefIdeal)
    ∧ quiescent_GqaRefIdeal_pre_finite (hGqaRefIdeal := hGqaRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ preserves_Gqa_GqaIdeal
    ∧ algebraic_GqaIdeal_GqaRefIdeal_pre_finite (hGqaIdeal := hGqaIdeal) (hGqaRefIdeal := hGqaRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
-- ==== Pre_finite.lean ====
abbrev S8x4096x384 : Shape := ⟨3, ![8, 4096, 384]⟩
abbrev S8x4096x128 : Shape := ⟨3, ![8, 4096, 128]⟩
abbrev S_ : Shape := ⟨0, ![]⟩

class Facts : Prop where
  bcast_S_S8x4096x384 : S_.BroadcastsInDim S8x4096x384 (![] : Fin 0 → Fin S8x4096x384.rank)
  reducesTo_S8x4096x384_S_d0_1_2 : S8x4096x384.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x384 .f32) (main_arg1 : FVec F S8x4096x128 .f32) (main_arg2 : FVec F S8x4096x128 .f32) : IVec S_ 1 :=
  let main_v0 : FVec F S8x4096x384 .f32 := Host.absf main_arg0
  let main_cst : FVec F S_ .f32 := constant S_ .f32 0x7F800000#32
  let main_v1 : FVec F S8x4096x384 .f32 := broadcastInDim S8x4096x384 ![] bcast_S_S8x4096x384 main_cst
  let main_v2 : IVec S8x4096x384 1 := cmpf .olt main_v0 main_v1
  let main_c : IVec S_ 1 := constantI S_ 1 1#1
  let main_v3 : IVec S_ 1 := (fun x v => Host.reduce IntOp.andi x v reducesTo_S8x4096x384_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Gqa.lean ====
abbrev S8x4096x384 : Shape := ⟨3, ![8, 4096, 384]⟩
abbrev S8x4096x128 : Shape := ⟨3, ![8, 4096, 128]⟩
abbrev S_ : Shape := ⟨0, ![]⟩
abbrev S8x4096x64 : Shape := ⟨3, ![8, 4096, 64]⟩
abbrev S1x256x384 : Shape := ⟨3, ![1, 256, 384]⟩
abbrev S1x4096x384 : Shape := ⟨3, ![1, 4096, 384]⟩
abbrev S256x128 : Shape := ⟨2, ![256, 128]⟩
abbrev S1x256x128 : Shape := ⟨3, ![1, 256, 128]⟩
abbrev S768x128 : Shape := ⟨2, ![768, 128]⟩
abbrev S768x1 : Shape := ⟨2, ![768, 1]⟩
abbrev S1x2048x128 : Shape := ⟨3, ![1, 2048, 128]⟩
abbrev S2048x128 : Shape := ⟨2, ![2048, 128]⟩
abbrev S768x2048 : Shape := ⟨2, ![768, 2048]⟩
abbrev S768 : Shape := ⟨1, ![768]⟩

abbrev nBuf : Space → Nat
  | .hbm => 10
  | .vmem => 6
  | .smem => 0
  | _ => 0

abbrev bufTy : (tb : Table) → Fin (tcTables nBuf tb) → BufTy
  | .hbm, ⟨0, _⟩ => ⟨S8x4096x384, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S8x4096x384, .f32⟩
  | .hbm, ⟨8, _⟩ => ⟨S8x4096x384, .bf16⟩
  | .hbm, ⟨9, _⟩ => ⟨S8x4096x384, .bf16⟩
  | .local _ .vmem, ⟨0, _⟩ => ⟨S1x256x384, .f32⟩
  | .local _ .vmem, ⟨1, _⟩ => ⟨S1x256x384, .f32⟩
  | .local _ .vmem, ⟨2, _⟩ => ⟨S1x4096x384, .bf16⟩
  | .local _ .vmem, ⟨3, _⟩ => ⟨S1x4096x384, .bf16⟩
  | .local _ .vmem, ⟨4, _⟩ => ⟨S1x256x384, .bf16⟩
  | .local _ .vmem, ⟨5, _⟩ => ⟨S1x256x384, .bf16⟩
  | _, _ => ⟨S8x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  let c2048_i32 : BitVec 32 := 2048#32
  let v58 : BitVec 32 := Scalar.muli c0_i32 c2048_i32
  v58
def k0_off1 (c0_i32 : BitVec 32) : Fin 3 → Nat :=
  let c0_33 : Index := 0#32
  let c2048_i32 : BitVec 32 := 2048#32
  let v58 : BitVec 32 := Scalar.muli c0_i32 c2048_i32
  let v59 : BitVec 32 := v58
  let v60 : Index := Scalar.indexCast v59
  let c0_34 : Index := 0#32
  ![0, v60.toNat, 0]
def k0_off2 (c0_i32 : BitVec 32) : Fin 3 → Nat :=
  let c0_35 : Index := 0#32
  let c2048_i32 : BitVec 32 := 2048#32
  let v58 : BitVec 32 := Scalar.muli c0_i32 c2048_i32
  let v59 : BitVec 32 := v58
  let v63 : Index := Scalar.indexCast v59
  let c128_36 : Index := 128#32
  ![0, v63.toNat, 128]
def k0_off3 (c0_i32 : BitVec 32) : Fin 3 → Nat :=
  let c0_40 : Index := 0#32
  let c2048_i32 : BitVec 32 := 2048#32
  let v58 : BitVec 32 := Scalar.muli c0_i32 c2048_i32
  let v59 : BitVec 32 := v58
  let v80 : Index := Scalar.indexCast v59
  let c256_41 : Index := 256#32
  ![0, v80.toNat, 256]
def k0_mult2 : BitVec 32 :=
  let c1_i32 : BitVec 32 := 1#32
  let c2048_i32_45 : BitVec 32 := 2048#32
  let v97 : BitVec 32 := Scalar.muli c1_i32 c2048_i32_45
  v97
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GqaIdeal.lean ====
variable {F : FTy → Type} [FloatOps F] [Named F]
def κ : String → Option EReal := fun
  | "scale_log2e" => some (((8 * (Real.log 2))⁻¹ : ℝ) : EReal)
  | _ => none
-- ==== GqaRefIdeal.lean ====
abbrev S8x4096x384 : Shape := ⟨3, ![8, 4096, 384]⟩
abbrev S8x4096x128 : Shape := ⟨3, ![8, 4096, 128]⟩
abbrev S8x4096x2x3x64 : Shape := ⟨5, ![8, 4096, 2, 3, 64]⟩
abbrev S8x4096x2x64 : Shape := ⟨4, ![8, 4096, 2, 64]⟩
abbrev S8x2x4096x4096x3 : Shape := ⟨5, ![8, 2, 4096, 4096, 3]⟩
abbrev S8x2x3x4096x4096 : Shape := ⟨5, ![8, 2, 3, 4096, 4096]⟩
abbrev S_ : Shape := ⟨0, ![]⟩
abbrev S8x2x3x4096 : Shape := ⟨4, ![8, 2, 3, 4096]⟩
abbrev S8x2x3x4096x1 : Shape := ⟨5, ![8, 2, 3, 4096, 1]⟩
abbrev S8x2x64x3x4096 : Shape := ⟨5, ![8, 2, 64, 3, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x384, .f32⟩
  | .hbm, ⟨1, _⟩ => ⟨S8x4096x128, .f32⟩
  | .hbm, ⟨2, _⟩ => ⟨S8x4096x128, .f32⟩
  | .hbm, ⟨3, _⟩ => ⟨S8x4096x2x3x64, .f32⟩
  | .hbm, ⟨4, _⟩ => ⟨S8x4096x2x64, .f32⟩
  | .hbm, ⟨5, _⟩ => ⟨S8x4096x2x64, .f32⟩
  | .hbm, ⟨6, _⟩ => ⟨S8x2x4096x4096x3, .f32⟩
  | .hbm, ⟨7, _⟩ => ⟨S8x2x3x4096x4096, .f32⟩
  | .hbm, ⟨8, _⟩ => ⟨S_, .f32⟩
  | .hbm, ⟨9, _⟩ => ⟨S8x2x3x4096x4096, .f32⟩
  | .hbm, ⟨10, _⟩ => ⟨S8x2x3x4096x4096, .f32⟩
  | .hbm, ⟨11, _⟩ => ⟨S_, .f32⟩
  | .hbm, ⟨12, _⟩ => ⟨S8x2x3x4096, .f32⟩
  | .hbm, ⟨13, _⟩ => ⟨S_, .f32⟩
  | .hbm, ⟨14, _⟩ => ⟨S8x2x3x4096, .f32⟩
  | .hbm, ⟨15, _⟩ => ⟨S8x2x3x4096, .f32⟩
  | .hbm, ⟨16, _⟩ => ⟨S8x2x3x4096x1, .f32⟩
  | .hbm, ⟨17, _⟩ => ⟨S8x2x3x4096x4096, .f32⟩
  | .hbm, ⟨18, _⟩ => ⟨S8x2x3x4096x4096, .f32⟩
  | .hbm, ⟨19, _⟩ => ⟨S8x2x3x4096x4096, .f32⟩
  | .hbm, ⟨20, _⟩ => ⟨S_, .f32⟩
  | .hbm, ⟨21, _⟩ => ⟨S8x2x3x4096, .f32⟩
  | .hbm, ⟨22, _⟩ => ⟨S8x2x3x4096x1, .f32⟩
  | .hbm, ⟨23, _⟩ => ⟨S8x2x3x4096x4096, .f32⟩
  | .hbm, ⟨24, _⟩ => ⟨S8x2x3x4096x4096, .f32⟩
  | .hbm, ⟨25, _⟩ => ⟨S8x2x64x3x4096, .f32⟩
  | .hbm, ⟨26, _⟩ => ⟨S8x4096x2x3x64, .f32⟩
  | .hbm, ⟨27, _⟩ => ⟨S8x4096x384, .f32⟩
  | .hbm, ⟨28, _⟩ => ⟨S8x4096x384, .bf16⟩
  | _, _ => ⟨S8x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Ffn.lean ====
abbrev S8x4096x256 : Shape := ⟨3, ![8, 4096, 256]⟩
abbrev S8x4096x384 : Shape := ⟨3, ![8, 4096, 384]⟩
abbrev S8x4096x1024 : Shape := ⟨3, ![8, 4096, 1024]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S32768x256 : Shape := ⟨2, ![32768, 256]⟩
abbrev S32768x384 : Shape := ⟨2, ![32768, 384]⟩
abbrev S32768x1024 : Shape := ⟨2, ![32768, 1024]⟩
abbrev S1x1024 : Shape := ⟨2, ![1, 1024]⟩
abbrev S1024 : Shape := ⟨1, ![1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1024x256 : Shape := ⟨2, ![1024, 256]⟩
abbrev S16x256 : Shape := ⟨2, ![16, 256]⟩
abbrev S1024x384 : Shape := ⟨2, ![1024, 384]⟩
abbrev S16x384 : Shape := ⟨2, ![16, 384]⟩
abbrev S1024x1024 : Shape := ⟨2, ![1024, 1024]⟩
abbrev S16x1024 : Shape := ⟨2, ![16, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1056x1024 : Shape := ⟨2, ![1056, 1024]⟩
abbrev S1056x256 : Shape := ⟨2, ![1056, 256]⟩
abbrev S1024x2816 : Shape := ⟨2, ![1024, 2816]⟩
abbrev S1x256 : Shape := ⟨2, ![1, 256]⟩
abbrev S1056 : Shape := ⟨1, ![1056]⟩
abbrev S1056x1 : Shape := ⟨2, ![1056, 1]⟩
abbrev S1056x384 : Shape := ⟨2, ![1056, 384]⟩
abbrev S1x384 : Shape := ⟨2, ![1, 384]⟩
abbrev S1x1024x256 : Shape := ⟨3, ![1, 1024, 256]⟩
abbrev S2816x1024 : Shape := ⟨2, ![2816, 1024]⟩

abbrev nBuf : Space → Nat
  | .hbm => 30
  | .vmem => 36
  | .smem => 0
  | _ => 0

abbrev bufTy : (tb : Table) → Fin (tcTables nBuf tb) → BufTy
  | .hbm, ⟨0, _⟩ => ⟨S8x4096x256, .bf16⟩
  | .hbm, ⟨1, _⟩ => ⟨S8x4096x384, .bf16⟩
  | .hbm, ⟨2, _⟩ => ⟨S8x4096x384, .bf16⟩
  | .hbm, ⟨3, _⟩ => ⟨S8x4096x1024, .f32⟩
  | .hbm, ⟨4, _⟩ => ⟨S2x1024, .f32⟩
  | .hbm, ⟨5, _⟩ => ⟨S2x1024x1024, .f32⟩
  | .hbm, ⟨6, _⟩ => ⟨S2x1024, .f32⟩
  | .hbm, ⟨7, _⟩ => ⟨S2x1024x5632, .f32⟩
  | .hbm, ⟨8, _⟩ => ⟨S2x3x2816, .f32⟩
  | .hbm, ⟨9, _⟩ => ⟨S2x2816, .f32⟩
  | .hbm, ⟨10, _⟩ => ⟨S2x2816x1024, .f32⟩
  | .hbm, ⟨11, _⟩ => ⟨S2x1024x1024, .bf16⟩
  | .hbm, ⟨12, _⟩ => ⟨S2x1024x5632, .bf16⟩
  | .hbm, ⟨13, _⟩ => ⟨S2x2816x1024, .bf16⟩
  | .hbm, ⟨14, _⟩ => ⟨S32768x256, .bf16⟩
  | .hbm, ⟨15, _⟩ => ⟨S32768x384, .bf16⟩
  | .hbm, ⟨16, _⟩ => ⟨S32768x384, .bf16⟩
  | .hbm, ⟨17, _⟩ => ⟨S32768x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x3x2816, .f32⟩
  | .hbm, ⟨25, _⟩ => ⟨S3x2816, .f32⟩
  | .hbm, ⟨26, _⟩ => ⟨S1x2816, .f32⟩
  | .hbm, ⟨27, _⟩ => ⟨S2816, .f32⟩
  | .hbm, ⟨28, _⟩ => ⟨S1x2816, .f32⟩
  | .hbm, ⟨29, _⟩ => ⟨S32768x1024, .f32⟩
  | .local _ .vmem, ⟨0, _⟩ => ⟨S1024x256, .bf16⟩
  | .local _ .vmem, ⟨1, _⟩ => ⟨S1024x256, .bf16⟩
  | .local _ .vmem, ⟨2, _⟩ => ⟨S16x256, .bf16⟩
  | .local _ .vmem, ⟨3, _⟩ => ⟨S16x256, .bf16⟩
  | .local _ .vmem, ⟨4, _⟩ => ⟨S16x256, .bf16⟩
  | .local _ .vmem, ⟨5, _⟩ => ⟨S16x256, .bf16⟩
  | .local _ .vmem, ⟨6, _⟩ => ⟨S1024x384, .bf16⟩
  | .local _ .vmem, ⟨7, _⟩ => ⟨S1024x384, .bf16⟩
  | .local _ .vmem, ⟨8, _⟩ => ⟨S16x384, .bf16⟩
  | .local _ .vmem, ⟨9, _⟩ => ⟨S16x384, .bf16⟩
  | .local _ .vmem, ⟨10, _⟩ => ⟨S16x384, .bf16⟩
  | .local _ .vmem, ⟨11, _⟩ => ⟨S16x384, .bf16⟩
  | .local _ .vmem, ⟨12, _⟩ => ⟨S1024x384, .bf16⟩
  | .local _ .vmem, ⟨13, _⟩ => ⟨S1024x384, .bf16⟩
  | .local _ .vmem, ⟨14, _⟩ => ⟨S16x384, .bf16⟩
  | .local _ .vmem, ⟨15, _⟩ => ⟨S16x384, .bf16⟩
  | .local _ .vmem, ⟨16, _⟩ => ⟨S16x384, .bf16⟩
  | .local _ .vmem, ⟨17, _⟩ => ⟨S16x384, .bf16⟩
  | .local _ .vmem, ⟨18, _⟩ => ⟨S1024x1024, .f32⟩
  | .local _ .vmem, ⟨19, _⟩ => ⟨S1024x1024, .f32⟩
  | .local _ .vmem, ⟨20, _⟩ => ⟨S16x1024, .f32⟩
  | .local _ .vmem, ⟨21, _⟩ => ⟨S16x1024, .f32⟩
  | .local _ .vmem, ⟨22, _⟩ => ⟨S16x1024, .f32⟩
  | .local _ .vmem, ⟨23, _⟩ => ⟨S16x1024, .f32⟩
  | .local _ .vmem, ⟨24, _⟩ => ⟨S1x1024, .f32⟩
  | .local _ .vmem, ⟨25, _⟩ => ⟨S1x1024x1024, .bf16⟩
  | .local _ .vmem, ⟨26, _⟩ => ⟨S1x1024, .f32⟩
  | .local _ .vmem, ⟨27, _⟩ => ⟨S1x1024x5632, .bf16⟩
  | .local _ .vmem, ⟨28, _⟩ => ⟨S3x2816, .f32⟩
  | .local _ .vmem, ⟨29, _⟩ => ⟨S1x2816, .f32⟩
  | .local _ .vmem, ⟨30, _⟩ => ⟨S1x2816x1024, .bf16⟩
  | .local _ .vmem, ⟨31, _⟩ => ⟨S1024x1024, .f32⟩
  | .local _ .vmem, ⟨32, _⟩ => ⟨S1024x1024, .f32⟩
  | .local _ .vmem, ⟨33, _⟩ => ⟨S1056x1024, .bf16⟩
  | .local _ .vmem, ⟨34, _⟩ => ⟨S1056x256, .f32⟩
  | .local _ .vmem, ⟨35, _⟩ => ⟨S1024x2816, .bf16⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FfnRefIdeal.lean ====
abbrev S8x4096x256 : Shape := ⟨3, ![8, 4096, 256]⟩
abbrev S8x4096x384 : Shape := ⟨3, ![8, 4096, 384]⟩
abbrev S8x4096x1024 : Shape := ⟨3, ![8, 4096, 1024]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x1024 : Shape := ⟨2, ![1, 1024]⟩
abbrev S1024 : Shape := ⟨1, ![1024]⟩
abbrev S256 : Shape := ⟨1, ![256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S384 : Shape := ⟨1, ![384]⟩
abbrev S1x1x384 : Shape := ⟨3, ![1, 1, 384]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S8x4098x2816 : Shape := ⟨3, ![8, 4098, 2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 140
  | .vmem => 0
  | .smem => 0
  | _ => 0

abbrev hbmTy0_0 (i : Nat) : BufTy := match i % 128 with
  | 0 => ⟨S8x4096x256, .bf16⟩
  | 1 => ⟨S8x4096x384, .bf16⟩
  | 2 => ⟨S8x4096x384, .bf16⟩
  | 3 => ⟨S8x4096x1024, .f32⟩
  | 4 => ⟨S2x1024, .f32⟩
  | 5 => ⟨S2x1024x1024, .f32⟩
  | 6 => ⟨S2x1024, .f32⟩
  | 7 => ⟨S2x1024x5632, .f32⟩
  | 8 => ⟨S2x3x2816, .f32⟩
  | 9 => ⟨S2x2816, .f32⟩
  | 10 => ⟨S2x2816x1024, .f32⟩
  | 11 => ⟨S1x1024, .f32⟩
  | 12 => ⟨S1024, .f32⟩
  | 13 => ⟨S8x4096x256, .f32⟩
  | 14 => ⟨S256, .f32⟩
  | 15 => ⟨S8x4096x256, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x256, .f32⟩
  | 27 => ⟨S8x4096x256, .f32⟩
  | 28 => ⟨S1x1x256, .f32⟩
  | 29 => ⟨S8x4096x256, .f32⟩
  | 30 => ⟨S8x4096x256, .f32⟩
  | 31 => ⟨S8x4096x384, .f32⟩
  | 32 => ⟨S384, .f32⟩
  | 33 => ⟨S8x4096x384, .f32⟩
  | 34 => ⟨S_, .f32⟩
  | 35 => ⟨S8x4096, .f32⟩
  | 36 => ⟨S8x4096x1, .f32⟩
  | 37 => ⟨S_, .f32⟩
  | 38 => ⟨S8x4096x1, .f32⟩
  | 39 => ⟨S8x4096x1, .f32⟩
  | 40 => ⟨S_, .f32⟩
  | 41 => ⟨S8x4096x1, .f32⟩
  | 42 => ⟨S8x4096x1, .f32⟩
  | 43 => ⟨S8x4096x1, .f32⟩
  | 44 => ⟨S8x4096x384, .f32⟩
  | 45 => ⟨S8x4096x384, .f32⟩
  | 46 => ⟨S1x1x384, .f32⟩
  | 47 => ⟨S8x4096x384, .f32⟩
  | 48 => ⟨S8x4096x384, .f32⟩
  | 49 => ⟨S8x4096x384, .f32⟩
  | 50 => ⟨S384, .f32⟩
  | 51 => ⟨S8x4096x384, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x384, .f32⟩
  | 63 => ⟨S8x4096x384, .f32⟩
  | 64 => ⟨S1x1x384, .f32⟩
  | 65 => ⟨S8x4096x384, .f32⟩
  | 66 => ⟨S8x4096x384, .f32⟩
  | 67 => ⟨S8x4096x1024, .f32⟩
  | 68 => ⟨S1x1024x1024, .f32⟩
  | 69 => ⟨S1024x1024, .f32⟩
  | 70 => ⟨S8x4096x1024, .f32⟩
  | 71 => ⟨S8x4096x1024, .f32⟩
  | 72 => ⟨S1x1024, .f32⟩
  | 73 => ⟨S1024, .f32⟩
  | 74 => ⟨S8x4096x1024, .f32⟩
  | 75 => ⟨S_, .f32⟩
  | 76 => ⟨S8x4096, .f32⟩
  | 77 => ⟨S8x4096x1, .f32⟩
  | 78 => ⟨S_, .f32⟩
  | 79 => ⟨S8x4096x1, .f32⟩
  | 80 => ⟨S8x4096x1, .f32⟩
  | 81 => ⟨S_, .f32⟩
  | 82 => ⟨S8x4096x1, .f32⟩
  | 83 => ⟨S8x4096x1, .f32⟩
  | 84 => ⟨S8x4096x1, .f32⟩
  | 85 => ⟨S8x4096x1024, .f32⟩
  | 86 => ⟨S8x4096x1024, .f32⟩
  | 87 => ⟨S1x1x1024, .f32⟩
  | 88 => ⟨S8x4096x1024, .f32⟩
  | 89 => ⟨S8x4096x1024, .f32⟩
  | 90 => ⟨S1x1024x5632, .f32⟩
  | 91 => ⟨S1024x5632, .f32⟩
  | 92 => ⟨S8x4096x5632, .f32⟩
  | 93 => ⟨S8x4096x2816, .f32⟩
  | 94 => ⟨S8x4096x2816, .f32⟩
  | 95 => ⟨S1x3x2816, .f32⟩
  | 96 => ⟨S3x2816, .f32⟩
  | 97 => ⟨S1x2816, .f32⟩
  | 98 => ⟨S2816, .f32⟩
  | 99 => ⟨S_, .i32⟩
  | 100 => ⟨S_, .f32⟩
  | 101 => ⟨S8x4098x2816, .f32⟩
  | 102 => ⟨S8x4096x2816, .f32⟩
  | 103 => ⟨S1x2816, .f32⟩
  | 104 => ⟨S2816, .f32⟩
  | 105 => ⟨S1x1x2816, .f32⟩
  | 106 => ⟨S8x4096x2816, .f32⟩
  | 107 => ⟨S8x4096x2816, .f32⟩
  | 108 => ⟨S1x1x2816, .f32⟩
  | 109 => ⟨S8x4096x2816, .f32⟩
  | 110 => ⟨S8x4096x2816, .f32⟩
  | 111 => ⟨S8x4096x2816, .f32⟩
  | 112 => ⟨S1x2816, .f32⟩
  | 113 => ⟨S2816, .f32⟩
  | 114 => ⟨S1x1x2816, .f32⟩
  | 115 => ⟨S8x4096x2816, .f32⟩
  | 116 => ⟨S8x4096x2816, .f32⟩
  | 117 => ⟨S8x4096x2816, .f32⟩
  | 118 => ⟨S8x4096x2816, .f32⟩
  | 119 => ⟨S1x2816, .f32⟩
  | 120 => ⟨S2816, .f32⟩
  | 121 => ⟨S1x1x2816, .f32⟩
  | 122 => ⟨S8x4096x2816, .f32⟩
  | 123 => ⟨S8x4096x2816, .f32⟩
  | 124 => ⟨S8x4096x2816, .f32⟩
  | 125 => ⟨S_, .f32⟩
  | 126 => ⟨S8x4096x2816, .f32⟩
  | 127 => ⟨S8x4096x2816, .f32⟩
  | _ => ⟨S8x4096x256, .bf16⟩

abbrev hbmTy0_1 (i : Nat) : BufTy := match i % 128 with
  | 0 => ⟨S8x4096x2816, .f32⟩
  | 1 => ⟨S_, .f32⟩
  | 2 => ⟨S8x4096x2816, .f32⟩
  | 3 => ⟨S8x4096x2816, .f32⟩
  | 4 => ⟨S8x4096x2816, .f32⟩
  | 5 => ⟨S8x4096x2816, .f32⟩
  | 6 => ⟨S8x4096x2816, .f32⟩
  | 7 => ⟨S1x2816x1024, .f32⟩
  | 8 => ⟨S2816x1024, .f32⟩
  | 9 => ⟨S8x4096x1024, .f32⟩
  | 10 => ⟨S8x4096x1024, .f32⟩
  | 11 => ⟨S32768x1024, .f32⟩
  | _ => ⟨S8x4096x256, .bf16⟩

abbrev hbmTy (i : Nat) : BufTy := match i / 128 with
  | 0 => hbmTy0_0 i
  | 1 => hbmTy0_1 i
  | _ => ⟨S8x4096x256, .bf16⟩

abbrev bufTy : (tb : Table) → Fin (tcTables nBuf tb) → BufTy
  | .hbm, ⟨i, _⟩ => hbmTy i
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c : Ref sig .tc := ⟨.hbm, 99, rfl⟩
abbrev main_call0_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_11 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_12 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩

abbrev nD : Nat := 1
abbrev τ : Topo := Topo.v7x

variable {F : FTy → Type} [FloatOps F]
-- ==== Inproj.lean ====
abbrev S8x4096x1024 : Shape := ⟨3, ![8, 4096, 1024]⟩
abbrev S2x1024 : Shape := ⟨2, ![2, 1024]⟩
abbrev S2x1024x2560 : Shape := ⟨3, ![2, 1024, 2560]⟩
abbrev S2x3x64 : Shape := ⟨3, ![2, 3, 64]⟩
abbrev S4096 : Shape := ⟨1, ![4096]⟩
abbrev S8 : Shape := ⟨1, ![8]⟩
abbrev S_ : Shape := ⟨0, ![]⟩
abbrev S8x1 : Shape := ⟨2, ![8, 1]⟩
abbrev S1x4096 : Shape := ⟨2, ![1, 4096]⟩
abbrev S8x4096 : Shape := ⟨2, ![8, 4096]⟩
abbrev S4096x8 : Shape := ⟨2, ![4096, 8]⟩
abbrev S4096x48 : Shape := ⟨2, ![4096, 48]⟩
abbrev S4096x64 : Shape := ⟨2, ![4096, 64]⟩
abbrev S64 : Shape := ⟨1, ![64]⟩
abbrev S16 : Shape := ⟨1, ![16]⟩
abbrev S16x1 : Shape := ⟨2, ![16, 1]⟩
abbrev S1x64 : Shape := ⟨2, ![1, 64]⟩
abbrev S16x64 : Shape := ⟨2, ![16, 64]⟩
abbrev S64x16 : Shape := ⟨2, ![64, 16]⟩
abbrev S64x64x16 : Shape := ⟨3, ![64, 64, 16]⟩
abbrev S4096x16 : Shape := ⟨2, ![4096, 16]⟩
abbrev S1x64x1x16 : Shape := ⟨4, ![1, 64, 1, 16]⟩
abbrev S64x64x1x16 : Shape := ⟨4, ![64, 64, 1, 16]⟩
abbrev S4096x128 : Shape := ⟨2, ![4096, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x1024 : Shape := ⟨2, ![32768, 1024]⟩
abbrev S2x1024x256 : Shape := ⟨3, ![2, 1024, 256]⟩
abbrev S2x1024x384 : Shape := ⟨3, ![2, 1024, 384]⟩
abbrev S2x1024x128 : Shape := ⟨3, ![2, 1024, 128]⟩
abbrev S1x3x64 : Shape := ⟨3, ![1, 3, 64]⟩
abbrev S3x64 : Shape := ⟨2, ![3, 64]⟩
abbrev S4x64 : Shape := ⟨2, ![4, 64]⟩
abbrev S6x64 : Shape := ⟨2, ![6, 64]⟩
abbrev S384 : Shape := ⟨1, ![384]⟩
abbrev S2x64 : Shape := ⟨2, ![2, 64]⟩
abbrev S128 : Shape := ⟨1, ![128]⟩
abbrev S1792 : Shape := ⟨1, ![1792]⟩
abbrev S1x1792 : Shape := ⟨2, ![1, 1792]⟩
abbrev S1x1024 : Shape := ⟨2, ![1, 1024]⟩
abbrev S1024 : Shape := ⟨1, ![1024]⟩
abbrev S32768x256 : Shape := ⟨2, ![32768, 256]⟩
abbrev S32768x384 : Shape := ⟨2, ![32768, 384]⟩
abbrev S1024x1024 : Shape := ⟨2, ![1024, 1024]⟩
abbrev S1x1024x2560 : Shape := ⟨3, ![1, 1024, 2560]⟩
abbrev S1024x128 : Shape := ⟨2, ![1024, 128]⟩
abbrev S1024x256 : Shape := ⟨2, ![1024, 256]⟩
abbrev S1024x384 : Shape := ⟨2, ![1024, 384]⟩
abbrev S1x128 : Shape := ⟨2, ![1, 128]⟩
abbrev S256x1024 : Shape := ⟨2, ![256, 1024]⟩
abbrev S1x1024x1792 : Shape := ⟨3, ![1, 1024, 1792]⟩
abbrev S1024x1792 : Shape := ⟨2, ![1024, 1792]⟩
abbrev S256x1792 : Shape := ⟨2, ![256, 1792]⟩
abbrev S1x1024x768 : Shape := ⟨3, ![1, 1024, 768]⟩
abbrev S1024x768 : Shape := ⟨2, ![1024, 768]⟩
abbrev S256x768 : Shape := ⟨2, ![256, 768]⟩
abbrev S256x128 : Shape := ⟨2, ![256, 128]⟩

abbrev nBuf : Space → Nat
  | .hbm => 177
  | .vmem => 30
  | .smem => 0
  | _ => 0

abbrev hbmTy0_0 (i : Nat) : BufTy := match i % 128 with
  | 0 => ⟨S8x4096x1024, .f32⟩
  | 1 => ⟨S2x1024, .f32⟩
  | 2 => ⟨S2x1024x2560, .f32⟩
  | 3 => ⟨S2x3x64, .f32⟩
  | 4 => ⟨S2x3x64, .f32⟩
  | 5 => ⟨S4096, .i32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8x1, .f32⟩
  | 21 => ⟨S4096, .f32⟩
  | 22 => ⟨S1x4096, .f32⟩
  | 23 => ⟨S8x4096, .f32⟩
  | 24 => ⟨S8x4096, .f32⟩
  | 25 => ⟨S8x4096, .f32⟩
  | 26 => ⟨S8x4096, .f32⟩
  | 27 => ⟨S8x4096, .f32⟩
  | 28 => ⟨S8x4096, .f32⟩
  | 29 => ⟨S8x4096, .f32⟩
  | 30 => ⟨S4096x8, .f32⟩
  | 31 => ⟨S4096x8, .f32⟩
  | 32 => ⟨S_, .f32⟩
  | 33 => ⟨S4096x48, .f32⟩
  | 34 => ⟨S4096x64, .f32⟩
  | 35 => ⟨S4096x8, .f32⟩
  | 36 => ⟨S_, .f32⟩
  | 37 => ⟨S4096x48, .f32⟩
  | 38 => ⟨S4096x64, .f32⟩
  | 39 => ⟨S64, .i32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S16x1, .f32⟩
  | 55 => ⟨S64, .f32⟩
  | 56 => ⟨S1x64, .f32⟩
  | 57 => ⟨S16x64, .f32⟩
  | 58 => ⟨S16x64, .f32⟩
  | 59 => ⟨S16x64, .f32⟩
  | 60 => ⟨S16x64, .f32⟩
  | 61 => ⟨S16x64, .f32⟩
  | 62 => ⟨S16x64, .f32⟩
  | 63 => ⟨S16x64, .f32⟩
  | 64 => ⟨S64x16, .f32⟩
  | 65 => ⟨S64x16, .f32⟩
  | 66 => ⟨S64x64x16, .f32⟩
  | 67 => ⟨S4096x16, .f32⟩
  | 68 => ⟨S64x64x16, .f32⟩
  | 69 => ⟨S4096x16, .f32⟩
  | 70 => ⟨S1x64x1x16, .f32⟩
  | 71 => ⟨S64x64x1x16, .f32⟩
  | 72 => ⟨S4096x16, .f32⟩
  | 73 => ⟨S1x64x1x16, .f32⟩
  | 74 => ⟨S64x64x1x16, .f32⟩
  | 75 => ⟨S4096x16, .f32⟩
  | 76 => ⟨S4096x64, .f32⟩
  | 77 => ⟨S4096x16, .f32⟩
  | 78 => ⟨S4096x16, .f32⟩
  | 79 => ⟨S4096x64, .f32⟩
  | 80 => ⟨S4096x128, .f32⟩
  | 81 => ⟨S4096x128, .f32⟩
  | 82 => ⟨S4096x128, .f32⟩
  | 83 => ⟨S4096x128, .f32⟩
  | 84 => ⟨S256, .i32⟩
  | 85 => ⟨S_, .i32⟩
  | 86 => ⟨S_, .i32⟩
  | 87 => ⟨S256, .i32⟩
  | 88 => ⟨S256, .i32⟩
  | 89 => ⟨S256, .i32⟩
  | 90 => ⟨S_, .i32⟩
  | 91 => ⟨S256, .i32⟩
  | 92 => ⟨S256, .i1⟩
  | 93 => ⟨S256, .i32⟩
  | 94 => ⟨S256, .i32⟩
  | 95 => ⟨S_, .i32⟩
  | 96 => ⟨S256, .i32⟩
  | 97 => ⟨S256, .i1⟩
  | 98 => ⟨S256, .i1⟩
  | 99 => ⟨S_, .i32⟩
  | 100 => ⟨S256, .i32⟩
  | 101 => ⟨S256, .i32⟩
  | 102 => ⟨S256, .i32⟩
  | 103 => ⟨S256x1, .i32⟩
  | 104 => ⟨S1x256, .i32⟩
  | 105 => ⟨S256x256, .i32⟩
  | 106 => ⟨S256x256, .i32⟩
  | 107 => ⟨S256x256, .i1⟩
  | 108 => ⟨S256x256, .bf16⟩
  | 109 => ⟨S32768x1024, .f32⟩
  | 110 => ⟨S2x1024x2560, .bf16⟩
  | 111 => ⟨S2x1024x256, .bf16⟩
  | 112 => ⟨S2x1024x256, .bf16⟩
  | 113 => ⟨S2x1024x256, .bf16⟩
  | 114 => ⟨S2x1024x384, .bf16⟩
  | 115 => ⟨S2x1024x384, .bf16⟩
  | 116 => ⟨S2x1024x384, .bf16⟩
  | 117 => ⟨S2x1024x384, .bf16⟩
  | 118 => ⟨S2x1024x128, .bf16⟩
  | 119 => ⟨S2x1024x128, .bf16⟩
  | 120 => ⟨S2x1024x2560, .bf16⟩
  | 121 => ⟨S1x3x64, .f32⟩
  | 122 => ⟨S3x64, .f32⟩
  | 123 => ⟨S1x3x64, .f32⟩
  | 124 => ⟨S3x64, .f32⟩
  | 125 => ⟨S1x64, .f32⟩
  | 126 => ⟨S64, .f32⟩
  | 127 => ⟨S_, .f32⟩
  | _ => ⟨S8x4096x1024, .f32⟩

abbrev hbmTy0_1 (i : Nat) : BufTy := match i % 128 with
  | 0 => ⟨S64, .f32⟩
  | 1 => ⟨S64, .f32⟩
  | 2 => ⟨S1x64, .f32⟩
  | 3 => ⟨S4x64, .f32⟩
  | 4 => ⟨S256, .f32⟩
  | 5 => ⟨S1x64, .f32⟩
  | 6 => ⟨S64, .f32⟩
  | 7 => ⟨S1x64, .f32⟩
  | 8 => ⟨S4x64, .f32⟩
  | 9 => ⟨S256, .f32⟩
  | 10 => ⟨S1x64, .f32⟩
  | 11 => ⟨S64, .f32⟩
  | 12 => ⟨S_, .f32⟩
  | 13 => ⟨S64, .f32⟩
  | 14 => ⟨S64, .f32⟩
  | 15 => ⟨S1x64, .f32⟩
  | 16 => ⟨S6x64, .f32⟩
  | 17 => ⟨S384, .f32⟩
  | 18 => ⟨S1x64, .f32⟩
  | 19 => ⟨S64, .f32⟩
  | 20 => ⟨S1x64, .f32⟩
  | 21 => ⟨S6x64, .f32⟩
  | 22 => ⟨S384, .f32⟩
  | 23 => ⟨S1x64, .f32⟩
  | 24 => ⟨S64, .f32⟩
  | 25 => ⟨S_, .f32⟩
  | 26 => ⟨S64, .f32⟩
  | 27 => ⟨S64, .f32⟩
  | 28 => ⟨S1x64, .f32⟩
  | 29 => ⟨S6x64, .f32⟩
  | 30 => ⟨S384, .f32⟩
  | 31 => ⟨S1x64, .f32⟩
  | 32 => ⟨S64, .f32⟩
  | 33 => ⟨S1x64, .f32⟩
  | 34 => ⟨S2x64, .f32⟩
  | 35 => ⟨S128, .f32⟩
  | 36 => ⟨S1792, .f32⟩
  | 37 => ⟨S1x1792, .f32⟩
  | 38 => ⟨S1x1024, .f32⟩
  | 39 => ⟨S1024, .f32⟩
  | 40 => ⟨S1x1024, .f32⟩
  | 41 => ⟨S32768x256, .bf16⟩
  | 42 => ⟨S32768x256, .bf16⟩
  | 43 => ⟨S32768x256, .bf16⟩
  | 44 => ⟨S32768x384, .bf16⟩
  | 45 => ⟨S32768x384, .bf16⟩
  | 46 => ⟨S32768x384, .bf16⟩
  | 47 => ⟨S32768x384, .bf16⟩
  | 48 => ⟨S32768x384, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S256x256, .bf16⟩
  | .local _ .vmem, ⟨5, _⟩ => ⟨S1x1792, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x384, .bf16⟩
  | .local _ .vmem, ⟨21, _⟩ => ⟨S1024x384, .bf16⟩
  | .local _ .vmem, ⟨22, _⟩ => ⟨S1024x384, .bf16⟩
  | .local _ .vmem, ⟨23, _⟩ => ⟨S1024x384, .bf16⟩
  | .local _ .vmem, ⟨24, _⟩ => ⟨S1024x384, .bf16⟩
  | .local _ .vmem, ⟨25, _⟩ => ⟨S1024x384, .bf16⟩
  | .local _ .vmem, ⟨26, _⟩ => ⟨S1024x384, .bf16⟩
  | .local _ .vmem, ⟨27, _⟩ => ⟨S1024x384, .bf16⟩
  | .local _ .vmem, ⟨28, _⟩ => ⟨S1024x384, .bf16⟩
  | .local _ .vmem, ⟨29, _⟩ => ⟨S1024x384, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_c : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_c_0 : Ref sig .tc := ⟨.hbm, 99, rfl⟩
abbrev main_call0_v12 : Ref sig .tc := ⟨.hbm, 100, rfl⟩
abbrev main_call0_v13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_9 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_10 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_11 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132_0 : Ref sig .tc := ⟨.hbm, 169, rfl⟩
abbrev main_v132_1 : Ref sig .tc := ⟨.hbm, 170, rfl⟩
abbrev main_v132_2 : Ref sig .tc := ⟨.hbm, 171, rfl⟩
abbrev main_v132_3 : Ref sig .tc := ⟨.hbm, 172, rfl⟩
abbrev main_v132_4 : Ref sig .tc := ⟨.hbm, 173, rfl⟩
abbrev main_v132_5 : Ref sig .tc := ⟨.hbm, 174, rfl⟩
abbrev main_v132_6 : Ref sig .tc := ⟨.hbm, 175, rfl⟩
abbrev main_v132_7 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InprojRefIdeal.lean ====
abbrev S8x4096x1024 : Shape := ⟨3, ![8, 4096, 1024]⟩
abbrev S2x1024 : Shape := ⟨2, ![2, 1024]⟩
abbrev S2x1024x2560 : Shape := ⟨3, ![2, 1024, 2560]⟩
abbrev S2x3x64 : Shape := ⟨3, ![2, 3, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S16 : Shape := ⟨1, ![16]⟩
abbrev S1x16 : Shape := ⟨2, ![1, 16]⟩
abbrev S4096x16 : Shape := ⟨2, ![4096, 16]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x4096x2560 : Shape := ⟨3, ![8, 4096, 2560]⟩
abbrev S8x4096x256 : Shape := ⟨3, ![8, 4096, 256]⟩
abbrev S8x4096x384 : Shape := ⟨3, ![8, 4096, 384]⟩
abbrev S8x4096x128 : Shape := ⟨3, ![8, 4096, 128]⟩
abbrev S1x3x64 : Shape := ⟨3, ![1, 3, 64]⟩
abbrev S3x64 : Shape := ⟨2, ![3, 64]⟩
abbrev S8x4096x4x64 : Shape := ⟨4, ![8, 4096, 4, 64]⟩
abbrev S1x64 : Shape := ⟨2, ![1, 64]⟩
abbrev S64 : Shape := ⟨1, ![64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x6x64 : Shape := ⟨4, ![8, 4096, 6, 64]⟩
abbrev S8x4096x6 : Shape := ⟨3, ![8, 4096, 6]⟩
abbrev S8x4096x6x1 : Shape := ⟨4, ![8, 4096, 6, 1]⟩
abbrev S8x4096x6x16 : Shape := ⟨4, ![8, 4096, 6, 16]⟩
abbrev S8x4096x6x8 : Shape := ⟨4, ![8, 4096, 6, 8]⟩
abbrev S1x4096x1x8 : Shape := ⟨4, ![1, 4096, 1, 8]⟩
abbrev S8x4096x6x48 : Shape := ⟨4, ![8, 4096, 6, 48]⟩
abbrev S8x4096x6x32 : Shape := ⟨4, ![8, 4096, 6, 32]⟩
abbrev S1x4096x1x16 : Shape := ⟨4, ![1, 4096, 1, 16]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x2x16 : Shape := ⟨4, ![8, 4096, 2, 16]⟩
abbrev S8x4096x64 : Shape := ⟨3, ![8, 4096, 64]⟩
abbrev S8x4096x1x64 : Shape := ⟨4, ![8, 4096, 1, 64]⟩
abbrev S32768x256 : Shape := ⟨2, ![32768, 256]⟩
abbrev S32768x384 : Shape := ⟨2, ![32768, 384]⟩

abbrev nBuf : Space → Nat
  | .hbm => 396
  | .vmem => 0
  | .smem => 0
  | _ => 0

abbrev hbmTy0_0 (i : Nat) : BufTy := match i % 128 with
  | 0 => ⟨S8x4096x1024, .f32⟩
  | 1 => ⟨S2x1024, .f32⟩
  | 2 => ⟨S2x1024x2560, .f32⟩
  | 3 => ⟨S2x3x64, .f32⟩
  | 4 => ⟨S2x3x64, .f32⟩
  | 5 => ⟨S4096, .i32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096, .f32⟩
  | 21 => ⟨S4096x1, .f32⟩
  | 22 => ⟨S1x8, .f32⟩
  | 23 => ⟨S4096x8, .f32⟩
  | 24 => ⟨S4096x8, .f32⟩
  | 25 => ⟨S4096x8, .f32⟩
  | 26 => ⟨S4096x8, .f32⟩
  | 27 => ⟨S4096x8, .f32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S4096, .f32⟩
  | 61 => ⟨S4096x1, .f32⟩
  | 62 => ⟨S1x16, .f32⟩
  | 63 => ⟨S4096x16, .f32⟩
  | 64 => ⟨S4096x16, .f32⟩
  | 65 => ⟨S4096x16, .f32⟩
  | 66 => ⟨S4096x16, .f32⟩
  | 67 => ⟨S4096x16, .f32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i1⟩
  | 82 => ⟨S_, .i32⟩
  | 83 => ⟨S_, .i1⟩
  | 84 => ⟨S4096, .i1⟩
  | 85 => ⟨S4096, .i1⟩
  | 86 => ⟨S4096, .i1⟩
  | 87 => ⟨S4096, .i32⟩
  | 88 => ⟨S4096, .i32⟩
  | 89 => ⟨S4096, .i32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S4096, .f32⟩
  | 105 => ⟨S4096x1, .f32⟩
  | 106 => ⟨S1x16, .f32⟩
  | 107 => ⟨S4096x16, .f32⟩
  | 108 => ⟨S4096x16, .f32⟩
  | 109 => ⟨S4096x16, .f32⟩
  | 110 => ⟨S4096x16, .f32⟩
  | 111 => ⟨S4096x16, .f32⟩
  | 112 => ⟨S1x1024, .f32⟩
  | 113 => ⟨S1024, .f32⟩
  | 114 => ⟨S8x4096x1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S_, .f32⟩
  | 122 => ⟨S8x4096x1, .f32⟩
  | 123 => ⟨S8x4096x1, .f32⟩
  | 124 => ⟨S8x4096x1, .f32⟩
  | 125 => ⟨S8x4096x1024, .f32⟩
  | 126 => ⟨S8x4096x1024, .f32⟩
  | 127 => ⟨S1x1x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1024x2560, .f32⟩
  | 3 => ⟨S1024x2560, .f32⟩
  | 4 => ⟨S8x4096x2560, .f32⟩
  | 5 => ⟨S8x4096x256, .f32⟩
  | 6 => ⟨S8x4096x256, .f32⟩
  | 7 => ⟨S8x4096x256, .f32⟩
  | 8 => ⟨S8x4096x384, .f32⟩
  | 9 => ⟨S8x4096x384, .f32⟩
  | 10 => ⟨S8x4096x384, .f32⟩
  | 11 => ⟨S8x4096x384, .f32⟩
  | 12 => ⟨S8x4096x128, .f32⟩
  | 13 => ⟨S8x4096x128, .f32⟩
  | 14 => ⟨S1x3x64, .f32⟩
  | 15 => ⟨S3x64, .f32⟩
  | 16 => ⟨S1x3x64, .f32⟩
  | 17 => ⟨S3x64, .f32⟩
  | 18 => ⟨S8x4096x4x64, .f32⟩
  | 19 => ⟨S1x64, .f32⟩
  | 20 => ⟨S64, .f32⟩
  | 21 => ⟨S8x4096x4x64, .f32⟩
  | 22 => ⟨S_, .f32⟩
  | 23 => ⟨S8x4096x4, .f32⟩
  | 24 => ⟨S8x4096x4x1, .f32⟩
  | 25 => ⟨S_, .f32⟩
  | 26 => ⟨S8x4096x4x1, .f32⟩
  | 27 => ⟨S8x4096x4x1, .f32⟩
  | 28 => ⟨S_, .f32⟩
  | 29 => ⟨S8x4096x4x1, .f32⟩
  | 30 => ⟨S8x4096x4x1, .f32⟩
  | 31 => ⟨S8x4096x4x1, .f32⟩
  | 32 => ⟨S8x4096x4x64, .f32⟩
  | 33 => ⟨S8x4096x4x64, .f32⟩
  | 34 => ⟨S1x1x1x64, .f32⟩
  | 35 => ⟨S8x4096x4x64, .f32⟩
  | 36 => ⟨S8x4096x4x64, .f32⟩
  | 37 => ⟨S8x4096x4x64, .f32⟩
  | 38 => ⟨S1x64, .f32⟩
  | 39 => ⟨S64, .f32⟩
  | 40 => ⟨S8x4096x4x64, .f32⟩
  | 41 => ⟨S_, .f32⟩
  | 42 => ⟨S8x4096x4, .f32⟩
  | 43 => ⟨S8x4096x4x1, .f32⟩
  | 44 => ⟨S_, .f32⟩
  | 45 => ⟨S8x4096x4x1, .f32⟩
  | 46 => ⟨S8x4096x4x1, .f32⟩
  | 47 => ⟨S_, .f32⟩
  | 48 => ⟨S8x4096x4x1, .f32⟩
  | 49 => ⟨S8x4096x4x1, .f32⟩
  | 50 => ⟨S8x4096x4x1, .f32⟩
  | 51 => ⟨S8x4096x4x64, .f32⟩
  | 52 => ⟨S8x4096x4x64, .f32⟩
  | 53 => ⟨S1x1x1x64, .f32⟩
  | 54 => ⟨S8x4096x4x64, .f32⟩
  | 55 => ⟨S8x4096x4x64, .f32⟩
  | 56 => ⟨S8x4096x6x64, .f32⟩
  | 57 => ⟨S1x64, .f32⟩
  | 58 => ⟨S64, .f32⟩
  | 59 => ⟨S8x4096x6x64, .f32⟩
  | 60 => ⟨S_, .f32⟩
  | 61 => ⟨S8x4096x6, .f32⟩
  | 62 => ⟨S8x4096x6x1, .f32⟩
  | 63 => ⟨S_, .f32⟩
  | 64 => ⟨S8x4096x6x1, .f32⟩
  | 65 => ⟨S8x4096x6x1, .f32⟩
  | 66 => ⟨S_, .f32⟩
  | 67 => ⟨S8x4096x6x1, .f32⟩
  | 68 => ⟨S8x4096x6x1, .f32⟩
  | 69 => ⟨S8x4096x6x1, .f32⟩
  | 70 => ⟨S8x4096x6x64, .f32⟩
  | 71 => ⟨S8x4096x6x64, .f32⟩
  | 72 => ⟨S1x1x1x64, .f32⟩
  | 73 => ⟨S8x4096x6x64, .f32⟩
  | 74 => ⟨S8x4096x6x64, .f32⟩
  | 75 => ⟨S8x4096x6x16, .f32⟩
  | 76 => ⟨S8x4096x6x8, .f32⟩
  | 77 => ⟨S8x4096x6x8, .f32⟩
  | 78 => ⟨S1x4096x1x8, .f32⟩
  | 79 => ⟨S1x4096x1x8, .f32⟩
  | 80 => ⟨S8x4096x6x8, .f32⟩
  | 81 => ⟨S8x4096x6x8, .f32⟩
  | 82 => ⟨S8x4096x6x8, .f32⟩
  | 83 => ⟨S8x4096x6x8, .f32⟩
  | 84 => ⟨S8x4096x6x8, .f32⟩
  | 85 => ⟨S8x4096x6x8, .f32⟩
  | 86 => ⟨S8x4096x6x8, .f32⟩
  | 87 => ⟨S8x4096x6x8, .f32⟩
  | 88 => ⟨S8x4096x6x8, .f32⟩
  | 89 => ⟨S8x4096x6x8, .f32⟩
  | 90 => ⟨S8x4096x6x16, .f32⟩
  | 91 => ⟨S8x4096x6x48, .f32⟩
  | 92 => ⟨S8x4096x6x64, .f32⟩
  | 93 => ⟨S8x4096x6x64, .f32⟩
  | 94 => ⟨S1x64, .f32⟩
  | 95 => ⟨S64, .f32⟩
  | 96 => ⟨S8x4096x6x64, .f32⟩
  | 97 => ⟨S_, .f32⟩
  | 98 => ⟨S8x4096x6, .f32⟩
  | 99 => ⟨S8x4096x6x1, .f32⟩
  | 100 => ⟨S_, .f32⟩
  | 101 => ⟨S8x4096x6x1, .f32⟩
  | 102 => ⟨S8x4096x6x1, .f32⟩
  | 103 => ⟨S_, .f32⟩
  | 104 => ⟨S8x4096x6x1, .f32⟩
  | 105 => ⟨S8x4096x6x1, .f32⟩
  | 106 => ⟨S8x4096x6x1, .f32⟩
  | 107 => ⟨S8x4096x6x64, .f32⟩
  | 108 => ⟨S8x4096x6x64, .f32⟩
  | 109 => ⟨S1x1x1x64, .f32⟩
  | 110 => ⟨S8x4096x6x64, .f32⟩
  | 111 => ⟨S8x4096x6x64, .f32⟩
  | 112 => ⟨S8x4096x6x16, .f32⟩
  | 113 => ⟨S8x4096x6x8, .f32⟩
  | 114 => ⟨S8x4096x6x8, .f32⟩
  | 115 => ⟨S1x4096x1x8, .f32⟩
  | 116 => ⟨S1x4096x1x8, .f32⟩
  | 117 => ⟨S8x4096x6x8, .f32⟩
  | 118 => ⟨S8x4096x6x8, .f32⟩
  | 119 => ⟨S8x4096x6x8, .f32⟩
  | 120 => ⟨S8x4096x6x8, .f32⟩
  | 121 => ⟨S8x4096x6x8, .f32⟩
  | 122 => ⟨S8x4096x6x8, .f32⟩
  | 123 => ⟨S8x4096x6x8, .f32⟩
  | 124 => ⟨S8x4096x6x8, .f32⟩
  | 125 => ⟨S8x4096x6x8, .f32⟩
  | 126 => ⟨S8x4096x6x8, .f32⟩
  | 127 => ⟨S8x4096x6x16, .f32⟩
  | _ => ⟨S8x4096x1024, .f32⟩

abbrev hbmTy0_2 (i : Nat) : BufTy := match i % 128 with
  | 0 => ⟨S8x4096x6x48, .f32⟩
  | 1 => ⟨S8x4096x6x64, .f32⟩
  | 2 => ⟨S8x4096x6x64, .f32⟩
  | 3 => ⟨S1x64, .f32⟩
  | 4 => ⟨S64, .f32⟩
  | 5 => ⟨S8x4096x6x64, .f32⟩
  | 6 => ⟨S_, .f32⟩
  | 7 => ⟨S8x4096x6, .f32⟩
  | 8 => ⟨S8x4096x6x1, .f32⟩
  | 9 => ⟨S_, .f32⟩
  | 10 => ⟨S8x4096x6x1, .f32⟩
  | 11 => ⟨S8x4096x6x1, .f32⟩
  | 12 => ⟨S_, .f32⟩
  | 13 => ⟨S8x4096x6x1, .f32⟩
  | 14 => ⟨S8x4096x6x1, .f32⟩
  | 15 => ⟨S8x4096x6x1, .f32⟩
  | 16 => ⟨S8x4096x6x64, .f32⟩
  | 17 => ⟨S8x4096x6x64, .f32⟩
  | 18 => ⟨S1x1x1x64, .f32⟩
  | 19 => ⟨S8x4096x6x64, .f32⟩
  | 20 => ⟨S8x4096x6x64, .f32⟩
  | 21 => ⟨S8x4096x6x32, .f32⟩
  | 22 => ⟨S8x4096x6x16, .f32⟩
  | 23 => ⟨S8x4096x6x16, .f32⟩
  | 24 => ⟨S1x4096x1x16, .f32⟩
  | 25 => ⟨S1x4096x1x16, .f32⟩
  | 26 => ⟨S8x4096x6x16, .f32⟩
  | 27 => ⟨S8x4096x6x16, .f32⟩
  | 28 => ⟨S8x4096x6x16, .f32⟩
  | 29 => ⟨S8x4096x6x16, .f32⟩
  | 30 => ⟨S8x4096x6x16, .f32⟩
  | 31 => ⟨S8x4096x6x16, .f32⟩
  | 32 => ⟨S8x4096x6x16, .f32⟩
  | 33 => ⟨S8x4096x6x16, .f32⟩
  | 34 => ⟨S8x4096x6x16, .f32⟩
  | 35 => ⟨S8x4096x6x16, .f32⟩
  | 36 => ⟨S8x4096x6x32, .f32⟩
  | 37 => ⟨S8x4096x6x32, .f32⟩
  | 38 => ⟨S8x4096x6x16, .f32⟩
  | 39 => ⟨S8x4096x6x16, .f32⟩
  | 40 => ⟨S1x4096x1x16, .f32⟩
  | 41 => ⟨S1x4096x1x16, .f32⟩
  | 42 => ⟨S8x4096x6x16, .f32⟩
  | 43 => ⟨S8x4096x6x16, .f32⟩
  | 44 => ⟨S8x4096x6x16, .f32⟩
  | 45 => ⟨S8x4096x6x16, .f32⟩
  | 46 => ⟨S8x4096x6x16, .f32⟩
  | 47 => ⟨S8x4096x6x16, .f32⟩
  | 48 => ⟨S8x4096x6x16, .f32⟩
  | 49 => ⟨S8x4096x6x16, .f32⟩
  | 50 => ⟨S8x4096x6x16, .f32⟩
  | 51 => ⟨S8x4096x6x16, .f32⟩
  | 52 => ⟨S8x4096x6x32, .f32⟩
  | 53 => ⟨S8x4096x6x64, .f32⟩
  | 54 => ⟨S8x4096x2x64, .f32⟩
  | 55 => ⟨S1x64, .f32⟩
  | 56 => ⟨S64, .f32⟩
  | 57 => ⟨S8x4096x2x64, .f32⟩
  | 58 => ⟨S_, .f32⟩
  | 59 => ⟨S8x4096x2, .f32⟩
  | 60 => ⟨S8x4096x2x1, .f32⟩
  | 61 => ⟨S_, .f32⟩
  | 62 => ⟨S8x4096x2x1, .f32⟩
  | 63 => ⟨S8x4096x2x1, .f32⟩
  | 64 => ⟨S_, .f32⟩
  | 65 => ⟨S8x4096x2x1, .f32⟩
  | 66 => ⟨S8x4096x2x1, .f32⟩
  | 67 => ⟨S8x4096x2x1, .f32⟩
  | 68 => ⟨S8x4096x2x64, .f32⟩
  | 69 => ⟨S8x4096x2x64, .f32⟩
  | 70 => ⟨S1x1x1x64, .f32⟩
  | 71 => ⟨S8x4096x2x64, .f32⟩
  | 72 => ⟨S8x4096x2x64, .f32⟩
  | 73 => ⟨S8x4096x2x32, .f32⟩
  | 74 => ⟨S8x4096x2x16, .f32⟩
  | 75 => ⟨S8x4096x2x16, .f32⟩
  | 76 => ⟨S1x4096x1x16, .f32⟩
  | 77 => ⟨S1x4096x1x16, .f32⟩
  | 78 => ⟨S8x4096x2x16, .f32⟩
  | 79 => ⟨S8x4096x2x16, .f32⟩
  | 80 => ⟨S8x4096x2x16, .f32⟩
  | 81 => ⟨S8x4096x2x16, .f32⟩
  | 82 => ⟨S8x4096x2x16, .f32⟩
  | 83 => ⟨S8x4096x2x16, .f32⟩
  | 84 => ⟨S8x4096x2x16, .f32⟩
  | 85 => ⟨S8x4096x2x16, .f32⟩
  | 86 => ⟨S8x4096x2x16, .f32⟩
  | 87 => ⟨S8x4096x2x16, .f32⟩
  | 88 => ⟨S8x4096x2x32, .f32⟩
  | 89 => ⟨S8x4096x2x32, .f32⟩
  | 90 => ⟨S8x4096x2x16, .f32⟩
  | 91 => ⟨S8x4096x2x16, .f32⟩
  | 92 => ⟨S1x4096x1x16, .f32⟩
  | 93 => ⟨S1x4096x1x16, .f32⟩
  | 94 => ⟨S8x4096x2x16, .f32⟩
  | 95 => ⟨S8x4096x2x16, .f32⟩
  | 96 => ⟨S8x4096x2x16, .f32⟩
  | 97 => ⟨S8x4096x2x16, .f32⟩
  | 98 => ⟨S8x4096x2x16, .f32⟩
  | 99 => ⟨S8x4096x2x16, .f32⟩
  | 100 => ⟨S8x4096x2x16, .f32⟩
  | 101 => ⟨S8x4096x2x16, .f32⟩
  | 102 => ⟨S8x4096x2x16, .f32⟩
  | 103 => ⟨S8x4096x2x16, .f32⟩
  | 104 => ⟨S8x4096x2x32, .f32⟩
  | 105 => ⟨S8x4096x2x64, .f32⟩
  | 106 => ⟨S_, .f32⟩
  | 107 => ⟨S8x4096x64, .f32⟩
  | 108 => ⟨S8x4096x1x64, .f32⟩
  | 109 => ⟨S8x4096x64, .f32⟩
  | 110 => ⟨S8x4096x1x64, .f32⟩
  | 111 => ⟨S8x4096x64, .f32⟩
  | 112 => ⟨S8x4096x64, .f32⟩
  | 113 => ⟨S8x4096x64, .f32⟩
  | 114 => ⟨S8x4096x384, .f32⟩
  | 115 => ⟨S_, .f32⟩
  | 116 => ⟨S8x4096x4x64, .f32⟩
  | 117 => ⟨S8x4096x4x64, .f32⟩
  | 118 => ⟨S32768x256, .f32⟩
  | 119 => ⟨S32768x256, .bf16⟩
  | 120 => ⟨S32768x256, .f32⟩
  | 121 => ⟨S32768x256, .bf16⟩
  | 122 => ⟨S32768x256, .f32⟩
  | 123 => ⟨S32768x256, .bf16⟩
  | 124 => ⟨S_, .f32⟩
  | 125 => ⟨S8x4096x6x64, .f32⟩
  | 126 => ⟨S8x4096x6x64, .f32⟩
  | 127 => ⟨S32768x384, .f32⟩
  | _ => ⟨S8x4096x1024, .f32⟩

abbrev hbmTy0_3 (i : Nat) : BufTy := match i % 128 with
  | 0 => ⟨S32768x384, .bf16⟩
  | 1 => ⟨S32768x384, .f32⟩
  | 2 => ⟨S32768x384, .bf16⟩
  | 3 => ⟨S32768x384, .f32⟩
  | 4 => ⟨S32768x384, .bf16⟩
  | 5 => ⟨S_, .f32⟩
  | 6 => ⟨S8x4096x6x64, .f32⟩
  | 7 => ⟨S8x4096x6x64, .f32⟩
  | 8 => ⟨S32768x384, .f32⟩
  | 9 => ⟨S32768x384, .bf16⟩
  | 10 => ⟨S32768x384, .f32⟩
  | 11 => ⟨S32768x384, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v38 : Ref sig .tc := ⟨.hbm, 89, rfl⟩
abbrev main_v39 : Ref sig .tc := ⟨.hbm, 90, rfl⟩
abbrev main_cst_8 : Ref sig .tc := ⟨.hbm, 91, rfl⟩
abbrev main_v40 : Ref sig .tc := ⟨.hbm, 92, rfl⟩
abbrev main_v41 : Ref sig .tc := ⟨.hbm, 93, rfl⟩
abbrev main_cst_9 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_10 : Ref sig .tc := ⟨.hbm, 98, rfl⟩
abbrev main_v45 : Ref sig .tc := ⟨.hbm, 99, rfl⟩
abbrev main_v46 : Ref sig .tc := ⟨.hbm, 100, rfl⟩
abbrev main_cst_11 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_12 : Ref sig .tc := ⟨.hbm, 115, rfl⟩
abbrev main_v60 : Ref sig .tc := ⟨.hbm, 116, rfl⟩
abbrev main_v61 : Ref sig .tc := ⟨.hbm, 117, rfl⟩
abbrev main_cst_13 : Ref sig .tc := ⟨.hbm, 118, rfl⟩
abbrev main_v62 : Ref sig .tc := ⟨.hbm, 119, rfl⟩
abbrev main_v63 : Ref sig .tc := ⟨.hbm, 120, rfl⟩
abbrev main_cst_14 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_15 : Ref sig .tc := ⟨.hbm, 150, rfl⟩
abbrev main_v92 : Ref sig .tc := ⟨.hbm, 151, rfl⟩
abbrev main_v93 : Ref sig .tc := ⟨.hbm, 152, rfl⟩
abbrev main_cst_16 : Ref sig .tc := ⟨.hbm, 153, rfl⟩
abbrev main_v94 : Ref sig .tc := ⟨.hbm, 154, rfl⟩
abbrev main_v95 : Ref sig .tc := ⟨.hbm, 155, rfl⟩
abbrev main_cst_17 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_18 : Ref sig .tc := ⟨.hbm, 169, rfl⟩
abbrev main_v108 : Ref sig .tc := ⟨.hbm, 170, rfl⟩
abbrev main_v109 : Ref sig .tc := ⟨.hbm, 171, rfl⟩
abbrev main_cst_19 : Ref sig .tc := ⟨.hbm, 172, rfl⟩
abbrev main_v110 : Ref sig .tc := ⟨.hbm, 173, rfl⟩
abbrev main_v111 : Ref sig .tc := ⟨.hbm, 174, rfl⟩
abbrev main_cst_20 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_21 : Ref sig .tc := ⟨.hbm, 188, rfl⟩
abbrev main_v124 : Ref sig .tc := ⟨.hbm, 189, rfl⟩
abbrev main_v125 : Ref sig .tc := ⟨.hbm, 190, rfl⟩
abbrev main_cst_22 : Ref sig .tc := ⟨.hbm, 191, rfl⟩
abbrev main_v126 : Ref sig .tc := ⟨.hbm, 192, rfl⟩
abbrev main_v127 : Ref sig .tc := ⟨.hbm, 193, rfl⟩
abbrev main_cst_23 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_24 : Ref sig .tc := ⟨.hbm, 225, rfl⟩
abbrev main_v158 : Ref sig .tc := ⟨.hbm, 226, rfl⟩
abbrev main_v159 : Ref sig .tc := ⟨.hbm, 227, rfl⟩
abbrev main_cst_25 : Ref sig .tc := ⟨.hbm, 228, rfl⟩
abbrev main_v160 : Ref sig .tc := ⟨.hbm, 229, rfl⟩
abbrev main_v161 : Ref sig .tc := ⟨.hbm, 230, rfl⟩
abbrev main_cst_26 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_cst_27 : Ref sig .tc := ⟨.hbm, 262, rfl⟩
abbrev main_v192 : Ref sig .tc := ⟨.hbm, 263, rfl⟩
abbrev main_v193 : Ref sig .tc := ⟨.hbm, 264, rfl⟩
abbrev main_cst_28 : Ref sig .tc := ⟨.hbm, 265, rfl⟩
abbrev main_v194 : Ref sig .tc := ⟨.hbm, 266, rfl⟩
abbrev main_v195 : Ref sig .tc := ⟨.hbm, 267, rfl⟩
abbrev main_cst_29 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_cst_30 : Ref sig .tc := ⟨.hbm, 314, rfl⟩
abbrev main_v241 : Ref sig .tc := ⟨.hbm, 315, rfl⟩
abbrev main_v242 : Ref sig .tc := ⟨.hbm, 316, rfl⟩
abbrev main_cst_31 : Ref sig .tc := ⟨.hbm, 317, rfl⟩
abbrev main_v243 : Ref sig .tc := ⟨.hbm, 318, rfl⟩
abbrev main_v244 : Ref sig .tc := ⟨.hbm, 319, rfl⟩
abbrev main_cst_32 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_cst_33 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_cst_34 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_cst_35 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_cst_36 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩

abbrev nD : Nat := 1
abbrev τ : Topo := Topo.v7x

variable {F : FTy → Type} [FloatOps F]
-- ==== Proof.Softmax.lean ====
/- Softmax over the extended reals: the running form (a maximum, a weighted sum and a sum of weights carried over
   two blocks of keys) equals the plain form. The scores are real; the values may be any extended reals. -/
module

public import Idealize.ShloMosaic.PureOps.Ideal
public import Mathlib.Data.EReal.Inv

@[expose] public section

noncomputable section

namespace Cert.Softmax

open Idealize.ShloMosaic

/-- A nonnegative real factor goes into a finite sum of extended reals. -/
theorem coe_mul_sum {ι : Type} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (by exact_mod_cast hr) (EReal.coe_ne_top r), ih]

/-- The same on the right. -/
theorem sum_mul_coe {ι : Type} (S : Finset ι) (r : ℝ) (hr : 0 ≤ r) (f : ι → EReal) :
    (∑ i ∈ S, f i) * (r : EReal) = ∑ i ∈ S, f i * (r : EReal) := by
  rw [mul_comm, coe_mul_sum S r hr]
  exact Finset.sum_congr rfl fun i _ => mul_comm _ _

/-- A finite sum of reals is the same sum among the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of two reals is the same maximum among the extended reals. -/
theorem max_coe (a b : ℝ) : max (a : EReal) (b : EReal) = ((max a b : ℝ) : EReal) :=
  (EReal.coe_strictMono.monotone.map_max).symm

/-- A maximum of reals, started at minus infinity, is minus infinity or real. -/
theorem fold_max_bot_or_real {ι : Type} (S : Finset ι) (f : ι → EReal) (hf : ∀ i, ∃ r : ℝ, f i = r) :
    S.fold max ⊥ f = ⊥ ∨ ∃ r : ℝ, S.fold max ⊥ f = r := by
  classical
  induction S using Finset.induction_on with
  | empty => left; simp
  | insert a S ha ih =>
    right
    obtain ⟨x, hx⟩ := hf a
    rw [Finset.fold_insert ha, hx]
    rcases ih with h | ⟨r, h⟩
    · exact ⟨x, by rw [h]; exact max_eq_left bot_le⟩
    · exact ⟨max x r, by rw [h, max_coe]⟩

/-- A real against a maximum of reals is real. -/
theorem max_fold_real {ι : Type} (S : Finset ι) (a : ℝ) (f : ι → EReal) (hf : ∀ i, ∃ r : ℝ, f i = r) :
    ∃ r : ℝ, max (a : EReal) (S.fold max ⊥ f) = r := by
  rcases fold_max_bot_or_real S f hf with h | ⟨r, h⟩
  · exact ⟨a, by rw [h]; exact max_eq_left bot_le⟩
  · exact ⟨max a r, by rw [h, max_coe]⟩

/-- A maximum over a family of reals that has a member is real. -/
theorem fold_max_real {ι : Type} (S : Finset ι) (i₀ : ι) (h₀ : i₀ ∈ S) (f : ι → EReal) (hf : ∀ i, ∃ r : ℝ, f i = r) :
    ∃ r : ℝ, S.fold max ⊥ f = r := by
  classical
  obtain ⟨x, hx⟩ := hf i₀
  rw [← Finset.insert_erase h₀, Finset.fold_insert (Finset.notMem_erase i₀ S), hx]
  exact max_fold_real _ x f hf

/-- The base-two exponential of a real is real and positive. -/
theorem exp2_coe_sub (a b : ℝ) : Ideal.exp2 ((a : EReal) - (b : EReal)) = (((2 : ℝ) ^ (a - b) : ℝ) : EReal) := by
  rw [← EReal.coe_sub]; rfl

/-- Two steps of the running sum, the accumulator started at zero: together they are the sum over all the keys with
    the weights taken against the last maximum. -/
theorem two_steps {n : ℕ} (s : Fin (n + n) → ℝ) (v : Fin (n + n) → EReal) (m₀ m₁ m₂ : ℝ) :
    Ideal.exp2 ((m₁ : EReal) - m₂) * (Ideal.exp2 ((m₀ : EReal) - m₁) * 0
        + ∑ k : Fin n, Ideal.exp2 ((s (Fin.castAdd n k) : EReal) - m₁) * v (Fin.castAdd n k))
      + ∑ k : Fin n, Ideal.exp2 ((s (Fin.natAdd n k) : EReal) - m₂) * v (Fin.natAdd n k)
      = ∑ k : Fin (n + n), (((2 : ℝ) ^ (s k - m₂) : ℝ) : EReal) * v k := by
  rw [mul_zero, zero_add, Fin.sum_univ_add]
  simp only [exp2_coe_sub]
  rw [coe_mul_sum _ _ (by positivity)]
  congr 1
  refine Finset.sum_congr rfl fun k _ => ?_
  rw [← mul_assoc, ← EReal.coe_mul, ← Real.rpow_add (by norm_num)]
  congr 3
  ring

/-- A weighted sum over its sum of weights does not change when every weight is scaled by one positive factor; on the
    left the quotient is taken once, on the right inside the sum. -/
theorem quotient {ι : Type} [Fintype ι] [Nonempty ι] (w e : ι → ℝ) (c : ℝ) (hc : 0 < c) (he : ∀ k, 0 < e k)
    (hw : ∀ k, w k = c * e k) (v : ι → EReal) :
    (∑ k, (w k : EReal) * v k) * Ideal.div 1 (∑ k, (w k : EReal) * 1)
      = ∑ k, v k * Ideal.div (e k) (0 + ∑ j, (e j : EReal)) := by
  have hE : 0 < ∑ j, e j := Finset.sum_pos (fun j _ => he j) Finset.univ_nonempty
  have hW : ∑ k, (w k : EReal) * 1 = ((c * ∑ j, e j : ℝ) : EReal) := by
    rw [Finset.mul_sum, coe_sum]
    exact Finset.sum_congr rfl fun k _ => by rw [mul_one, hw]
  rw [hW, zero_add, ← coe_sum, Ideal.div_coe (mul_pos hc hE).ne', one_mul, sum_mul_coe _ _ (by positivity)]
  refine Finset.sum_congr rfl fun k _ => ?_
  rw [Ideal.div_coe hE.ne', hw, mul_comm _ (v k), mul_assoc, ← EReal.coe_mul, ← EReal.coe_mul]
  congr 2
  field_simp

/-- The running softmax with base two and scores scaled by `1/ln 2`, over two blocks, against the plain softmax: `x`
    are the plain scores, `M` whatever the plain form subtracts. -/
theorem running_eq_plain {n : ℕ} [NeZero n] (x : Fin (n + n) → ℝ) (m₂ M : ℝ) (v : Fin (n + n) → EReal) :
    (∑ k, (((2 : ℝ) ^ (x k * (Real.log 2)⁻¹ - m₂) : ℝ) : EReal) * v k)
        * Ideal.div 1 (∑ k, (((2 : ℝ) ^ (x k * (Real.log 2)⁻¹ - m₂) : ℝ) : EReal) * 1)
      = ∑ k, v k * Ideal.div (Ideal.exp ((x k : EReal) - M)) (0 + ∑ j, Ideal.exp ((x j : EReal) - M)) := by
  haveI : Nonempty (Fin (n + n)) := ⟨⟨0, by have := NeZero.pos n; omega⟩⟩
  have hexp : ∀ k, Ideal.exp ((x k : EReal) - M) = ((Real.exp (x k - M) : ℝ) : EReal) := fun k => by
    rw [← EReal.coe_sub]; rfl
  simp only [hexp]
  refine quotient _ _ (Real.exp (M - m₂ * Real.log 2)) (Real.exp_pos _) (fun k => Real.exp_pos _) (fun k => ?_) v
  have h2 : Real.log 2 ≠ 0 := (Real.log_pos (by norm_num)).ne'
  rw [Real.rpow_def_of_pos (by norm_num), ← Real.exp_add]
  congr 1
  field_simp
  ring

end Cert.Softmax

end
-- ==== Proof.Attend.lean ====
/- The arithmetic of the attention kernel's body on one stack of queries: two steps of the running softmax over two
   blocks of keys, read at one row and one lane. -/
module

public import proofs.«01_k».proof.Proof.Gen.GqaIdeal.Skeleton
public import proofs.«01_k».proof.Proof.Softmax
public import Idealize.ShloMosaic.Lib.Pipeline.ValueKit
public import Idealize.ShloMosaic.Lib.Pointwise
public import Idealize.ShloMosaic.Lib.IdealHost

@[expose] public section

set_option maxRecDepth 16384

noncomputable section

namespace Cert.GqaIdeal.Attend

open Cert.GqaIdeal Cert.GqaIdeal.Gen Idealize.ShloMosaic

/-- The scores of a stack of queries against a block of keys. -/
def scores (Q : FVec Ideal S768x128 .bf16) (K : FVec Ideal S2048x128 .bf16) : FVec Ideal S768x2048 .f32 :=
  matmul dot_S768x128_S2048x128_S768x2048_1_1_0_0_n_n none Q K (constant S768x2048 .f32 0x00000000#32)

/-- The running maximum after a block. -/
def rowMax (M : FVec Ideal S768x1 .f32) (s : FVec Ideal S768x2048 .f32) : FVec Ideal S768x1 .f32 :=
  maximumf M (shapeCast S768x1 (multiReduction .maximumf [1] S768 s 0xFF800000#32 reduces_S768x2048_S768 (.inl rfl) rfl)
    shapeCasts_S768_S768x1)

/-- The running weighted sum after a block. -/
def step (M : FVec Ideal S768x1 .f32) (A : FVec Ideal S768x128 .f32) (s : FVec Ideal S768x2048 .f32)
    (V : FVec Ideal S2048x128 .bf16) : FVec Ideal S768x128 .f32 :=
  addf (mulf (broadcastTo S768x128 (exp2 (subf M (rowMax M s))) broadcasts_S768x1_S768x128) A)
    (matmul dot_S768x2048_S2048x128_S768x128_1_0_0_1_n_n none
      (truncf .bf16 (exp2 (subf s (broadcastTo S768x2048 (rowMax M s) broadcasts_S768x1_S768x2048))) bitsLt_bf16_f32) V
      (constant S768x128 .f32 0x00000000#32))

/-- The running maximum and the running sum before the first block. -/
def max0 : FVec Ideal S768x1 .f32 := broadcast S768x1 (Scalar.ofBits .f32 0xF149F2CA#32)
/-- The sums before the first block. -/
def acc0 : FVec Ideal S768x128 .f32 := broadcast S768x128 (Scalar.ofBits .f32 0x00000000#32)

/-- The running sum after both blocks. -/
def attend (Q : FVec Ideal S768x128 .bf16) (K₀ V₀ K₁ V₁ : FVec Ideal S2048x128 .bf16) : FVec Ideal S768x128 .f32 :=
  step (rowMax max0 (scores Q K₀)) (step max0 acc0 (scores Q K₀) V₀) (scores Q K₁) V₁

/-- The sum divided by the sum of weights that stands sixty-four lanes away. -/
def divided (x : FVec Ideal S768x128 .f32) : FVec Ideal S768x128 .f32 :=
  mulf x (divf (broadcast S768x128 (Scalar.ofBits .f32 0x3F800000#32)) (dynamicRotate 1 64#32 none x rotates_S768x128_d1))

/-- The word of minus infinity. -/
theorem ofBits_neg_inf : Ideal.ofBits .f32 0xFF800000#32 = ⊥ := by simp [Ideal.ofBits, Ideal.ieee]

/-- The running maximum starts at a real number. -/
theorem max0_apply (i : S768x1.Idx) : ∃ r : ℝ, max0 i = r :=
  ⟨-(13234890 * 2 ^ 76), by
    show Ideal.ofBits .f32 0xF149F2CA#32 = _
    simp [Ideal.ofBits, Ideal.ieee]⟩

/-- The sums start at zero. -/
theorem acc0_apply (i : S768x128.Idx) : acc0 i = 0 := by
  show Ideal.ofBits .f32 0x00000000#32 = 0
  simp

/-- A score is the inner product of a query and a key. -/
theorem scores_apply (Q : FVec Ideal S768x128 .bf16) (K : FVec Ideal S2048x128 .bf16) (r : Fin 768) (k : Fin 2048) :
    scores Q K (ix2 r k) = ∑ l : Fin 128, Q (ix2 r l) * K (ix2 k l) := by
  unfold scores; pointwise

/-- The running maximum after a block, entry by entry. -/
theorem rowMax_apply (M : FVec Ideal S768x1 .f32) (s : FVec Ideal S768x2048 .f32) (r : Fin 768) :
    rowMax M s (ix2 r 0) = max (M (ix2 r 0)) (Finset.univ.fold max ⊥ fun k : Fin 2048 => s (ix2 r k)) := by
  have h : shapeCast S768x1 (multiReduction .maximumf [1] S768 s 0xFF800000#32 reduces_S768x2048_S768 (.inl rfl) rfl)
      shapeCasts_S768_S768x1 (ix2 r 0) = Finset.univ.fold max (Ideal.ofBits .f32 0xFF800000#32) fun k : Fin 2048 => s (ix2 r k) := by
    pointwise
  rw [ofBits_neg_inf] at h
  exact congrArg (max (M (ix2 r 0))) h

/-- The sums after a block, entry by entry. -/
theorem step_apply (M : FVec Ideal S768x1 .f32) (A : FVec Ideal S768x128 .f32) (s : FVec Ideal S768x2048 .f32)
    (V : FVec Ideal S2048x128 .bf16) (r : Fin 768) (l : Fin 128) :
    step M A s V (ix2 r l) = Ideal.exp2 (M (ix2 r 0) - rowMax M s (ix2 r 0)) * A (ix2 r l)
      + ∑ k : Fin 2048, Ideal.exp2 (s (ix2 r k) - rowMax M s (ix2 r 0)) * V (ix2 k l) := by
  unfold step
  generalize rowMax M s = N
  pointwise
  rfl

/-- Two blocks at one row and every lane: one real maximum, and the weighted sum over all the keys. -/
theorem attend_apply (Q : FVec Ideal S768x128 .bf16) (K₀ V₀ K₁ V₁ : FVec Ideal S2048x128 .bf16) (r : Fin 768)
    (x : Fin (2048 + 2048) → ℝ) (v : Fin (2048 + 2048) → Fin 128 → EReal)
    (hx₀ : ∀ k : Fin 2048, ∑ l : Fin 128, Q (ix2 r l) * K₀ (ix2 k l) = x (Fin.castAdd 2048 k))
    (hx₁ : ∀ k : Fin 2048, ∑ l : Fin 128, Q (ix2 r l) * K₁ (ix2 k l) = x (Fin.natAdd 2048 k))
    (hv₀ : ∀ (k : Fin 2048) l, V₀ (ix2 k l) = v (Fin.castAdd 2048 k) l)
    (hv₁ : ∀ (k : Fin 2048) l, V₁ (ix2 k l) = v (Fin.natAdd 2048 k) l) :
    ∃ m : ℝ, ∀ l, attend Q K₀ V₀ K₁ V₁ (ix2 r l) = ∑ k, (((2 : ℝ) ^ (x k - m) : ℝ) : EReal) * v k l := by
  have hs₀ : ∀ k, scores Q K₀ (ix2 r k) = x (Fin.castAdd 2048 k) := fun k => (scores_apply ..).trans (hx₀ k)
  have hs₁ : ∀ k, scores Q K₁ (ix2 r k) = x (Fin.natAdd 2048 k) := fun k => (scores_apply ..).trans (hx₁ k)
  obtain ⟨m₀, hm₀⟩ := max0_apply (ix2 r 0)
  obtain ⟨m₁, hm₁⟩ : ∃ m₁ : ℝ, rowMax max0 (scores Q K₀) (ix2 r 0) = m₁ := by
    rw [rowMax_apply, hm₀]; exact Softmax.max_fold_real _ _ _ fun k => ⟨_, hs₀ k⟩
  obtain ⟨m₂, hm₂⟩ : ∃ m₂ : ℝ, rowMax (rowMax max0 (scores Q K₀)) (scores Q K₁) (ix2 r 0) = m₂ := by
    rw [rowMax_apply, hm₁]; exact Softmax.max_fold_real _ _ _ fun k => ⟨_, hs₁ k⟩
  refine ⟨m₂, fun l => ?_⟩
  unfold attend
  rw [step_apply, step_apply, hm₂, hm₁, hm₀, acc0_apply]
  simp only [hs₀, hs₁, hv₀, hv₁]
  exact Softmax.two_steps x (fun k => v k l) m₀ m₁ m₂

/-- The quotient of a lane by the lane 64 away. -/
theorem divided_apply (x : FVec Ideal S768x128 .f32) (r : Fin 768) (l l' : Fin 128) (h : l'.val = (l.val + 64) % 128) :
    divided x (ix2 r l) = x (ix2 r l) * Ideal.div 1 (x (ix2 r l')) := by
  have hr : dynamicRotate 1 64#32 none x rotates_S768x128_d1 (ix2 r l) = x (ix2 r l') := by
    pointwise
    exact congrArg (fun a => x (ix2 r a)) (Fin.ext (by rw [h]; show (l.val + 128 - 64) % 128 = _; omega))
  show x (ix2 r l) * Ideal.div (Ideal.ofBits .f32 0x3F800000#32) (dynamicRotate 1 64#32 none x rotates_S768x128_d1 (ix2 r l)) = _
  rw [hr]; simp

/-- A stack of heads after both blocks is the weighted mean of the values. -/
theorem head_apply (Q : FVec Ideal S768x128 .bf16) (K₀ V₀ K₁ V₁ : FVec Ideal S2048x128 .bf16) (r : Fin 768) (l l' : Fin 128)
    (h : l'.val = (l.val + 64) % 128) (x : Fin (2048 + 2048) → ℝ) (v : Fin (2048 + 2048) → EReal) (M : ℝ)
    (hx₀ : ∀ k : Fin 2048, ∑ l : Fin 128, Q (ix2 r l) * K₀ (ix2 k l) = ((x (Fin.castAdd 2048 k) * (Real.log 2)⁻¹ : ℝ) : EReal))
    (hx₁ : ∀ k : Fin 2048, ∑ l : Fin 128, Q (ix2 r l) * K₁ (ix2 k l) = ((x (Fin.natAdd 2048 k) * (Real.log 2)⁻¹ : ℝ) : EReal))
    (hv₀ : ∀ k : Fin 2048, V₀ (ix2 k l) = v (Fin.castAdd 2048 k)) (hv₁ : ∀ k : Fin 2048, V₁ (ix2 k l) = v (Fin.natAdd 2048 k))
    (ho₀ : ∀ k : Fin 2048, V₀ (ix2 k l') = 1) (ho₁ : ∀ k : Fin 2048, V₁ (ix2 k l') = 1) :
    divided (attend Q K₀ V₀ K₁ V₁) (ix2 r l)
      = ∑ k, v k * Ideal.div (Ideal.exp ((x k : EReal) - M)) (0 + ∑ j, Ideal.exp ((x j : EReal) - M)) := by
  obtain ⟨m, hm⟩ := attend_apply Q K₀ V₀ K₁ V₁ r (fun k => x k * (Real.log 2)⁻¹)
    (fun k l => Fin.addCases (fun k => V₀ (ix2 k l)) (fun k => V₁ (ix2 k l)) k) hx₀ hx₁
    (fun k l => by simp only [Fin.addCases_left]) (fun k l => by simp only [Fin.addCases_right])
  have hv : ∀ k, (Fin.addCases (fun k => V₀ (ix2 k l)) (fun k => V₁ (ix2 k l)) k : EReal) = v k := fun k => by
    refine Fin.addCases (fun k => ?_) (fun k => ?_) k
    · rw [Fin.addCases_left, hv₀]
    · rw [Fin.addCases_right, hv₁]
  have ho : ∀ k : Fin (2048 + 2048), (Fin.addCases (fun k => V₀ (ix2 k l')) (fun k => V₁ (ix2 k l')) k : EReal) = 1 := fun k => by
    refine Fin.addCases (fun k => ?_) (fun k => ?_) k
    · rw [Fin.addCases_left, ho₀]
    · rw [Fin.addCases_right, ho₁]
  rw [divided_apply _ r l l' h, hm, hm]
  simp only [hv, ho]
  exact Softmax.running_eq_plain x m M v

end Cert.GqaIdeal.Attend

end
-- ==== Proof.Stack.lean ====
/- The stacked queries of the attention kernel's body: for each key head, three query heads of 256 rows each, scaled,
   moved to the lanes of the key head and zero on the other lanes. -/
module

public import proofs.«01_k».proof.Proof.Attend

@[expose] public section

set_option maxRecDepth 16384

noncomputable section

namespace Cert.GqaIdeal.Attend

open Cert.GqaIdeal Cert.GqaIdeal.Gen Idealize.ShloMosaic

/-- The scale of the scores, in base two: `1 / (8 ln 2)`. -/
def scaleTwo : ℝ := (8 * Real.log 2)⁻¹

/-- The named constant's value. -/
theorem named_scale : (Named.named κ "scale_log2e" 0x3E38AA3B#32 : Ideal .f32) = (scaleTwo : EReal) := rfl

/-- A lane of the lower half is chosen from the first operand, -/
theorem select_lo {α : Type} (d : Fin 64) (a b : α) :
    Scalar.select (IntOp.cmpi .slt (BitVec.ofNat 32 d.val) 64#32) a b = a := by
  have : IntOp.cmpi .slt (BitVec.ofNat 32 d.val) 64#32 = 1#1 := by revert d; decide
  rw [this]; rfl

/-- and one of the upper half from the second. -/
theorem select_hi {α : Type} (d : Fin 64) (a b : α) :
    Scalar.select (IntOp.cmpi .slt (BitVec.ofNat 32 (64 + d.val)) 64#32) a b = b := by
  have : IntOp.cmpi .slt (BitVec.ofNat 32 (64 + d.val)) 64#32 = 0#1 := by revert d; decide
  rw [this]; rfl

/-- The opposite choice on the first 64 lanes. -/
theorem select_not_lo {α : Type} (d : Fin 64) (a b : α) :
    Scalar.select (IntOp.xori (IntOp.cmpi .slt (BitVec.ofNat 32 d.val) 64#32) 1#1) a b = b := by
  have : IntOp.xori (IntOp.cmpi .slt (BitVec.ofNat 32 d.val) 64#32) 1#1 = 0#1 := by revert d; decide
  rw [this]; rfl

/-- The opposite choice on the last 64 lanes. -/
theorem select_not_hi {α : Type} (d : Fin 64) (a b : α) :
    Scalar.select (IntOp.xori (IntOp.cmpi .slt (BitVec.ofNat 32 (64 + d.val)) 64#32) 1#1) a b = a := by
  have : IntOp.xori (IntOp.cmpi .slt (BitVec.ofNat 32 (64 + d.val)) 64#32) 1#1 = 1#1 := by revert d; decide
  rw [this]; rfl

/-- Row `r` of the `i`-th head of a stack. -/
def stackRow (i : Fin 3) (r : Fin 256) : Fin 768 := ⟨i.val * 256 + r.val, by omega⟩
/-- Lane `d` of the lower half, and of the upper half. -/
def loLane (d : Fin 64) : Fin 128 := ⟨d.val, by omega⟩
/-- A lane of the last 64. -/
def hiLane (d : Fin 64) : Fin 128 := ⟨64 + d.val, by omega⟩
/-- Lane `d` of query head `h` among the 384 lanes. -/
def headLane (h : Fin 6) (d : Fin 64) : Fin 384 := ⟨h.val * 64 + d.val, by omega⟩

/-- The three chunks of 128 lanes of a block of queries. -/
def chunk (x₀ : Vec Ideal S1x256x384 .f32) (o : ℕ) (h : o + 128 ≤ 384) : Vec Ideal S1x256x128 .f32 :=
  fun j => x₀ (ix3 0 (j 1) ⟨o + (j 2).val, by have := (j 2).isLt; simp at this; omega⟩)

/-- The stack for key head 0 -/
def stack0 (x₀ : Vec Ideal S1x256x384 .f32) : FVec Ideal S768x128 .bf16 :=
  k0_pay3 (chunk x₀ 0 (by omega)) (chunk x₀ 0 (by omega)) (chunk x₀ 128 (by omega))

/-- and for key head 1. -/
def stack1 (x₀ : Vec Ideal S1x256x384 .f32) : FVec Ideal S768x128 .bf16 :=
  k0_pay7 k0_pay4 (k0_pay5 (chunk x₀ 128 (by omega))) k0_pay6 (chunk x₀ 256 (by omega)) (chunk x₀ 256 (by omega))

/-- A chunk of the queries, scaled. -/
theorem chunk_eq (x₀ : Vec Ideal S1x256x384 .f32) (o : ℕ) (h : o + 128 ≤ 384) (a b : Fin 256) (l : Fin 128) (l' : Fin 384)
    (ha : a.val = b.val) (hl : o + l.val = l'.val) : chunk x₀ o h (ix3 0 a l) = x₀ (ix3 0 b l') := by
  obtain rfl := Fin.ext ha
  exact congrArg (fun q => x₀ (ix3 0 a q)) (Fin.ext hl)

/-- On its own lanes a stack holds the scaled query head, -/
theorem stack0_lo (x₀ : Vec Ideal S1x256x384 .f32) (i : Fin 3) (r : Fin 256) (d : Fin 64) :
    stack0 x₀ (ix2 (stackRow i r) (loLane d)) = x₀ (ix3 0 r (headLane ⟨i.val, by omega⟩ d)) * (scaleTwo : EReal) := by
  have hl : (loLane d).val = d.val := rfl
  have hr : (stackRow i r).val = i.val * 256 + r.val := rfl
  unfold stack0
  rw [← named_scale]
  unfold_payloads
  pointwise
  simp only [hl, select_lo]
  split_ifs with h₁ h₂ h₃ h₄ <;>
    first
    | exact absurd rfl ‹¬ ((0 : Fin 1) : ℕ) = ((0 : Fin 1) : ℕ)›
    | (
      rw [chunk_eq x₀ _ _ _ r _ (headLane ⟨i.val, by omega⟩ d)]
      all_goals dsimp only [headLane]
      all_goals omega)

/-- and zero on the other lanes. -/
theorem stack0_hi (x₀ : Vec Ideal S1x256x384 .f32) (i : Fin 3) (r : Fin 256) (d : Fin 64) :
    stack0 x₀ (ix2 (stackRow i r) (hiLane d)) = 0 := by
  have hl : (hiLane d).val = 64 + d.val := rfl
  unfold stack0
  unfold_payloads
  pointwise
  simp only [hl, select_hi]
  split_ifs <;> rfl

/-- The second stack keeps the last 64 lanes -/
theorem stack1_hi (x₀ : Vec Ideal S1x256x384 .f32) (i : Fin 3) (r : Fin 256) (d : Fin 64) :
    stack1 x₀ (ix2 (stackRow i r) (hiLane d)) = x₀ (ix3 0 r (headLane ⟨3 + i.val, by omega⟩ d)) * (scaleTwo : EReal) := by
  have hl : (hiLane d).val = 64 + d.val := rfl
  have hr : (stackRow i r).val = i.val * 256 + r.val := rfl
  unfold stack1
  rw [← named_scale]
  unfold_payloads
  pointwise
  simp only [hl, select_not_hi]
  split_ifs with h₁ h₂ h₃ h₄ <;>
    first
    | exact absurd rfl ‹¬ ((0 : Fin 1) : ℕ) = ((0 : Fin 1) : ℕ)›
    | (
      rw [chunk_eq x₀ _ _ _ r _ (headLane ⟨3 + i.val, by omega⟩ d)]
      all_goals dsimp only [headLane]
      all_goals omega)

/-- and has zeros in the first 64. -/
theorem stack1_lo (x₀ : Vec Ideal S1x256x384 .f32) (i : Fin 3) (r : Fin 256) (d : Fin 64) :
    stack1 x₀ (ix2 (stackRow i r) (loLane d)) = 0 := by
  have hl : (loLane d).val = d.val := rfl
  unfold stack1
  unfold_payloads
  pointwise
  simp only [hl, select_not_lo]
  split_ifs <;> rfl

/-- A sum over 128 lanes as the sums over its two halves. -/
theorem sum_lanes (f : Fin 128 → EReal) : ∑ l, f l = ∑ d, f (loLane d) + ∑ d, f (hiLane d) :=
  Fin.sum_univ_add (M := EReal) (a := 64) (b := 64) f

/-- The product of a scaled real row with a real column, in base two: the plain score over `ln 2`. -/
theorem score_eq (q k : Fin 64 → ℝ) :
    ∑ d, (q d : EReal) * (scaleTwo : EReal) * (k d : EReal)
      = (((∑ d, k d * q d) * (1 / 8) * (Real.log 2)⁻¹ : ℝ) : EReal) := by
  rw [Finset.sum_mul, Finset.sum_mul, Softmax.coe_sum]
  refine Finset.sum_congr rfl fun d _ => ?_
  rw [← EReal.coe_mul, ← EReal.coe_mul]
  congr 1
  unfold scaleTwo
  rw [mul_inv]
  ring

/-- The scores of a row of the stack for key head 0 against a block of keys -/
theorem stack0_scores (x₀ : Vec Ideal S1x256x384 .f32) (q : Fin 256 → Fin 384 → ℝ)
    (hq : ∀ r l, x₀ (ix3 0 r l) = (q r l : EReal)) (K : FVec Ideal S2048x128 .bf16) (k : Fin 2048 → Fin 128 → ℝ)
    (hk : ∀ j l, K (ix2 j l) = (k j l : EReal)) (i : Fin 3) (r : Fin 256) (j : Fin 2048) :
    ∑ l : Fin 128, stack0 x₀ (ix2 (stackRow i r) l) * K (ix2 j l)
      = (((∑ d, k j (loLane d) * q r (headLane ⟨i.val, by omega⟩ d)) * (1 / 8) * (Real.log 2)⁻¹ : ℝ) : EReal) := by
  rw [sum_lanes]
  simp only [stack0_lo, stack0_hi, hq, hk, zero_mul, Finset.sum_const_zero, add_zero]
  exact score_eq _ _

/-- and for key head 1. -/
theorem stack1_scores (x₀ : Vec Ideal S1x256x384 .f32) (q : Fin 256 → Fin 384 → ℝ)
    (hq : ∀ r l, x₀ (ix3 0 r l) = (q r l : EReal)) (K : FVec Ideal S2048x128 .bf16) (k : Fin 2048 → Fin 128 → ℝ)
    (hk : ∀ j l, K (ix2 j l) = (k j l : EReal)) (i : Fin 3) (r : Fin 256) (j : Fin 2048) :
    ∑ l : Fin 128, stack1 x₀ (ix2 (stackRow i r) l) * K (ix2 j l)
      = (((∑ d, k j (hiLane d) * q r (headLane ⟨3 + i.val, by omega⟩ d)) * (1 / 8) * (Real.log 2)⁻¹ : ℝ) : EReal) := by
  rw [sum_lanes]
  simp only [stack1_lo, stack1_hi, hq, hk, zero_mul, Finset.sum_const_zero, zero_add]
  exact score_eq _ _

end Cert.GqaIdeal.Attend

end
-- ==== Proof.Block.lean ====
/- What one grid point of the attention kernel leaves in its block of the output: for every query head and every row the
   softmax-weighted sum of the value rows. -/
module

public import proofs.«01_k».proof.Proof.Gen.GqaIdeal.Value
public import proofs.«01_k».proof.Proof.Stack

@[expose] public section

set_option maxRecDepth 16384

noncomputable section

namespace Cert.GqaIdeal.Attend

open Cert.GqaIdeal Cert.GqaIdeal.Gen Idealize.ShloMosaic Idealize.ShloMosaic.TcCoe Idealize.SL.Sem

/-- 2048 keys and 128 lanes of a block of keys and values, from key `p` and lane `o` on. -/
def part (x₁ : Vec Ideal S1x4096x384 .bf16) (p o : ℕ) (hp : p + 2048 ≤ 4096) (ho : o + 128 ≤ 384) :
    FVec Ideal S2048x128 .bf16 :=
  fun j => x₁ (ix3 0 ⟨p + (j 0).val, by have := (j 0).isLt; simp at this; omega⟩
    ⟨o + (j 1).val, by have := (j 1).isLt; simp at this; omega⟩)

/-- The two stacks after attention, divided by their sums of weights. -/
def heads0 (x₀ : Vec Ideal S1x256x384 .f32) (x₁ : Vec Ideal S1x4096x384 .bf16) : FVec Ideal S768x128 .f32 :=
  divided (attend (stack0 x₀) (part x₁ 0 0 (by omega) (by omega)) (part x₁ 0 128 (by omega) (by omega))
    (part x₁ 2048 0 (by omega) (by omega)) (part x₁ 2048 128 (by omega) (by omega)))
/-- The stack of the heads of the second key head. -/
def heads1 (x₀ : Vec Ideal S1x256x384 .f32) (x₁ : Vec Ideal S1x4096x384 .bf16) : FVec Ideal S768x128 .f32 :=
  divided (attend (stack1 x₀) (part x₁ 0 0 (by omega) (by omega)) (part x₁ 0 256 (by omega) (by omega))
    (part x₁ 2048 0 (by omega) (by omega)) (part x₁ 2048 256 (by omega) (by omega)))

/-- The 128 lanes of the first two heads, -/
def lanesA (D : FVec Ideal S768x128 .f32) : FVec Ideal S1x256x128 .bf16 :=
  shapeCast S1x256x128 (truncf .bf16 (select k0_pay2
    (extractStridedSlice S256x128 ![0, 0] D slices_S768x128_o0_0_S256x128)
    (dynamicRotate 1 64#32 none (extractStridedSlice S256x128 ![256, 0] D slices_S768x128_o256_0_S256x128) rotates_S256x128_d1))
    bitsLt_bf16_f32) shapeCasts_S256x128_S1x256x128

/-- and of the third and the fourth. -/
def lanesB (D E : FVec Ideal S768x128 .f32) : FVec Ideal S1x256x128 .bf16 :=
  shapeCast S1x256x128 (truncf .bf16 (select k0_pay2
    (extractStridedSlice S256x128 ![512, 0] D slices_S768x128_o512_0_S256x128)
    (extractStridedSlice S256x128 ![0, 0] E slices_S768x128_o0_0_S256x128))
    bitsLt_bf16_f32) shapeCasts_S256x128_S1x256x128

/-- The first 64 lanes of the first store. -/
theorem lanesA_lo (D : FVec Ideal S768x128 .f32) (r : Fin 256) (d : Fin 64) :
    lanesA D (ix3 0 r (loLane d)) = D (ix2 (stackRow 0 r) (loLane d)) := by
  have hl : (loLane d).val = d.val := rfl
  unfold lanesA; unfold_payloads
  pointwise
  simp only [hl, select_lo]
  exact congrArg (fun a => D (ix2 a (loLane d))) (Fin.ext (by simp [stackRow]))

/-- The last 64 lanes of the first store. -/
theorem lanesA_hi (D : FVec Ideal S768x128 .f32) (r : Fin 256) (d : Fin 64) :
    lanesA D (ix3 0 r (hiLane d)) = D (ix2 (stackRow 1 r) (loLane d)) := by
  have hl : (hiLane d).val = 64 + d.val := rfl
  unfold lanesA; unfold_payloads
  pointwise
  simp only [hl, select_hi]
  exact congrArg₂ (fun a l => D (ix2 a l)) (Fin.ext (by simp [stackRow])) (Fin.ext (by simp only [loLane]; omega))

/-- The first 64 lanes of the second store. -/
theorem lanesB_lo (D E : FVec Ideal S768x128 .f32) (r : Fin 256) (d : Fin 64) :
    lanesB D E (ix3 0 r (loLane d)) = D (ix2 (stackRow 2 r) (loLane d)) := by
  have hl : (loLane d).val = d.val := rfl
  unfold lanesB; unfold_payloads
  pointwise
  simp only [hl, select_lo]
  exact congrArg (fun a => D (ix2 a (loLane d))) (Fin.ext (by simp [stackRow]))

/-- The last 64 lanes of the second store. -/
theorem lanesB_hi (D E : FVec Ideal S768x128 .f32) (r : Fin 256) (d : Fin 64) :
    lanesB D E (ix3 0 r (hiLane d)) = E (ix2 (stackRow 0 r) (hiLane d)) := by
  have hl : (hiLane d).val = 64 + d.val := rfl
  unfold lanesB; unfold_payloads
  pointwise
  simp only [hl, select_hi]
  exact congrArg (fun a => E (ix2 a (hiLane d))) (Fin.ext (by simp [stackRow]))

/-- The first 64 lanes of the third store. -/
theorem lanesC_lo (E : FVec Ideal S768x128 .f32) (r : Fin 256) (d : Fin 64) :
    k0_pay1 k0_pay2 E (ix3 0 r (loLane d)) = E (ix2 (stackRow 1 r) (hiLane d)) := by
  have hl : (loLane d).val = d.val := rfl
  unfold_payloads
  pointwise
  simp only [hl, select_lo]
  exact congrArg₂ (fun a l => E (ix2 a l)) (Fin.ext (by simp [stackRow])) (Fin.ext (by simp only [hiLane]; omega))

/-- The last 64 lanes of the third store. -/
theorem lanesC_hi (E : FVec Ideal S768x128 .f32) (r : Fin 256) (d : Fin 64) :
    k0_pay1 k0_pay2 E (ix3 0 r (hiLane d)) = E (ix2 (stackRow 2 r) (hiLane d)) := by
  have hl : (hiLane d).val = 64 + d.val := rfl
  unfold_payloads
  pointwise
  simp only [hl, select_hi]
  exact congrArg (fun a => E (ix2 a (hiLane d))) (Fin.ext (by simp [stackRow]))

/-- A block of keys or values without its leading axis of size one. -/
def flat (x : Vec Ideal S1x2048x128 .bf16) : FVec Ideal S2048x128 .bf16 := shapeCast S2048x128 x shapeCasts_S1x2048x128_S2048x128

/-- The body's three stores, in the terms above. -/
theorem store_A (Q : FVec Ideal S768x128 .bf16) (k₀ v₀ k₁ v₁ : Vec Ideal S1x2048x128 .bf16) :
    k0_pay28 k0_pay2 (k0_pay21 v₁) (k0_pay24 Q k0_pay8 k0_pay9 (k0_pay13 v₀) (k0_pay15 Q k₀) (k0_pay16 Q k₀) k₁)
      (k0_pay25 Q (k0_pay15 Q k₀) k₁) (constant S768x128 .f32 0#32)
    = lanesA (divided (attend Q (flat k₀) (flat v₀) (flat k₁) (flat v₁))) := rfl

/-- The second store. -/
theorem store_B (Q P : FVec Ideal S768x128 .bf16) (k₀ v₀ w₀ k₁ v₁ w₁ : Vec Ideal S1x2048x128 .bf16) :
    k0_pay29 k0_pay2 P (k0_pay18 P k0_pay10 (k0_pay12 k₀)) (k0_pay19 P k0_pay10 k0_pay11 (k0_pay12 k₀) w₀) (k0_pay20 k₁)
      (k0_pay21 v₁) (k0_pay24 Q k0_pay8 k0_pay9 (k0_pay13 v₀) (k0_pay15 Q k₀) (k0_pay16 Q k₀) k₁)
      (k0_pay25 Q (k0_pay15 Q k₀) k₁) (constant S768x128 .f32 0#32) w₁
    = lanesB (divided (attend Q (flat k₀) (flat v₀) (flat k₁) (flat v₁)))
      (divided (attend P (flat k₀) (flat w₀) (flat k₁) (flat w₁))) := rfl

/-- The third store. -/
theorem store_C (P : FVec Ideal S768x128 .bf16) (k₀ w₀ k₁ w₁ : Vec Ideal S1x2048x128 .bf16) :
    k0_pay27 P (k0_pay18 P k0_pay10 (k0_pay12 k₀)) (k0_pay19 P k0_pay10 k0_pay11 (k0_pay12 k₀) w₀) (k0_pay20 k₁) w₁
    = divided (attend P (flat k₀) (flat w₀) (flat k₁) (flat w₁)) := rfl

/-- A load of 128 lanes of the queries is a chunk of them, -/
theorem ld_chunk (x₀ : Vec Ideal S1x256x384 .f32) (o : ℕ) (ho : o + 128 ≤ 384)
    (h : ∀ a, (![0, 0, o] : Fin 3 → ℕ) a + (![1, 256, 128] : Fin 3 → ℕ) a ≤ S1x256x384.size a) :
    View.ld x₀ (Rect.unit ![0, 0, o] ![1, 256, 128] h) = chunk x₀ o ho := by
  funext j
  refine congrArg x₀ (funext fun a => Fin.ext ?_)
  have h₀ : (j 0).val < 1 := (j 0).isLt
  fin_cases a
  · show 0 + 1 * (j 0).val = 0; omega
  · show 0 + 1 * (j 1).val = (j 1).val; omega
  · show o + 1 * (j 2).val = o + (j 2).val; omega

/-- and a load of 2048 keys and 128 lanes is a part of the keys and values. -/
theorem ld_part (x₁ : Vec Ideal S1x4096x384 .bf16) (p o : ℕ) (hp : p + 2048 ≤ 4096) (ho : o + 128 ≤ 384)
    (h : ∀ a, (![0, p, o] : Fin 3 → ℕ) a + (![1, 2048, 128] : Fin 3 → ℕ) a ≤ S1x4096x384.size a) :
    flat (View.ld x₁ (Rect.unit ![0, p, o] ![1, 2048, 128] h)) = part x₁ p o hp ho := by
  funext j
  obtain ⟨k, l, rfl⟩ : ∃ k l, j = ix2 k l := ⟨j 0, j 1, by funext a; fin_cases a <;> rfl⟩
  unfold flat
  pointwise
  rfl

/-- An index of a stored chunk is its row and its lane. -/
theorem idx_eq (x : S1x256x128.Idx) (r : Fin 256) (l : Fin 128) (h₁ : (x 1).val = r.val) (h₂ : (x 2).val = l.val) :
    x = ix3 0 r l := by
  have h₀ : (x 0).val < 1 := (x 0).isLt
  funext a
  refine Fin.ext ?_
  fin_cases a
  · show (x 0).val = 0; omega
  · exact h₁
  · exact h₂

/-- The first stack read from the whole key block. -/
theorem heads0_eq (x₀ : Vec Ideal S1x256x384 .f32) (x₁ : Vec Ideal S1x4096x384 .bf16) (ha hb hc hd he hf) :
    divided (attend (k0_pay3 (View.ld x₀ (Rect.unit ![0, 0, 0] ![1, 256, 128] ha))
        (View.ld x₀ (Rect.unit ![0, 0, 0] ![1, 256, 128] ha)) (View.ld x₀ (Rect.unit ![0, 0, 128] ![1, 256, 128] hb)))
      (flat (View.ld x₁ (Rect.unit ![0, 0, 0] ![1, 2048, 128] hc))) (flat (View.ld x₁ (Rect.unit ![0, 0, 128] ![1, 2048, 128] hd)))
      (flat (View.ld x₁ (Rect.unit ![0, 2048, 0] ![1, 2048, 128] he)))
      (flat (View.ld x₁ (Rect.unit ![0, 2048, 128] ![1, 2048, 128] hf)))) = heads0 x₀ x₁ := by
  rw [ld_chunk x₀ 0 (by omega), ld_chunk x₀ 128 (by omega), ld_part x₁ 0 0 (by omega) (by omega),
    ld_part x₁ 0 128 (by omega) (by omega), ld_part x₁ 2048 0 (by omega) (by omega), ld_part x₁ 2048 128 (by omega) (by omega)]
  rfl

/-- The second stack read from the whole key block. -/
theorem heads1_eq (x₀ : Vec Ideal S1x256x384 .f32) (x₁ : Vec Ideal S1x4096x384 .bf16) (ha hb hc hd he hf) :
    divided (attend (k0_pay7 k0_pay4 (k0_pay5 (View.ld x₀ (Rect.unit ![0, 0, 128] ![1, 256, 128] ha))) k0_pay6
        (View.ld x₀ (Rect.unit ![0, 0, 256] ![1, 256, 128] hb)) (View.ld x₀ (Rect.unit ![0, 0, 256] ![1, 256, 128] hb)))
      (flat (View.ld x₁ (Rect.unit ![0, 0, 0] ![1, 2048, 128] hc))) (flat (View.ld x₁ (Rect.unit ![0, 0, 256] ![1, 2048, 128] hd)))
      (flat (View.ld x₁ (Rect.unit ![0, 2048, 0] ![1, 2048, 128] he)))
      (flat (View.ld x₁ (Rect.unit ![0, 2048, 256] ![1, 2048, 128] hf)))) = heads1 x₀ x₁ := by
  rw [ld_chunk x₀ 128 (by omega), ld_chunk x₀ 256 (by omega), ld_part x₁ 0 0 (by omega) (by omega),
    ld_part x₁ 0 256 (by omega) (by omega), ld_part x₁ 2048 0 (by omega) (by omega), ld_part x₁ 2048 256 (by omega) (by omega)]
  rfl

/-- The value of head `h` at lane `d` of row `r`: a lane of one of the two stacks. -/
def headOut (x₀ : Vec Ideal S1x256x384 .f32) (x₁ : Vec Ideal S1x4096x384 .bf16) (r : Fin 256) (h : Fin 6) (d : Fin 64) : EReal :=
  if hh : h.val < 3 then heads0 x₀ x₁ (ix2 (stackRow ⟨h.val, hh⟩ r) (loLane d))
  else heads1 x₀ x₁ (ix2 (stackRow ⟨h.val - 3, by omega⟩ r) (hiLane d))

/-- A head of the first stack, entry by entry. -/
theorem headOut_lo (x₀ : Vec Ideal S1x256x384 .f32) (x₁ : Vec Ideal S1x4096x384 .bf16) (r : Fin 256) (h : Fin 6) (d : Fin 64)
    (i : Fin 3) (hi : h.val = i.val) : headOut x₀ x₁ r h d = heads0 x₀ x₁ (ix2 (stackRow i r) (loLane d)) := by
  unfold headOut
  rw [dif_pos (by omega)]
  exact congrArg (fun i => heads0 x₀ x₁ (ix2 (stackRow i r) (loLane d))) (Fin.ext hi)

/-- A head of the second stack, entry by entry. -/
theorem headOut_hi (x₀ : Vec Ideal S1x256x384 .f32) (x₁ : Vec Ideal S1x4096x384 .bf16) (r : Fin 256) (h : Fin 6) (d : Fin 64)
    (i : Fin 3) (hi : h.val = 3 + i.val) : headOut x₀ x₁ r h d = heads1 x₀ x₁ (ix2 (stackRow i r) (hiLane d)) := by
  unfold headOut
  rw [dif_neg (by omega)]
  exact congrArg (fun i => heads1 x₀ x₁ (ix2 (stackRow i r) (hiLane d))) (Fin.ext (by show h.val - 3 = i.val; omega))

variable (m : (ℓ : Loc nD τ sig) → Buf (Elt Ideal) ℓ)

/-- The body leaves in its block, at row `r` and lane `d` of head `h`, that value. -/
theorem outs_apply (c : Dev nD) (t : Fin cfg0.N) (r : Fin 256) (h : Fin 6) (d : Fin 64) :
    outsAt0 m c t (ix3 0 r (headLane h d)) = headOut (iblk m c 0 t) (iblk m c 1 t) r h d := by
  unfold outsAt0
  generalize (iblk m c 0 t) = x₀
  generalize (iblk m c 1 t) = x₁
  generalize hy : (ix3 0 r (headLane h d) : S1x256x384.Idx) = y
  frame_out
  have y1 : (y 1).val = r.val := by rw [← hy]; rfl
  have y2 : (y 2).val = h.val * 64 + d.val := by rw [← hy]; rfl
  canon_tiles x e
  · rw [store_C]
    refine (congrArg (fun E => k0_pay1 k0_pay2 E x) (heads1_eq x₀ x₁ _ _ _ _ _ _)).trans ?_
    rcases (by omega : h.val = 4 ∨ h.val = 5) with hh | hh
    · rw [idx_eq x r (loLane d) (by omega) (by show _ = d.val; omega), headOut_hi x₀ x₁ r h d 1 hh]
      exact lanesC_lo _ r d
    · rw [idx_eq x r (hiLane d) (by omega) (by show _ = 64 + d.val; omega), headOut_hi x₀ x₁ r h d 2 hh]
      exact lanesC_hi _ r d
  · rw [store_B]
    refine (congrArg₂ (fun D E => lanesB D E x) (heads0_eq x₀ x₁ _ _ _ _ _ _) (heads1_eq x₀ x₁ _ _ _ _ _ _)).trans ?_
    rcases (by omega : h.val = 2 ∨ h.val = 3) with hh | hh
    · rw [idx_eq x r (loLane d) (by omega) (by show _ = d.val; omega), headOut_lo x₀ x₁ r h d 2 hh]
      exact lanesB_lo _ _ r d
    · rw [idx_eq x r (hiLane d) (by omega) (by show _ = 64 + d.val; omega), headOut_hi x₀ x₁ r h d 0 hh]
      exact lanesB_hi _ _ r d
  · rw [store_A]
    refine (congrArg (fun D => lanesA D x) (heads0_eq x₀ x₁ _ _ _ _ _ _)).trans ?_
    rcases (by omega : h.val = 0 ∨ h.val = 1) with hh | hh
    · rw [idx_eq x r (loLane d) (by omega) (by show _ = d.val; omega), headOut_lo x₀ x₁ r h d 0 hh]
      exact lanesA_lo _ r d
    · rw [idx_eq x r (hiLane d) (by omega) (by show _ = 64 + d.val; omega), headOut_lo x₀ x₁ r h d 1 hh]
      exact lanesA_hi _ r d

/-- The weighted sum of the values `v` with the softmax of the scores `x`, the maximum subtracted being any real `M`. -/
def softmaxSum (x : Fin (2048 + 2048) → ℝ) (v : Fin (2048 + 2048) → EReal) (M : ℝ) : EReal :=
  ∑ k, v k * Ideal.div (Ideal.exp ((x k : EReal) - M)) (0 + ∑ j, Ideal.exp ((x j : EReal) - M))

/-- The key head of query head `h`. -/
def keyHead (h : Fin 6) : Fin 2 := ⟨h.val / 3, by omega⟩

/-- With real queries and keys, and keys, values and ones in the lanes the kernel takes them from, the value of head `h` is
    the plain attention of that head. -/
theorem headOut_eq (x₀ : Vec Ideal S1x256x384 .f32) (x₁ : Vec Ideal S1x4096x384 .bf16)
    (q : Fin 256 → Fin 384 → ℝ) (k : Fin (2048 + 2048) → Fin 2 → Fin 64 → ℝ) (v : Fin (2048 + 2048) → Fin 2 → Fin 64 → EReal)
    (hq : ∀ r l, x₀ (ix3 0 r l) = (q r l : EReal))
    (hk₀ : ∀ (j : Fin 4096) (d : Fin 64), x₁ (ix3 0 j ⟨d.val, by omega⟩) = (k j 0 d : EReal))
    (hk₁ : ∀ (j : Fin 4096) (d : Fin 64), x₁ (ix3 0 j ⟨64 + d.val, by omega⟩) = (k j 1 d : EReal))
    (hv₀ : ∀ (j : Fin 4096) (d : Fin 64), x₁ (ix3 0 j ⟨128 + d.val, by omega⟩) = v j 0 d)
    (ho₀ : ∀ (j : Fin 4096) (d : Fin 64), x₁ (ix3 0 j ⟨192 + d.val, by omega⟩) = 1)
    (ho₁ : ∀ (j : Fin 4096) (d : Fin 64), x₁ (ix3 0 j ⟨256 + d.val, by omega⟩) = 1)
    (hv₁ : ∀ (j : Fin 4096) (d : Fin 64), x₁ (ix3 0 j ⟨320 + d.val, by omega⟩) = v j 1 d)
    (r : Fin 256) (h : Fin 6) (d : Fin 64) (M : ℝ) :
    headOut x₀ x₁ r h d = softmaxSum (fun j => (∑ e, k j (keyHead h) e * q r (headLane h e)) * (1 / 8))
      (fun j => v j (keyHead h) d) M := by
  let kk : Fin 4096 → Fin 128 → ℝ := fun j l => if hl : l.val < 64 then k j 0 ⟨l.val, hl⟩ else k j 1 ⟨l.val - 64, by omega⟩
  have hkk : ∀ (p : ℕ) (hp : p + 2048 ≤ 4096) (j : Fin 2048) (l : Fin 128),
      part x₁ p 0 hp (by omega) (ix2 j l) = (kk ⟨p + j.val, by omega⟩ l : EReal) := by
    intro p hp j l
    by_cases hl : l.val < 64
    · refine Eq.trans (congrArg (fun a => x₁ (ix3 0 _ a)) (Fin.ext ?_)) ((hk₀ ⟨p + j.val, by omega⟩ ⟨l.val, hl⟩).trans ?_)
      · show 0 + l.val = l.val; omega
      · simp only [kk, dif_pos hl]
    · refine Eq.trans (congrArg (fun a => x₁ (ix3 0 _ a)) (Fin.ext ?_)) ((hk₁ ⟨p + j.val, by omega⟩ ⟨l.val - 64, by omega⟩).trans ?_)
      · show 0 + l.val = 64 + (l.val - 64); omega
      · simp only [kk, dif_neg hl]
  have lo : ∀ j d, kk j (loLane d) = k j 0 d := fun j d => dif_pos d.isLt
  have hi : ∀ j d, kk j (hiLane d) = k j 1 d := fun j d => by
    show dite _ _ _ = _
    rw [dif_neg (by show ¬ 64 + d.val < 64; omega)]
    exact congrArg (k j 1) (Fin.ext (by show 64 + d.val - 64 = d.val; omega))
  have vv : ∀ (p o : ℕ) (hp : p + 2048 ≤ 4096) (ho : o + 128 ≤ 384) (j : Fin 2048) (l : Fin 128) (a : Fin 4096) (b : Fin 384)
      (_ : p + j.val = a.val) (_ : o + l.val = b.val), part x₁ p o hp ho (ix2 j l) = x₁ (ix3 0 a b) :=
    fun p o hp ho j l a b ha hb => congrArg₂ (fun a b => x₁ (ix3 0 a b)) (Fin.ext ha) (Fin.ext hb)
  have key0 : ∀ (j : Fin 2048) hp, (⟨0 + j.val, hp⟩ : Fin 4096) = Fin.castAdd 2048 j := fun j _ => Fin.ext (by simp)
  rcases (by omega : h.val < 3 ∨ 3 ≤ h.val) with hh | hh
  · have hg : keyHead h = 0 := Fin.ext (by show h.val / 3 = 0; omega)
    rw [headOut_lo x₀ x₁ r h d ⟨h.val, hh⟩ rfl, hg]
    refine head_apply _ _ _ _ _ _ (loLane d) (hiLane d) (by show 64 + d.val = (d.val + 64) % 128; omega) _ _ M ?_ ?_ ?_ ?_ ?_ ?_
    · intro j
      refine (stack0_scores x₀ q hq _ _ (hkk 0 (by omega)) ⟨h.val, hh⟩ r j).trans ?_
      simp only [lo, key0]
    · intro j
      refine (stack0_scores x₀ q hq _ _ (hkk 2048 (by omega)) ⟨h.val, hh⟩ r j).trans ?_
      simp only [lo]
      rfl
    · exact fun j => (vv 0 _ _ _ j _ (Fin.castAdd 2048 j) ⟨128 + d.val, by omega⟩ (by simp) rfl).trans (hv₀ _ d)
    · exact fun j => (vv 2048 _ _ _ j _ (Fin.natAdd 2048 j) ⟨128 + d.val, by omega⟩ rfl rfl).trans (hv₀ _ d)
    · exact fun j => (vv 0 _ _ _ j _ (Fin.castAdd 2048 j) ⟨192 + d.val, by omega⟩ (by simp) (by show 128 + (64 + d.val) = 192 + d.val; omega)).trans (ho₀ _ d)
    · exact fun j => (vv 2048 _ _ _ j _ (Fin.natAdd 2048 j) ⟨192 + d.val, by omega⟩ rfl (by show 128 + (64 + d.val) = 192 + d.val; omega)).trans (ho₀ _ d)
  · have hg : keyHead h = 1 := Fin.ext (by show h.val / 3 = 1; omega)
    have h3 : ∀ hp, (⟨3 + (h.val - 3), hp⟩ : Fin 6) = h := fun _ => Fin.ext (by show 3 + (h.val - 3) = h.val; omega)
    rw [headOut_hi x₀ x₁ r h d ⟨h.val - 3, by omega⟩ (by show h.val = 3 + (h.val - 3); omega), hg]
    refine head_apply _ _ _ _ _ _ (hiLane d) (loLane d) (by show d.val = (64 + d.val + 64) % 128; omega) _ _ M ?_ ?_ ?_ ?_ ?_ ?_
    · intro j
      refine (stack1_scores x₀ q hq _ _ (hkk 0 (by omega)) ⟨h.val - 3, by omega⟩ r j).trans ?_
      simp only [hi, key0]
      simp only [h3]
    · intro j
      refine (stack1_scores x₀ q hq _ _ (hkk 2048 (by omega)) ⟨h.val - 3, by omega⟩ r j).trans ?_
      simp only [hi]
      simp only [h3]
      rfl
    · exact fun j => (vv 0 _ _ _ j _ (Fin.castAdd 2048 j) ⟨320 + d.val, by omega⟩ (by simp) (by show 256 + (64 + d.val) = 320 + d.val; omega)).trans (hv₁ _ d)
    · exact fun j => (vv 2048 _ _ _ j _ (Fin.natAdd 2048 j) ⟨320 + d.val, by omega⟩ rfl (by show 256 + (64 + d.val) = 320 + d.val; omega)).trans (hv₁ _ d)
    · exact fun j => (vv 0 _ _ _ j _ (Fin.castAdd 2048 j) ⟨256 + d.val, by omega⟩ (by simp) rfl).trans (ho₁ _ d)
    · exact fun j => (vv 2048 _ _ _ j _ (Fin.natAdd 2048 j) ⟨256 + d.val, by omega⟩ rfl rfl).trans (ho₁ _ d)

end Cert.GqaIdeal.Attend

end
-- ==== Proof.Entry.lean ====
/- What the attention kernel finds in its two input arrays: the queries as given, and the keys, values and ones that the
   host lays side by side. -/
module

public import proofs.«01_k».proof.Proof.Block

@[expose] public section

set_option maxRecDepth 16384

noncomputable section

namespace Cert.GqaIdeal.Attend

open Cert.GqaIdeal Cert.GqaIdeal.Gen Idealize.ShloMosaic Idealize.ShloMosaic.TcCoe Idealize.SL.Sem

/-- Keys, the first value head, ones twice, the second value head, side by side. -/
def sideBySide (k : FVec Ideal S8x4096x128 .f32) (v o o' w : FVec Ideal S8x4096x64 .f32) : FVec Ideal S8x4096x384 .bf16 :=
  truncf .bf16 (concatenate S8x4096x384 2 [⟨S8x4096x128, k⟩, ⟨S8x4096x64, v⟩, ⟨S8x4096x64, o⟩, ⟨S8x4096x64, o'⟩, ⟨S8x4096x64, w⟩]
    concatenates_S8x4096x128_S8x4096x64_S8x4096x64_S8x4096x64_S8x4096x64_S8x4096x384_d2) bitsLt_bf16_f32

/-- The keys come first, -/
theorem sideBySide_k (k : FVec Ideal S8x4096x128 .f32) (v o o' w : FVec Ideal S8x4096x64 .f32) (b : Fin 8) (j : Fin 4096) (l : Fin 128)
    (hl) : sideBySide k v o o' w (ix3 b j ⟨l.val, hl⟩) = k (ix3 b j l) := by
  unfold sideBySide
  pointwise

/-- then the values of the first head, -/
theorem sideBySide_v (k : FVec Ideal S8x4096x128 .f32) (v o o' w : FVec Ideal S8x4096x64 .f32) (b : Fin 8) (j : Fin 4096) (d : Fin 64)
    (hl) : sideBySide k v o o' w (ix3 b j ⟨128 + d.val, hl⟩) = v (ix3 b j d) := by
  unfold sideBySide
  pointwise

/-- ones, -/
theorem sideBySide_o (k : FVec Ideal S8x4096x128 .f32) (v o o' w : FVec Ideal S8x4096x64 .f32) (b : Fin 8) (j : Fin 4096) (d : Fin 64)
    (hl) : sideBySide k v o o' w (ix3 b j ⟨192 + d.val, hl⟩) = o (ix3 b j d) := by
  unfold sideBySide
  pointwise
  rw [dif_neg (by omega), dif_neg (by omega), dif_pos (by omega)]
  exact congrArg (fun a => o (ix3 b j a)) (Fin.ext (by show 192 + d.val - 128 - 64 = d.val; omega))

/-- ones again, -/
theorem sideBySide_o' (k : FVec Ideal S8x4096x128 .f32) (v o o' w : FVec Ideal S8x4096x64 .f32) (b : Fin 8) (j : Fin 4096) (d : Fin 64)
    (hl) : sideBySide k v o o' w (ix3 b j ⟨256 + d.val, hl⟩) = o' (ix3 b j d) := by
  unfold sideBySide
  pointwise
  rw [dif_neg (by omega), dif_neg (by omega), dif_neg (by omega), dif_pos (by omega)]
  exact congrArg (fun a => o' (ix3 b j a)) (Fin.ext (by show 256 + d.val - 128 - 64 - 64 = d.val; omega))

/-- and the values of the second head. -/
theorem sideBySide_w (k : FVec Ideal S8x4096x128 .f32) (v o o' w : FVec Ideal S8x4096x64 .f32) (b : Fin 8) (j : Fin 4096) (d : Fin 64)
    (hl) : sideBySide k v o o' w (ix3 b j ⟨320 + d.val, hl⟩) = w (ix3 b j d) := by
  unfold sideBySide
  pointwise
  rw [dif_neg (by omega), dif_neg (by omega), dif_neg (by omega), dif_neg (by omega)]
  exact congrArg (fun a => w (ix3 b j a)) (Fin.ext (by show 320 + d.val - 128 - 64 - 64 - 64 = d.val; omega))

variable (m : (ℓ : Loc nD τ sig) → Buf (Elt Ideal) ℓ)

/-- The host buffers before the concatenation. -/
abbrev before (c : Dev nD) : Valuation τ sig (Elt Ideal) := StableHlo.after (List.take 4 hostOps0) (fun b => m (c, b))

/-- The last array of the host is the concatenation. -/
theorem concat_last (σ : Valuation τ sig (Elt Ideal)) :
    StableHlo.after (List.drop 4 hostOps0) σ (Proc.devRef .tc main_v4)
      = sideBySide (σ (Proc.devRef .tc main_arg1)) (σ (Proc.devRef .tc main_v1)) (σ (Proc.devRef .tc main_v0))
        (σ (Proc.devRef .tc main_v0)) (σ (Proc.devRef .tc main_v2)) := by
  simp only [hostOps0, StableHlo.after_cons, StableHlo.after_nil, List.drop]
  rw [StableHlo.unary_result, StableHlo.nary_result]
  rfl

/-- The keys before it. -/
theorem before_arg1 (c : Dev nD) : before m c (Proc.devRef .tc main_arg1) = m ((c : Thread nD τ).loc main_arg1) := by
  simp only [before, hostOps0, List.take]
  after_results

/-- The values of the first head before it. -/
theorem before_v0 (c : Dev nD) : before m c (Proc.devRef .tc main_v0)
    = broadcastInDim S8x4096x64 ![] bcast_S_S8x4096x64 (constant (F := Ideal) S_ .f32 0x3F800000#32) := by
  simp only [before, hostOps0, List.take]
  after_results

/-- The values of the second head before it. -/
theorem before_v1 (c : Dev nD) : before m c (Proc.devRef .tc main_v1)
    = extractStridedSlice S8x4096x64 ![0, 0, 0] (m ((c : Thread nD τ).loc main_arg2)) slices_S8x4096x128_S8x4096x64_0_0_0 := by
  simp only [before, hostOps0, List.take]
  after_results

/-- The ones before it. -/
theorem before_v2 (c : Dev nD) : before m c (Proc.devRef .tc main_v2)
    = extractStridedSlice S8x4096x64 ![0, 0, 64] (m ((c : Thread nD τ).loc main_arg2)) slices_S8x4096x128_S8x4096x64_0_0_64 := by
  simp only [before, hostOps0, List.take]
  after_results

/-- The array of keys and values that the kernel reads. -/
theorem entry_kv (c : Dev nD) : V m c main_v4
    = sideBySide (m ((c : Thread nD τ).loc main_arg1))
      (extractStridedSlice S8x4096x64 ![0, 0, 0] (m ((c : Thread nD τ).loc main_arg2)) slices_S8x4096x128_S8x4096x64_0_0_0)
      (broadcastInDim S8x4096x64 ![] bcast_S_S8x4096x64 (constant (F := Ideal) S_ .f32 0x3F800000#32))
      (broadcastInDim S8x4096x64 ![] bcast_S_S8x4096x64 (constant (F := Ideal) S_ .f32 0x3F800000#32))
      (extractStridedSlice S8x4096x64 ![0, 0, 64] (m ((c : Thread nD τ).loc main_arg2)) slices_S8x4096x128_S8x4096x64_0_0_64) := by
  rw [← before_arg1 m c, ← before_v0 m c, ← before_v1 m c, ← before_v2 m c]
  exact concat_last (before m c)

/-- The array of ones holds one. -/
theorem ones_apply (i : S8x4096x64.Idx) :
    broadcastInDim S8x4096x64 ![] bcast_S_S8x4096x64 (constant (F := Ideal) S_ .f32 0x3F800000#32) i = 1 := by
  show Ideal.ofBits .f32 0x3F800000#32 = 1
  simp

/-- The block of the grid point: its batch and its rows. -/
theorem win_q (t : Fin cfg0.N) : win0_0.index t = ![(grid0.coords t 0).val, (grid0.coords t 1).val, 0] :=
  (by decide +kernel : ∀ t : Fin grid0.N, win0_0.index t = ![(grid0.coords t 0).val, (grid0.coords t 1).val, 0]) t

/-- The key window is a whole sequence. -/
theorem win_kv (t : Fin cfg0.N) : win0_1.index t = ![(grid0.coords t 0).val, 0, 0] :=
  (by decide +kernel : ∀ t : Fin grid0.N, win0_1.index t = ![(grid0.coords t 0).val, 0, 0]) t

/-- The result window follows the query window. -/
theorem win_o (t : Fin cfg0.N) : win0_2.index t = ![(grid0.coords t 0).val, (grid0.coords t 1).val, 0] :=
  (by decide +kernel : ∀ t : Fin grid0.N, win0_2.index t = ![(grid0.coords t 0).val, (grid0.coords t 1).val, 0]) t

/-- The batch of a grid point, and a row of its block in the whole sequence. -/
def batch (t : Fin cfg0.N) : Fin 8 := ⟨(grid0.coords t 0).val, (grid0.coords t 0).isLt⟩
/-- The row of the sequence that a row of a block is. -/
def row (t : Fin cfg0.N) (r : Fin 256) : Fin 4096 :=
  ⟨(grid0.coords t 1).val * 256 + r.val, by have h : (grid0.coords t 1).val < 16 := (grid0.coords t 1).isLt; omega⟩

/-- A query block read at an index. -/
theorem blk_q (c : Dev nD) (t : Fin cfg0.N) (r : Fin 256) (l : Fin 384) :
    iblk m c 0 t (ix3 0 r l) = m ((c : Thread nD τ).loc main_arg0) (ix3 (batch t) (row t r) l) := by
  unfold iblk
  blk_simp
  rw [V_main_arg0]
  refine congrArg (m ((c : Thread nD τ).loc main_arg0)) ?_
  blk_ext [win_q]
  all_goals rfl

/-- A key block read at an index. -/
theorem blk_kv (c : Dev nD) (t : Fin cfg0.N) (j : Fin 4096) (l : Fin 384) :
    iblk m c 1 t (ix3 0 j l) = V m c main_v4 (ix3 (batch t) j l) := by
  unfold iblk
  blk_simp
  refine congrArg (V m c main_v4) ?_
  blk_ext [win_kv]
  all_goals rfl

end Cert.GqaIdeal.Attend

end
-- ==== Proof.Final.lean ====
/- The attention kernel's whole output: at every batch, row, head and lane the plain softmax-weighted sum of the values. -/
module

public import proofs.«01_k».proof.Proof.Entry

@[expose] public section

set_option maxRecDepth 16384

noncomputable section

namespace Cert.GqaIdeal.Attend

open Cert.GqaIdeal Cert.GqaIdeal.Gen Idealize.ShloMosaic Idealize.ShloMosaic.TcCoe Idealize.SL.Sem

/-- Lane `d` of key head `g` among the 128 lanes of keys and of values. -/
def keyLane (g : Fin 2) (d : Fin 64) : Fin 128 := ⟨g.val * 64 + d.val, by omega⟩

/-- The score of query `(b, s)` of head `h` with key `j`, over real queries and keys. -/
def score (q : S8x4096x384.Idx → ℝ) (k : S8x4096x128.Idx → ℝ) (b : Fin 8) (s : Fin 4096) (h : Fin 6) (j : Fin (2048 + 2048)) : ℝ :=
  (∑ e : Fin 64, k (ix3 b j (keyLane (keyHead h) e)) * q (ix3 b s (headLane h e))) * (1 / 8)

variable (m : (ℓ : Loc nD τ sig) → Buf (Elt Ideal) ℓ)

/-- What a grid point leaves in its block. -/
theorem block_value (c : Dev nD) (q : S8x4096x384.Idx → ℝ) (k : S8x4096x128.Idx → ℝ)
    (hq : ∀ i, m ((c : Thread nD τ).loc main_arg0) i = (q i : EReal)) (hk : ∀ i, m ((c : Thread nD τ).loc main_arg1) i = (k i : EReal))
    (t : Fin cfg0.N) (r : Fin 256) (h : Fin 6) (d : Fin 64) (M : ℝ) :
    outsAt0 m c t (ix3 0 r (headLane h d))
      = softmaxSum (score q k (batch t) (row t r) h)
        (fun j => m ((c : Thread nD τ).loc main_arg2) (ix3 (batch t) j (keyLane (keyHead h) d))) M := by
  rw [outs_apply]
  refine headOut_eq (iblk m c 0 t) (iblk m c 1 t) (fun r l => q (ix3 (batch t) (row t r) l))
    (fun j g e => k (ix3 (batch t) j (keyLane g e)))
    (fun j g e => m ((c : Thread nD τ).loc main_arg2) (ix3 (batch t) j (keyLane g e))) ?_ ?_ ?_ ?_ ?_ ?_ ?_ r h d M
  · exact fun r l => (blk_q m c t r l).trans (hq _)
  · intro j d
    rw [blk_kv, entry_kv]
    refine (sideBySide_k _ _ _ _ _ _ _ (⟨d.val, by omega⟩ : Fin 128) _).trans ((hk _).trans ?_)
    exact congrArg (fun l => ((k (ix3 (batch t) j l) : ℝ) : EReal)) (Fin.ext (by show d.val = 0 * 64 + d.val; omega))
  · intro j d
    rw [blk_kv, entry_kv]
    refine (sideBySide_k _ _ _ _ _ _ _ (⟨64 + d.val, by omega⟩ : Fin 128) _).trans ((hk _).trans ?_)
    exact congrArg (fun l => ((k (ix3 (batch t) j l) : ℝ) : EReal)) (Fin.ext (by show 64 + d.val = 1 * 64 + d.val; omega))
  · intro j d
    rw [blk_kv, entry_kv]
    refine (sideBySide_v _ _ _ _ _ _ _ d _).trans ?_
    pointwise
    exact congrArg (fun l => m ((c : Thread nD τ).loc main_arg2) (ix3 (batch t) j l)) (Fin.ext (by show d.val = 0 * 64 + d.val; omega))
  · intro j d
    rw [blk_kv, entry_kv]
    exact (sideBySide_o _ _ _ _ _ _ _ d _).trans (ones_apply _)
  · intro j d
    rw [blk_kv, entry_kv]
    exact (sideBySide_o' _ _ _ _ _ _ _ d _).trans (ones_apply _)
  · intro j d
    rw [blk_kv, entry_kv]
    refine (sideBySide_w _ _ _ _ _ _ _ d _).trans ?_
    pointwise
    exact congrArg (fun l => m ((c : Thread nD τ).loc main_arg2) (ix3 (batch t) j l)) (Fin.ext (by show 64 + d.val = 1 * 64 + d.val; omega))

/-- An array that holds the plain attention at every coordinate is the kernel's output. -/
theorem final (c : Dev nD) (q : S8x4096x384.Idx → ℝ) (k : S8x4096x128.Idx → ℝ)
    (hq : ∀ i, m ((c : Thread nD τ).loc main_arg0) i = (q i : EReal)) (hk : ∀ i, m ((c : Thread nD τ).loc main_arg1) i = (k i : EReal))
    (f : S8x4096x384.Idx → EReal)
    (hf : ∀ b s h d, ∃ M : ℝ, f (ix3 b s (headLane h d)) = softmaxSum (score q k b s h)
      (fun j => m ((c : Thread nD τ).loc main_arg2) (ix3 b j (keyLane (keyHead h) d))) M) :
    (dats m 0 c).arrAt 2 cfg0.N = f := by
  refine (dats m 0 c).arrAt_eq_of_covers 2 _ (by decide +kernel) fun t _ y => ?_
  blk_simp
  rw [after0_2]
  obtain ⟨r, h, d, rfl⟩ : ∃ (r : Fin 256) (h : Fin 6) (d : Fin 64), y = (ix3 0 r (headLane h d) : S1x256x384.Idx) := by
    have y0 : (y 0).val < 1 := (y 0).isLt
    have y2 : (y 2).val < 384 := (y 2).isLt
    refine ⟨y 1, ⟨(y 2).val / 64, by omega⟩, ⟨(y 2).val % 64, by omega⟩, ?_⟩
    funext a
    refine Fin.ext ?_
    fin_cases a
    · show (y 0).val = 0; omega
    · rfl
    · show (y 2).val = (y 2).val / 64 * 64 + (y 2).val % 64; omega
  obtain ⟨M, hM⟩ := hf (batch t) (row t r) h d
  refine (block_value m c q k hq hk t r h d M).trans (hM.symm.trans (congrArg f ?_))
  blk_ext [win_o]
  all_goals rfl

end Cert.GqaIdeal.Attend

end
-- ==== Proof.Plain.lean ====
/- The plain attention at one output coordinate: the softmax-weighted sum of the values, over real queries and keys. -/
module

public import proofs.«01_k».proof.Proof.Gen.GqaRefIdeal.Run
public import proofs.«01_k».proof.Proof.Gen.GqaRefIdeal.Read
public import proofs.«01_k».proof.Proof.Final

@[expose] public section

set_option maxRecDepth 16384

noncomputable section

namespace Cert.GqaRefIdeal.Plain

open Cert.GqaRefIdeal Cert.GqaRefIdeal.Gen Cert.GqaRefIdeal.Read Idealize.ShloMosaic
open Cert.GqaIdeal.Attend (score softmaxSum headLane keyLane keyHead ofBits_neg_inf)

variable (x₀ : FVec Ideal S8x4096x384 .f32) (x₁ x₂ : FVec Ideal S8x4096x128 .f32)

/-- Query head `i` of key head `g`. -/
def headOf (g : Fin 2) (i : Fin 3) : Fin 6 := ⟨g.val * 3 + i.val, by omega⟩

/-- The reference's scale is one eighth. -/
theorem eighth : Ideal.ofBits .f32 0x3E000000#32 = ((1 / 8 : ℝ) : EReal) := by
  simp [Ideal.ofBits, Ideal.ieee]
  refine (EReal.coe_mul (8388608 : ℝ) ((2 : ℝ) ^ 26)⁻¹).symm.trans (congrArg _ ?_)
  norm_num

/-- The queries by head. -/
theorem v0_at (b : Fin 8) (s : Fin 4096) (g : Fin 2) (i : Fin 3) (e : Fin 64) :
    val_main_v0 (F := Ideal) x₀ (ix5 b s g i e) = x₀ (ix3 b s (headLane (headOf g i) e)) := by
  rw [val_main_v0_apply]
  refine congrArg x₀ (funext fun a => Fin.ext ?_)
  fin_cases a
  · show ((((b.val * 4096 + s.val) * 2 + g.val) * 3 + i.val) * 64 + e.val) / 1572864 = b.val; omega
  · show ((((b.val * 4096 + s.val) * 2 + g.val) * 3 + i.val) * 64 + e.val) / 384 % 4096 = s.val; omega
  · show ((((b.val * 4096 + s.val) * 2 + g.val) * 3 + i.val) * 64 + e.val) % 384 = (g.val * 3 + i.val) * 64 + e.val; omega

/-- The keys by head. -/
theorem v1_at (b : Fin 8) (j : Fin 4096) (g : Fin 2) (e : Fin 64) :
    val_main_v1 (F := Ideal) x₁ (ix4 b j g e) = x₁ (ix3 b j (keyLane g e)) := by
  rw [val_main_v1_apply]
  refine congrArg x₁ (funext fun a => Fin.ext ?_)
  fin_cases a
  · show (((b.val * 4096 + j.val) * 2 + g.val) * 64 + e.val) / 524288 = b.val; omega
  · show (((b.val * 4096 + j.val) * 2 + g.val) * 64 + e.val) / 128 % 4096 = j.val; omega
  · show (((b.val * 4096 + j.val) * 2 + g.val) * 64 + e.val) % 128 = g.val * 64 + e.val; omega

/-- The values by head. -/
theorem v2_at (b : Fin 8) (j : Fin 4096) (g : Fin 2) (e : Fin 64) :
    val_main_v2 (F := Ideal) x₂ (ix4 b j g e) = x₂ (ix3 b j (keyLane g e)) := by
  rw [val_main_v2_apply]
  refine congrArg x₂ (funext fun a => Fin.ext ?_)
  fin_cases a
  · show (((b.val * 4096 + j.val) * 2 + g.val) * 64 + e.val) / 524288 = b.val; omega
  · show (((b.val * 4096 + j.val) * 2 + g.val) * 64 + e.val) / 128 % 4096 = j.val; omega
  · show (((b.val * 4096 + j.val) * 2 + g.val) * 64 + e.val) % 128 = g.val * 64 + e.val; omega

/-- A product of a query and a key. -/
theorem v3_at (b : Fin 8) (s j : Fin 4096) (g : Fin 2) (i : Fin 3) :
    val_main_v3 (F := Ideal) x₀ x₁ (ix5 b g j s i)
      = ∑ e : Fin 64, x₁ (ix3 b j (keyLane g e)) * x₀ (ix3 b s (headLane (headOf g i) e)) := by
  rw [val_main_v3_apply]
  refine Finset.sum_congr rfl fun e _ => ?_
  rw [← v0_at x₀ b s g i e, ← v1_at x₁ b j g e]
  refine congrArg₂ (fun p q => val_main_v1 (F := Ideal) x₁ p * val_main_v0 (F := Ideal) x₀ q) ?_ ?_ <;>
    funext a <;> fin_cases a <;> rfl

variable (q : S8x4096x384.Idx → ℝ) (k : S8x4096x128.Idx → ℝ)
variable (hq : ∀ i, x₀ i = (q i : EReal)) (hk : ∀ i, x₁ i = (k i : EReal))

/-- The key head of a query head. -/
theorem keyHead_of (g : Fin 2) (i : Fin 3) : keyHead (headOf g i) = g :=
  Fin.ext (by show (g.val * 3 + i.val) / 3 = g.val; omega)

include hq hk in
/-- The scaled scores, -/
theorem v6_at (b : Fin 8) (s j : Fin 4096) (g : Fin 2) (i : Fin 3) :
    val_main_v6 (F := Ideal) x₀ x₁ (ix5 b g i s j) = (score q k b s (headOf g i) j : EReal) := by
  have h4 : val_main_v4 (F := Ideal) x₀ x₁ (ix5 b g i s j) = val_main_v3 (F := Ideal) x₀ x₁ (ix5 b g j s i) := by
    rw [val_main_v4_apply]
    refine congrArg (val_main_v3 (F := Ideal) x₀ x₁) ?_
    funext a; fin_cases a <;> rfl
  have h5 : val_main_v5 (F := Ideal) (ix5 b g i s j) = ((1 / 8 : ℝ) : EReal) := by
    rw [val_main_v5_apply]; exact eighth
  show val_main_v4 (F := Ideal) x₀ x₁ (ix5 b g i s j) * val_main_v5 (F := Ideal) (ix5 b g i s j) = _
  rw [h4, h5, v3_at]
  simp only [hq, hk]
  unfold score
  rw [keyHead_of, EReal.coe_mul, Cert.Softmax.coe_sum]
  simp only [EReal.coe_mul]

/-- The maximum, from −∞, of real numbers over a nonempty fibre is real. -/
theorem reduce_max_real {s t u : Shape} {axes : List (Fin s.rank)} (x : s.Idx → EReal) (init : u.Idx → EReal)
    (h : s.ReducesTo axes t) (hu : 0 < u.numel) (j : t.Idx) (i : s.Idx) (hi : h.drop i = j)
    (h₀ : init (Shape.Idx.first hu) = ⊥) (hx : ∀ p, ∃ r : ℝ, x p = r) :
    ∃ r : ℝ, Host.reduce (FloatOps.maximumf (F := Ideal) (φ := .f32)) x init h hu j = r := by
  have e := Host.reduce_eq_fold (α := EReal) max x init h hu j
  rw [h₀] at e
  obtain ⟨r, hr⟩ := Cert.Softmax.fold_max_real (Finset.univ.filter fun i => h.drop i = j) i (by simp [hi]) x hx
  exact ⟨r, e.trans hr⟩

/-- The row of scores that an index belongs to. -/
theorem drop_at (b : Fin 8) (g : Fin 2) (i : Fin 3) (s : Fin 4096) :
    reducesTo_S8x2x3x4096x4096_S8x2x3x4096_d4.drop (ix5 b g i s 0) = ix4 b g i s := by
  funext a
  refine Fin.ext ?_
  rw [Shape.ReducesTo.drop_apply_val]
  fin_cases a <;> rfl

/-- The start of the maximum. -/
theorem v8_at (p : S8x2x3x4096.Idx) : val_main_v8 (F := Ideal) p = ⊥ := by
  rw [val_main_v8_apply, val_main_cst_1_apply]
  exact ofBits_neg_inf

include hq hk in
/-- The scores are real. -/
theorem v6_real (p : S8x2x3x4096x4096.Idx) : ∃ r : ℝ, val_main_v6 (F := Ideal) x₀ x₁ p = r :=
  ⟨_, (congrArg (val_main_v6 (F := Ideal) x₀ x₁) (eq_ix5 p)).trans (v6_at x₀ x₁ q k hq hk (p 0) (p 3) (p 4) (p 1) (p 2))⟩

include hq hk in
/-- The maximum of a row of scores. -/
theorem v7_at (b : Fin 8) (s : Fin 4096) (g : Fin 2) (i : Fin 3) :
    ∃ M : ℝ, val_main_v7 (F := Ideal) x₀ x₁ (ix4 b g i s) = M := by
  unfold val_main_v7
  have h₀ : val_main_cst_0 (F := Ideal) (Shape.Idx.first h_S_) = ⊥ := by
    rw [val_main_cst_0_apply]
    exact ofBits_neg_inf
  have hx := v6_real x₀ x₁ q k hq hk
  revert h₀ hx
  generalize val_main_v6 (F := Ideal) x₀ x₁ = y
  generalize val_main_cst_0 (F := Ideal) = z
  intro h₀ hx
  exact reduce_max_real y z _ _ _ _ (drop_at b g i s) h₀ hx

include hq hk in
/-- their maximum, a real number, -/
theorem v9_at (b : Fin 8) (s : Fin 4096) (g : Fin 2) (i : Fin 3) :
    ∃ M : ℝ, val_main_v9 (F := Ideal) x₀ x₁ (ix4 b g i s) = M := by
  obtain ⟨M, hM⟩ := v7_at x₀ x₁ q k hq hk b s g i
  refine ⟨M, ?_⟩
  rw [val_main_v9_apply, hM, v8_at, Ideal.maximumf_eq_max]
  exact max_eq_right bot_le

include hq hk in
/-- and the output. -/
theorem value (b : Fin 8) (s : Fin 4096) (h : Fin 6) (d : Fin 64) :
    ∃ M : ℝ, val_main_v21 (F := Ideal) x₀ x₁ x₂ (ix3 b s (headLane h d))
      = softmaxSum (score q k b s h) (fun j => x₂ (ix3 b j (keyLane (keyHead h) d))) M := by
  obtain ⟨g, i, rfl⟩ : ∃ g i, h = headOf g i :=
    ⟨⟨h.val / 3, by omega⟩, ⟨h.val % 3, by omega⟩, Fin.ext (by show h.val = h.val / 3 * 3 + h.val % 3; omega)⟩
  obtain ⟨M, hM⟩ := v9_at x₀ x₁ q k hq hk b s g i
  refine ⟨M, ?_⟩
  have h11 : ∀ j, val_main_v11 (F := Ideal) x₀ x₁ (ix5 b g i s j) = (M : EReal) := fun j => by
    rw [val_main_v11_apply, val_main_v10_apply, ← hM]
    refine congrArg (val_main_v9 (F := Ideal) x₀ x₁) ?_
    funext a; fin_cases a <;> rfl
  have h13 : ∀ j, val_main_v13 (F := Ideal) x₀ x₁ (ix5 b g i s j)
      = Ideal.exp ((score q k b s (headOf g i) j : EReal) - M) := fun j => by
    show Ideal.exp (val_main_v6 (F := Ideal) x₀ x₁ (ix5 b g i s j) - val_main_v11 (F := Ideal) x₀ x₁ (ix5 b g i s j)) = _
    rw [h11, v6_at x₀ x₁ q k hq hk]
  have h16 : ∀ j, val_main_v16 (F := Ideal) x₀ x₁ (ix5 b g i s j)
      = 0 + ∑ j : Fin 4096, Ideal.exp ((score q k b s (headOf g i) j : EReal) - M) := fun j => by
    rw [val_main_v16_apply, val_main_v15_apply, val_main_v14_apply]
    refine congrArg₂ (· + ·) ?_ (Finset.sum_congr rfl fun j _ => ?_)
    · show Ideal.ofBits .f32 0x00000000#32 = 0
      simp
    · rw [← h13 j]
      refine congrArg (val_main_v13 (F := Ideal) x₀ x₁) ?_
      funext a; fin_cases a <;> rfl
  have h20 : val_main_v20 (F := Ideal) x₀ x₁ x₂ (ix3 b s (headLane (headOf g i) d))
      = val_main_v18 (F := Ideal) x₀ x₁ x₂ (ix5 b g d i s) := by
    rw [val_main_v20_apply, val_main_v19_apply]
    refine congrArg (val_main_v18 (F := Ideal) x₀ x₁ x₂) (funext fun a => Fin.ext ?_)
    fin_cases a
    · show ((b.val * 4096 + s.val) * 384 + ((g.val * 3 + i.val) * 64 + d.val)) / 1572864 = b.val; omega
    · show ((b.val * 4096 + s.val) * 384 + ((g.val * 3 + i.val) * 64 + d.val)) / 192 % 2 = g.val; omega
    · show ((b.val * 4096 + s.val) * 384 + ((g.val * 3 + i.val) * 64 + d.val)) % 64 = d.val; omega
    · show ((b.val * 4096 + s.val) * 384 + ((g.val * 3 + i.val) * 64 + d.val)) / 64 % 3 = i.val; omega
    · show ((b.val * 4096 + s.val) * 384 + ((g.val * 3 + i.val) * 64 + d.val)) / 384 % 4096 = s.val; omega
  refine h20.trans ((val_main_v18_apply x₀ x₁ x₂ _).trans ?_)
  rw [keyHead_of]
  refine Finset.sum_congr rfl fun j _ => ?_
  show _ = x₂ (ix3 b j (keyLane g d)) * _
  rw [← v2_at x₂ b j g d, ← h13 j, ← h16 j]
  refine congrArg₂ (fun p r => val_main_v2 (F := Ideal) x₂ p * val_main_v17 (F := Ideal) x₀ x₁ r) ?_ ?_ <;>
    funext a <;> fin_cases a <;> rfl

end Cert.GqaRefIdeal.Plain

end
-- ==== Proof.Finite.lean ====
/- The precondition of the attention's claim: every query and every key is a real number. -/
module

public import proofs.«01_k».proof.Pre_finite
public import proofs.«01_k».proof.Proof.Gen.Pre_finite
public import Idealize.ShloMosaic.Lib.ReduceAll
public import Idealize.ShloMosaic.Lib.Pointwise

@[expose] public section

noncomputable section

namespace Cert.Pre_finite

open Idealize.ShloMosaic

/-- The word of infinity. -/
theorem ofBits_inf : Ideal.ofBits .f32 0x7F800000#32 = ⊤ := by simp [Ideal.ofBits, Ideal.ieee]

/-- An extended real whose absolute value is less than infinity is its real part. -/
theorem real_of_lt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [ofBits_inf] at h
  have h' : BitVec.ofBool (decide (max x (-x) < (⊤ : EReal))) = 1#1 := h
  have hlt : max x (-x) < (⊤ : EReal) := by
    by_contra hn
    rw [decide_eq_false hn] at h'
    exact absurd h' (by decide)
  refine (EReal.coe_toReal (fun e => ?_) (fun e => ?_)).symm
  · rw [e] at hlt; simp at hlt
  · rw [e] at hlt; simp at hlt

/-- An array with no axis has one index. -/
theorem one_index : Subsingleton S_.Idx := ⟨fun _ _ => funext fun a => a.elim0⟩

/-- Under the precondition the queries and the keys are real. -/
theorem real (x₀ : FVec Ideal S8x4096x384 .f32) (x₁ x₂ : FVec Ideal S8x4096x128 .f32)
    (h : fn (F := Ideal) x₀ x₁ x₂ = fun _ => 1#1) :
    (∀ i, x₀ i = (((x₀ i).toReal : ℝ) : EReal)) ∧ ∀ i, x₁ i = (((x₁ i).toReal : ℝ) : EReal) := by
  haveI := one_index
  obtain ⟨h₀, h₁⟩ := IntOp.andi_eq_one.1 (congrFun h (Shape.Idx.first Gen.h_S_))
  exact ⟨fun i => real_of_lt _ (Host.reduce_andi_all _ _ _ _ _ h₀ i), fun i => real_of_lt _ (Host.reduce_andi_all _ _ _ _ _ h₁ i)⟩

end Cert.Pre_finite

end
-- ==== Proof.GqaClaims.lean ====
/- The claims about the grouped attention: it runs, its idealized form differs by the named constant only, and its result is the plain attention's. -/
module

public import proofs.«01_k».proof.Defs
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gen.GqaRefIdeal.Read
public import proofs.«01_k».proof.Proof.Final
public import proofs.«01_k».proof.Proof.Plain
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem
open Cert.GqaIdeal.Attend (score softmaxSum headLane keyLane keyHead)

/-- The grouped attention runs and leaves its arguments as they were. -/
theorem frame_gqa : Cert.quiescent_Gqa := fun m ρ _ => Cert.Gqa.Gen.frame m ρ

/-- So does its idealized form, -/
theorem frame_gqaIdeal : Cert.quiescent_GqaIdeal := fun m ρ _ => Cert.GqaIdeal.Gen.frame m ρ

/-- also under the precondition, -/
theorem frame_gqaIdeal_finite : Cert.quiescent_GqaIdeal_pre_finite := fun m ρ _ => Cert.GqaIdeal.Gen.frame m ρ

/-- and so does the plain attention, -/
theorem frame_gqaRefIdeal : Cert.quiescent_GqaRefIdeal := fun m ρ _ =>
  (θ_run (Cert.GqaRefIdeal.defs (F := Ideal)) _ _).mono
    (fun r h => ⟨fun c => ⟨(h c).2.1, (h c).2.2.1, (h c).2.2.2⟩, sem_eq_zero_of_no_sems (by decide) r.2⟩)
    (Cert.GqaRefIdeal.Value.run (F := Ideal) m ρ)

/-- also under the precondition. -/
theorem frame_gqaRefIdeal_finite : Cert.quiescent_GqaRefIdeal_pre_finite := fun m ρ _ => frame_gqaRefIdeal m ρ trivial

/-- The named constant is the number that the kernel's word rounds. -/
theorem preserves_gqa : Cert.preserves_Gqa_GqaIdeal :=
  IdealRules.named_const.statement Cert.GqaIdeal.κ "scale_log2e" .f32 0x3E38AA3B#32 (((8 * (Real.log 2))⁻¹ : ℝ) : EReal) rfl

/-- Over real queries and keys the blockwise attention and the plain one leave the same array. -/
theorem algebraic_gqa : Cert.algebraic_GqaIdeal_GqaRefIdeal_pre_finite := by
  intro m ρ m' ρ' pre hagree
  refine ⟨fun c => Cert.GqaRefIdeal.Read.val_main_v21 (F := Ideal)
    (m' ((c.tc : Thread Cert.GqaRefIdeal.nD Cert.GqaRefIdeal.τ).loc Cert.GqaRefIdeal.main_arg0))
    (m' ((c.tc : Thread Cert.GqaRefIdeal.nD Cert.GqaRefIdeal.τ).loc Cert.GqaRefIdeal.main_arg1))
    (m' ((c.tc : Thread Cert.GqaRefIdeal.nD Cert.GqaRefIdeal.τ).loc Cert.GqaRefIdeal.main_arg2)), ?_, ?_⟩
  · refine (θ_run (Cert.GqaIdeal.defs (F := Ideal)) _ _).mono (fun r h c => ⟨(h c).1.trans ?_, (h c).2⟩) (Cert.GqaIdeal.Value.run_blocks (F := Ideal) m ρ)
    obtain ⟨hq, hk⟩ := Cert.Pre_finite.real _ _ _ (pre c)
    obtain ⟨e₀, e₁, e₂⟩ := hagree c
    dsimp only
    rw [e₀, e₁, e₂]
    exact Cert.GqaIdeal.Attend.final m c _ _ hq hk _ fun b s h d =>
      Cert.GqaRefIdeal.Plain.value _ _ _ _ _ hq hk b s h d
  · exact (θ_run (Cert.GqaRefIdeal.defs (F := Ideal)) _ _).mono
      (fun r h c => ⟨(h c).1.trans (Cert.GqaRefIdeal.Read.val_main_v21_eq (F := Ideal) _ _ _), (h c).2⟩) (Cert.GqaRefIdeal.Value.run (F := Ideal) m' ρ')

end Cert.Proof

end
-- ==== Proof.FfnMath.lean ====
/- The end of the layer for one row, as mathematics: the three attentions' outputs normed and projected onto the residual
   stream, and the gated feed-forward network whose gate is a convolution over three consecutive rows. -/
module

public import Idealize.ShloMosaic.Lib.Pipeline.ValueKit
public import Idealize.ShloMosaic.Lib.Pointwise

@[expose] public section

set_option maxRecDepth 16384

noncomputable section

namespace Cert.Feed

open Idealize.ShloMosaic

/-- The number added to a mean of squares, -/
def eps : EReal := Ideal.ofBits .f32 0x358637BD#32
/-- one half, -/
def half : EReal := Ideal.ofBits .f32 0x3F000000#32
/-- and the square root of a half as written in 32 bits. -/
def root : EReal := Ideal.ofBits .f32 0x3F3504F3#32

/-- The layer's weights. -/
structure Weights where
  g : Fin 1024 → EReal
  wo : Fin 1024 → Fin 1024 → EReal
  g2 : Fin 1024 → EReal
  wg : Fin 1024 → Fin 5632 → EReal
  cw : Fin 3 → Fin 2816 → EReal
  cb : Fin 2816 → EReal
  wd : Fin 2816 → Fin 1024 → EReal

/-- One row of the inputs: the three attentions' outputs and the residual stream. -/
structure Row where
  a : Fin 256 → EReal
  d : Fin 384 → EReal
  c : Fin 384 → EReal
  x : Fin 1024 → EReal

/-- The root-mean-square norm of a row, `n` being the number of its lanes. -/
def rms {N : ℕ} (n : EReal) (x g : Fin N → EReal) (l : Fin N) : EReal :=
  x l * Ideal.rsqrt (Ideal.div (∑ k, x k * x k) n + eps) * g l

/-- The three attentions' outputs, each normed, side by side. -/
def mix (W : Weights) (R : Row) (l : Fin 1024) : EReal :=
  if h : l.val < 256 then rms (Ideal.ofBits .f32 0x43800000#32) R.a (fun k => W.g ⟨k.val, by omega⟩) ⟨l.val, h⟩
  else if h' : l.val - 256 < 384 then
    rms (Ideal.ofBits .f32 0x43C00000#32) R.d (fun k => W.g ⟨256 + k.val, by omega⟩) ⟨l.val - 256, h'⟩
  else rms (Ideal.ofBits .f32 0x43C00000#32) R.c (fun k => W.g ⟨640 + k.val, by omega⟩) ⟨l.val - 256 - 384, by omega⟩

/-- The residual stream after the attentions, -/
def resid (W : Weights) (R : Row) (l : Fin 1024) : EReal := R.x l + ∑ k, mix W R k * W.wo k l

/-- and its norm. -/
def hid (W : Weights) (R : Row) (l : Fin 1024) : EReal := rms (Ideal.ofBits .f32 0x44800000#32) (resid W R) W.g2 l

/-- The gate before the convolution, of a normed row, -/
def gate (W : Weights) (h : Fin 1024 → EReal) (c : Fin 2816) : EReal := ∑ k, h k * W.wg k ⟨c.val, by omega⟩

/-- and what it multiplies. -/
def up (W : Weights) (h : Fin 1024 → EReal) (c : Fin 2816) : EReal := ∑ k, h k * W.wg k ⟨2816 + c.val, by omega⟩

/-- The convolution of the gate over the row before, the row and the row after. -/
def conv (W : Weights) (p h n : Fin 2816 → EReal) (c : Fin 2816) : EReal :=
  p c * W.cw 0 c + W.cb c + h c * W.cw 1 c + n c * W.cw 2 c

/-- The Gaussian error linear unit. -/
def gelu (z : EReal) : EReal := half * z * (1 + Ideal.erf (z * root))

/-- The gates of a sequence of 4096 rows with a row of zeros before and a row of zeros after. -/
def padded (W : Weights) (R : Fin 4096 → Row) (j : ℕ) (c : Fin 2816) : EReal :=
  if h : 1 ≤ j ∧ j - 1 < 4096 then gate W (hid W (R ⟨j - 1, h.2⟩)) c else 0

/-- The output of a sequence at row `s` and lane `l`. -/
def out (W : Weights) (R : Fin 4096 → Row) (s : Fin 4096) (l : Fin 1024) : EReal :=
  resid W (R s) l + ∑ c, gelu (conv W (padded W R s.val) (padded W R (s.val + 1)) (padded W R (s.val + 2)) c)
    * up W (hid W (R s)) c * W.wd c l

/-- A row of zeros has a gate of zeros. -/
theorem gate_zero (W : Weights) (c : Fin 2816) : gate W (fun _ => 0) c = 0 := by
  unfold gate; simp

end Cert.Feed
-- ==== Proof.FfnTile.lean ====
/- The values of the feed-forward kernel's body, one at a time, at one row and one lane. -/
module

public import proofs.«01_k».proof.Proof.Gen.FfnIdeal.Skeleton
public import proofs.«01_k».proof.Proof.FfnMath

@[expose] public section

set_option maxRecDepth 16384

noncomputable section

namespace Cert.FfnIdeal.Tile

open Cert.FfnIdeal Cert.FfnIdeal.Gen Idealize.ShloMosaic Idealize.ShloMosaic.TcCoe Idealize.SL.Sem Cert.Feed

/-- The rows a grid point works on: the last 16 rows before its block, the block's 1024 and the first 16 after it. -/
def ext {N : ℕ} (p : Fin 16 → Fin N → EReal) (m : Fin 1024 → Fin N → EReal) (n : Fin 16 → Fin N → EReal)
    (r : Fin 1056) (l : Fin N) : EReal :=
  if h : r.val < 16 then p ⟨r.val, h⟩ l
  else if h' : r.val - 16 < 1024 then m ⟨r.val - 16, h'⟩ l else n ⟨r.val - 16 - 1024, by omega⟩ l

/-- The rows of all four inputs. -/
def rows (a₁ : Vec Ideal S1024x256 .bf16) (a₀ a₂ : Vec Ideal S16x256 .bf16) (d₁ : Vec Ideal S1024x384 .bf16)
    (d₀ d₂ : Vec Ideal S16x384 .bf16) (c₁ : Vec Ideal S1024x384 .bf16) (c₀ c₂ : Vec Ideal S16x384 .bf16)
    (x₁ : Vec Ideal S1024x1024 .f32) (x₀ x₂ : Vec Ideal S16x1024 .f32) (r : Fin 1056) : Row where
  a := ext (fun i l => a₀ (ix2 i l)) (fun i l => a₁ (ix2 i l)) (fun i l => a₂ (ix2 i l)) r
  d := ext (fun i l => d₀ (ix2 i l)) (fun i l => d₁ (ix2 i l)) (fun i l => d₂ (ix2 i l)) r
  c := ext (fun i l => c₀ (ix2 i l)) (fun i l => c₁ (ix2 i l)) (fun i l => c₂ (ix2 i l)) r
  x := ext (fun i l => x₀ (ix2 i l)) (fun i l => x₁ (ix2 i l)) (fun i l => x₂ (ix2 i l)) r

section
variable (a₁ : Vec Ideal S1024x256 .bf16) (a₀ a₂ : Vec Ideal S16x256 .bf16) (d₁ : Vec Ideal S1024x384 .bf16)
    (d₀ d₂ : Vec Ideal S16x384 .bf16) (c₁ : Vec Ideal S1024x384 .bf16) (c₀ c₂ : Vec Ideal S16x384 .bf16)
    (x₁ : Vec Ideal S1024x1024 .f32) (x₀ x₂ : Vec Ideal S16x1024 .f32) (W : Weights)

/-- The first attention's rows, normed. -/
theorem pay1_at (g : Vec Ideal S1x256 .f32) (r : Fin 1056) (l : Fin 256) :
    k0_pay1 a₀ a₁ a₂ g (ix2 r l) = rms (Ideal.ofBits .f32 0x43800000#32)
      (ext (fun i l => a₀ (ix2 i l)) (fun i l => a₁ (ix2 i l)) (fun i l => a₂ (ix2 i l)) r) (fun k => g (ix2 0 k)) l := by
  unfold_payloads
  pointwise
  rfl

/-- The three attentions' rows, normed and side by side. -/
theorem pay4_at (ga : Vec Ideal S1x256 .f32) (gd gc : Vec Ideal S1x384 .f32)
    (ha : ∀ k : Fin 256, ga (ix2 0 k) = W.g ⟨k.val, by omega⟩) (hd : ∀ k : Fin 384, gd (ix2 0 k) = W.g ⟨256 + k.val, by omega⟩)
    (hc : ∀ k : Fin 384, gc (ix2 0 k) = W.g ⟨640 + k.val, by omega⟩) (r : Fin 1056) (l : Fin 1024) :
    k0_pay4 (k0_pay1 a₀ a₁ a₂ ga) (k0_pay2 d₀) (k0_pay3 d₁) d₂ gd c₀ c₁ c₂ gc (ix2 r l)
      = mix W (rows a₁ a₀ a₂ d₁ d₀ d₂ c₁ c₀ c₂ x₁ x₀ x₂ r) l := by
  have h1 : ∀ l, k0_pay1 a₀ a₁ a₂ ga (ix2 r l) = _ := pay1_at a₁ a₀ a₂ ga r
  generalize k0_pay1 a₀ a₁ a₂ ga = A at *
  unfold_payloads
  pointwise
  simp only [h1, ha, hd, hc]
  rfl

/-- The residual stream after the attentions. -/
theorem pay5_at (M : FVec Ideal S1056x1024 .bf16) (wo : Vec Ideal S1x1024x1024 .bf16)
    (hM : ∀ r l, M (ix2 r l) = mix W (rows a₁ a₀ a₂ d₁ d₀ d₂ c₁ c₀ c₂ x₁ x₀ x₂ r) l) (hw : ∀ k l, wo (ix3 0 k l) = W.wo k l)
    (r : Fin 1056) (l : Fin 1024) :
    k0_pay5 M x₀ x₁ x₂ wo (ix2 r l) = resid W (rows a₁ a₀ a₂ d₁ d₀ d₂ c₁ c₀ c₂ x₁ x₀ x₂ r) l := by
  unfold_payloads
  pointwise
  simp only [hM, hw]
  rfl

/-- Whether row `r` lies in the sequence the block belongs to, the block being the `q`-th of the sequence's four. -/
def inside (q : Fin 4) (r : Fin 1056) : Bool :=
  (decide (16 ≤ r.val) || decide (0 < q.val)) && (decide (r.val < 1040) || decide (q.val < 3))

/-- The kernel's mask says so. -/
theorem mask_eq : ∀ (q : Fin 4) (r : Fin 1056),
    IntOp.andi (IntOp.ori (IntOp.cmpi .sge (BitVec.ofNat 32 r.val) 16#32) (Scalar.cmpi .sgt (BitVec.ofNat 32 q.val) 0#32))
      (IntOp.ori (IntOp.cmpi .slt (BitVec.ofNat 32 r.val) 1040#32) (Scalar.cmpi .slt (BitVec.ofNat 32 q.val) 3#32))
    = BitVec.ofBool (inside q r) := by decide +kernel

/-- A choice by one bit. -/
theorem select_ofBool {α : Type} (b : Bool) (x y : α) : Scalar.select (BitVec.ofBool b) x y = if b then x else y := by
  cases b <;> rfl

/-- The norm of the residual stream, and zero outside the sequence. -/
theorem pay7_at (q : Fin 4) (M : FVec Ideal S1056x1024 .bf16) (wo : Vec Ideal S1x1024x1024 .bf16) (g2 : Vec Ideal S1x1024 .f32)
    (h5 : ∀ r l, k0_pay5 M x₀ x₁ x₂ wo (ix2 r l) = resid W (rows a₁ a₀ a₂ d₁ d₀ d₂ c₁ c₀ c₂ x₁ x₀ x₂ r) l)
    (hg : ∀ k, g2 (ix2 0 k) = W.g2 k) (r : Fin 1056) (l : Fin 1024) :
    k0_pay8 (k0_pay7 (BitVec.ofNat 32 q.val) M x₀ x₁ x₂ wo g2) (ix2 r l) = if inside q r then hid W (rows a₁ a₀ a₂ d₁ d₀ d₂ c₁ c₀ c₂ x₁ x₀ x₂ r) l else 0 := by
  unfold k0_pay8 k0_pay7
  generalize k0_pay5 M x₀ x₁ x₂ wo = Y at *
  pointwise
  simp only [h5, hg, mask_eq, select_ofBool]
  rfl

/-- The residual stream of the block's own rows. -/
theorem pay6_at (M : FVec Ideal S1056x1024 .bf16) (wo : Vec Ideal S1x1024x1024 .bf16) (r : Fin 1024) (l : Fin 1024) :
    k0_pay6 M x₀ x₁ x₂ wo (ix2 r l) = k0_pay5 M x₀ x₁ x₂ wo (ix2 ⟨16 + r.val, by omega⟩ l) := by
  unfold k0_pay6
  generalize k0_pay5 M x₀ x₁ x₂ wo = Y
  pointwise

end

/-- The gate of a chunk of 256 lanes, of all 1056 rows, -/
theorem pay9_at (h : Vec Ideal S1056x1024 .bf16) (w : Vec Ideal S1x1024x256 .bf16) (r : Fin 1056) (l : Fin 256) :
    k0_pay9 h w (ix2 r l) = ∑ k, h (ix2 r k) * w (ix3 0 k l) := by
  unfold_payloads
  pointwise

/-- and what it multiplies, of the block's rows. -/
theorem pay10_at (h : Vec Ideal S1024x1024 .bf16) (w : Vec Ideal S1x1024x256 .bf16) (r : Fin 1024) (l : Fin 256) :
    k0_pay10 h w (ix2 r l) = ∑ k, h (ix2 r k) * w (ix3 0 k l) := by
  unfold_payloads
  pointwise

/-- The chunk's activation: the convolution, the unit and the product. -/
theorem pay12_at (u : FVec Ideal S1024x256 .f32) (g₀ g₁ g₂ : Vec Ideal S1024x256 .f32) (w₀ w₁ w₂ b : Vec Ideal S1x256 .f32)
    (r : Fin 1024) (l : Fin 256) :
    k0_pay12 u (k0_pay11 g₀ w₀ b g₁ w₁) g₂ w₂ (ix2 r l)
      = gelu (g₀ (ix2 r l) * w₀ (ix2 0 l) + b (ix2 0 l) + g₁ (ix2 r l) * w₁ (ix2 0 l) + g₂ (ix2 r l) * w₂ (ix2 0 l)) * u (ix2 r l) := by
  unfold_payloads
  pointwise
  rfl

/-- The output of the block. -/
theorem pay53_at (Y : FVec Ideal S1024x1024 .f32) (A : Vec Ideal S1024x2816 .bf16) (w : Vec Ideal S1x2816x1024 .bf16) (r : Fin 1024) (l : Fin 1024) :
    k0_pay53 Y A w (ix2 r l) = Y (ix2 r l) + ∑ c, A (ix2 r c) * w (ix3 0 c l) := by
  unfold_payloads
  pointwise

/-- The activation at a row and a lane, from the normed rows. -/
def act (W : Weights) (H : Fin 1056 → Fin 1024 → EReal) (r : Fin 1024) (c : Fin 2816) : EReal :=
  gelu (conv W (gate W (H ⟨15 + r.val, by omega⟩)) (gate W (H ⟨16 + r.val, by omega⟩)) (gate W (H ⟨17 + r.val, by omega⟩)) c)
    * up W (H ⟨16 + r.val, by omega⟩) c

/-- The 1024 rows of a gate from row `p` on. -/
def rowsFrom (G : FVec Ideal S1056x256 .f32) (p : ℕ)
    (h : ∀ a, (![p, 0] : Fin 2 → ℕ) a + (![1024, 256] : Fin 2 → ℕ) a ≤ S1056x256.size a) : Vec Ideal S1024x256 .f32 :=
  View.ld (e' := .f32) (Val := Elt Ideal) (S := S1056x256) G (Rect.unit ![p, 0] ![1024, 256] h)

/-- The activation of the 256 lanes from `o` on is that. -/
theorem chunk_at (W : Weights) (H : Vec Ideal S1056x1024 .bf16) (wg : Vec Ideal S1x1024x5632 .bf16) (cw : Vec Ideal S3x2816 .f32)
    (cb : Vec Ideal S1x2816 .f32) (hwg : ∀ k c, wg (ix3 0 k c) = W.wg k c) (hcw : ∀ i c, cw (ix2 i c) = W.cw i c)
    (hcb : ∀ c, cb (ix2 0 c) = W.cb c) (o o' : ℕ) (ho : o + 256 ≤ 2816) (ho' : o' = 2816 + o)
    (h₀ : ∀ a, (![0, 0, o] : Fin 3 → ℕ) a + (![1, 1024, 256] : Fin 3 → ℕ) a ≤ S1x1024x5632.size a)
    (h₁ : ∀ a, (![0, 0, o'] : Fin 3 → ℕ) a + (![1, 1024, 256] : Fin 3 → ℕ) a ≤ S1x1024x5632.size a)
    (h₂ : ∀ a, (![0, o] : Fin 2 → ℕ) a + (![1, 256] : Fin 2 → ℕ) a ≤ S3x2816.size a)
    (h₃ : ∀ a, (![1, o] : Fin 2 → ℕ) a + (![1, 256] : Fin 2 → ℕ) a ≤ S3x2816.size a)
    (h₄ : ∀ a, (![2, o] : Fin 2 → ℕ) a + (![1, 256] : Fin 2 → ℕ) a ≤ S3x2816.size a)
    (h₅ : ∀ a, (![0, o] : Fin 2 → ℕ) a + (![1, 256] : Fin 2 → ℕ) a ≤ S1x2816.size a)
    (x : S1024x256.Idx) (r : Fin 1024) (c : Fin 2816) (hr : r.val = (x 0).val) (hc : c.val = o + (x 1).val) :
    k0_pay12 (k0_pay10 (View.ld H (Rect.unit ![16, 0] ![1024, 1024] inb_S1056x1024_S1024x1024_16_0))
        (View.ld wg (Rect.unit ![0, 0, o'] ![1, 1024, 256] h₁)))
      (k0_pay11 (rowsFrom (k0_pay9 H (View.ld wg (Rect.unit ![0, 0, o] ![1, 1024, 256] h₀))) 15 inb_S1056x256_S1024x256_15_0)
        (View.ld cw (Rect.unit ![0, o] ![1, 256] h₂)) (View.ld cb (Rect.unit ![0, o] ![1, 256] h₅))
        (rowsFrom (k0_pay9 H (View.ld wg (Rect.unit ![0, 0, o] ![1, 1024, 256] h₀))) 16 inb_S1056x256_S1024x256_16_0)
        (View.ld cw (Rect.unit ![1, o] ![1, 256] h₃)))
      (rowsFrom (k0_pay9 H (View.ld wg (Rect.unit ![0, 0, o] ![1, 1024, 256] h₀))) 17 inb_S1056x256_S1024x256_17_0)
      (View.ld cw (Rect.unit ![2, o] ![1, 256] h₄)) x
    = act W (fun r k => H (ix2 r k)) r c := by
  subst ho'
  obtain ⟨i, l, rfl⟩ : ∃ (i : Fin 1024) (l : Fin 256), x = ix2 i l := ⟨x 0, x 1, by funext a; fin_cases a <;> rfl⟩
  obtain rfl : r = i := Fin.ext hr
  have hc' : c.val = o + l.val := hc
  have eg : ∀ k : Fin 1024, View.ld wg (Rect.unit ![0, 0, o] ![1, 1024, 256] h₀) (ix3 0 k l) = W.wg k ⟨c.val, by omega⟩ := by
    intro k
    refine (View.ld_unit_apply_of wg _ _ h₀ _ (ix3 0 k ⟨c.val, by omega⟩ : S1x1024x5632.Idx) ?_).trans (hwg _ _)
    intro a
    fin_cases a
    · rfl
    · show k.val = 0 + k.val; omega
    · exact hc'
  have eu : ∀ k : Fin 1024, View.ld wg (Rect.unit ![0, 0, 2816 + o] ![1, 1024, 256] h₁) (ix3 0 k l) = W.wg k ⟨2816 + c.val, by omega⟩ := by
    intro k
    refine (View.ld_unit_apply_of wg _ _ h₁ _ (ix3 0 k ⟨2816 + c.val, by omega⟩ : S1x1024x5632.Idx) ?_).trans (hwg _ _)
    intro a
    fin_cases a
    · rfl
    · show k.val = 0 + k.val; omega
    · show 2816 + c.val = 2816 + o + l.val; omega
  have ew : ∀ (i : Fin 3) (h : ∀ a, (![i.val, o] : Fin 2 → ℕ) a + (![1, 256] : Fin 2 → ℕ) a ≤ S3x2816.size a),
      View.ld cw (Rect.unit ![i.val, o] ![1, 256] h) (ix2 0 l) = W.cw i c := by
    intro i h
    refine (View.ld_unit_apply_of cw _ _ h _ (ix2 i c : S3x2816.Idx) ?_).trans (hcw _ _)
    intro a
    fin_cases a
    · rfl
    · exact hc'
  have eb : View.ld cb (Rect.unit ![0, o] ![1, 256] h₅) (ix2 0 l) = W.cb c := by
    refine (View.ld_unit_apply_of cb _ _ h₅ _ (ix2 0 c : S1x2816.Idx) ?_).trans (hcb _)
    intro a
    fin_cases a
    · rfl
    · exact hc'
  have el : ∀ (G : FVec Ideal S1056x256 .f32) (p : ℕ) (hp : p + 1024 ≤ 1056)
      (h : ∀ a, (![p, 0] : Fin 2 → ℕ) a + (![1024, 256] : Fin 2 → ℕ) a ≤ S1056x256.size a),
      rowsFrom G p h (ix2 r l) = G (ix2 ⟨p + r.val, by omega⟩ l) := by
    intro G p hp h
    refine View.ld_unit_apply_of (e := .f32) (Val := Elt Ideal) G _ _ h _ (ix2 ⟨p + r.val, by omega⟩ l : S1056x256.Idx) ?_
    intro a
    fin_cases a
    · rfl
    · show l.val = 0 + l.val; omega
  have eh : ∀ k : Fin 1024, View.ld H (Rect.unit ![16, 0] ![1024, 1024] inb_S1056x1024_S1024x1024_16_0) (ix2 r k)
      = H (ix2 ⟨16 + r.val, by omega⟩ k) := by
    intro k
    refine View.ld_unit_apply_of H _ _ _ _ (ix2 ⟨16 + r.val, by omega⟩ k : S1056x1024.Idx) ?_
    intro a
    fin_cases a
    · rfl
    · show k.val = 0 + k.val; omega
  refine (pay12_at _ _ _ _ _ _ _ _ r l).trans ?_
  rw [el _ 15 (by omega), el _ 16 (by omega), el _ 17 (by omega), pay9_at, pay9_at, pay9_at, pay10_at]
  simp only [eg, eu, eh, eb]
  rw [show View.ld cw (Rect.unit ![0, o] ![1, 256] h₂) (ix2 0 l) = W.cw 0 c from ew 0 h₂,
    show View.ld cw (Rect.unit ![1, o] ![1, 256] h₃) (ix2 0 l) = W.cw 1 c from ew 1 h₃,
    show View.ld cw (Rect.unit ![2, o] ![1, 256] h₄) (ix2 0 l) = W.cw 2 c from ew 2 h₄]
  rfl

end Cert.FfnIdeal.Tile
-- ==== Proof.FfnBlock.lean ====
/- What one grid point of the feed-forward kernel leaves in its block of the output. -/
module

public import proofs.«01_k».proof.Proof.Gen.FfnIdeal.Value
public import Idealize.ShloMosaic.Lib.Pipeline.ReadBack
public import proofs.«01_k».proof.Proof.FfnTile

@[expose] public section

set_option maxRecDepth 16384

noncomputable section

namespace Cert.FfnIdeal.Tile

open Cert.FfnIdeal Cert.FfnIdeal.Gen Idealize.ShloMosaic Idealize.ShloMosaic.TcCoe Idealize.SL.Sem Cert.Feed

variable (m : (ℓ : Loc nD τ sig) → Buf (Elt Ideal) ℓ)

/-- The place of grid point `i` among the four blocks of its sequence, as the kernel computes it. -/
theorem place_eq : ∀ i : Fin 32,
    Scalar.select (Scalar.andi (Scalar.xori (Scalar.cmpi .slt (Scalar.remsi (BitVec.ofNat 32 i.val) 4#32) 0#32) 0#1)
        (Scalar.cmpi .ne (Scalar.remsi (BitVec.ofNat 32 i.val) 4#32) 0#32))
      (Scalar.addi (Scalar.remsi (BitVec.ofNat 32 i.val) 4#32) 4#32) (Scalar.remsi (BitVec.ofNat 32 i.val) 4#32)
    = BitVec.ofNat 32 ((⟨i.val % 4, by omega⟩ : Fin 4)).val := by decide +kernel

/-- A load of lanes of one row of weights. -/
theorem ld_lanes {n : ℕ} (g : Vec Ideal S1x1024 .f32) (o : ℕ) (ho : o + n ≤ 1024)
    (h : ∀ a, (![0, o] : Fin 2 → ℕ) a + (![1, n] : Fin 2 → ℕ) a ≤ S1x1024.size a) (k : Fin n) :
    View.ld (e' := .f32) (Val := Elt Ideal) (S := S1x1024) g (Rect.unit ![0, o] ![1, n] h) (ix2 0 k)
      = g (ix2 0 ⟨o + k.val, by omega⟩) := by
  refine View.ld_unit_apply_of g _ _ h _ (ix2 0 ⟨o + k.val, by omega⟩ : S1x1024.Idx) ?_
  intro a
  fin_cases a <;> rfl

/-- A load of a whole buffer after its stores. -/
theorem read_whole (v : View sig .tc .vmem S1024x2816 .bf16) (L : List (View.Piece (Elt Ideal) S1024x2816 .bf16))
    (h : ∀ a, (![0, 0] : Fin 2 → ℕ) a + (![1024, 2816] : Fin 2 → ℕ) a ≤ S1024x2816.size a) (j : S1024x2816.Idx) :
    v.readCov L (Rect.unit (s := S1024x2816) ![0, 0] ![1024, 2816] h).toLoadRect j = View.canon L j := by
  rw [View.readCov_eq_canon']
  refine congrArg (View.canon L) (funext fun a => Fin.ext ?_)
  fin_cases a
  · show 0 + 1 * (j 0).val = (j 0).val; omega
  · show 0 + 1 * (j 1).val = (j 1).val; omega

/-- The rows of grid point `t`: its block's, sixteen before and sixteen after. -/
def blockRows (c : Dev nD) (t : Fin cfg0.N) : Fin 1056 → Row :=
  rows (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)

/-- The normed rows of a grid point that is the `q`-th of its sequence, zero outside the sequence. -/
def normed (W : Weights) (R : Fin 1056 → Row) (q : Fin 4) (r : Fin 1056) (k : Fin 1024) : EReal :=
  if inside q r then hid W (R r) k else 0

/-- The grid point's weights are `W`. -/
structure Holds (c : Dev nD) (t : Fin cfg0.N) (W : Weights) : Prop where
  g : ∀ k, (iblk m c 12 t : Vec Ideal S1x1024 .f32) (ix2 0 k) = W.g k
  wo : ∀ k l, (iblk m c 13 t : Vec Ideal S1x1024x1024 .bf16) (ix3 0 k l) = W.wo k l
  g2 : ∀ k, (iblk m c 14 t : Vec Ideal S1x1024 .f32) (ix2 0 k) = W.g2 k
  wg : ∀ k l, (iblk m c 15 t : Vec Ideal S1x1024x5632 .bf16) (ix3 0 k l) = W.wg k l
  cw : ∀ k l, (iblk m c 16 t : Vec Ideal S3x2816 .f32) (ix2 k l) = W.cw k l
  cb : ∀ k, (iblk m c 17 t : Vec Ideal S1x2816 .f32) (ix2 0 k) = W.cb k
  wd : ∀ k l, (iblk m c 18 t : Vec Ideal S1x2816x1024 .bf16) (ix3 0 k l) = W.wd k l

/-- The body leaves in its block, at row `r` and lane `l`, the residual stream and the feed-forward network's output. -/
theorem outs_at (c : Dev nD) (t : Fin cfg0.N) (W : Weights) (hW : Holds m c t W) (q : Fin 4)
    (hq : q.val = (grid0.coords t 0).val % 4) (r : Fin 1024) (l : Fin 1024) :
    outsAt0 m c t (ix2 r l) = resid W (blockRows m c t ⟨16 + r.val, by omega⟩) l
      + ∑ k, act W (normed W (blockRows m c t) q) r k * W.wd k l := by
  obtain ⟨hg, hwo, hg2, hwg, hcw, hcb, hwd⟩ := hW
  unfold blockRows outsAt0
  generalize (iblk m c 0 t : Vec Ideal S1024x256 .bf16) = a₁
  generalize (iblk m c 1 t : Vec Ideal S16x256 .bf16) = a₀
  generalize (iblk m c 2 t : Vec Ideal S16x256 .bf16) = a₂
  generalize (iblk m c 3 t : Vec Ideal S1024x384 .bf16) = d₁
  generalize (iblk m c 4 t : Vec Ideal S16x384 .bf16) = d₀
  generalize (iblk m c 5 t : Vec Ideal S16x384 .bf16) = d₂
  generalize (iblk m c 6 t : Vec Ideal S1024x384 .bf16) = c₁
  generalize (iblk m c 7 t : Vec Ideal S16x384 .bf16) = c₀
  generalize (iblk m c 8 t : Vec Ideal S16x384 .bf16) = c₂
  generalize (iblk m c 9 t : Vec Ideal S1024x1024 .f32) = x₁
  generalize (iblk m c 10 t : Vec Ideal S16x1024 .f32) = x₀
  generalize (iblk m c 11 t : Vec Ideal S16x1024 .f32) = x₂
  generalize (iblk m c 12 t : Vec Ideal S1x1024 .f32) = g at *
  generalize (iblk m c 13 t : Vec Ideal S1x1024x1024 .bf16) = wo at *
  generalize (iblk m c 14 t : Vec Ideal S1x1024 .f32) = g2 at *
  generalize (iblk m c 15 t : Vec Ideal S1x1024x5632 .bf16) = wg at *
  generalize (iblk m c 16 t : Vec Ideal S3x2816 .f32) = cw at *
  generalize (iblk m c 17 t : Vec Ideal S1x2816 .f32) = cb at *
  generalize (iblk m c 18 t : Vec Ideal S1x2816x1024 .bf16) = wd at *
  frame_out
  have hM := pay4_at a₁ a₀ a₂ d₁ d₀ d₂ c₁ c₀ c₂ x₁ x₀ x₂ W (View.ld g (Rect.unit ![0, 0] ![1, 256] inb_S1x1024_S1x256_0_0))
    (View.ld g (Rect.unit ![0, 256] ![1, 384] inb_S1x1024_S1x384_0_256)) (View.ld g (Rect.unit ![0, 640] ![1, 384] inb_S1x1024_S1x384_0_640))
    (fun k => (ld_lanes g 0 (by omega) _ k).trans ((hg _).trans (congrArg W.g (Fin.ext (Nat.zero_add _)))))
    (fun k => (ld_lanes g 256 (by omega) _ k).trans (hg _)) (fun k => (ld_lanes g 640 (by omega) _ k).trans (hg _))
  generalize k0_pay4 (F := Ideal) _ _ _ _ _ _ _ _ _ = M at *
  have hY := fun r l => pay5_at a₁ a₀ a₂ d₁ d₀ d₂ c₁ c₀ c₂ x₁ x₀ x₂ W M wo hM hwo r l
  have hH := fun r l => pay7_at a₁ a₀ a₂ d₁ d₀ d₂ c₁ c₀ c₂ x₁ x₀ x₂ W q M wo g2 hY hg2 r l
  have hq' : q = ⟨(grid0.coords t 0).val % 4, by omega⟩ := Fin.ext hq
  rw [hq', ← place_eq (grid0.coords t 0), ← hq'] at hH
  generalize k0_pay8 (F := Ideal) (k0_pay7 _ _ _ _ _ _ _) = H at *
  have h6 := (pay6_at x₁ x₀ x₂ M wo r l).trans (hY _ _)
  generalize k0_pay6 (F := Ideal) _ _ _ _ _ = Y at *
  refine (pay53_at _ _ _ r l).trans ?_
  rw [h6]
  refine congrArg _ (Finset.sum_congr rfl fun k _ => ?_)
  rw [hwd]
  refine congrArg (fun z => z * W.wd k l) ?_
  have hN : (fun r k => H (ix2 r k)) = normed W (rows a₁ a₀ a₂ d₁ d₀ d₂ c₁ c₀ c₂ x₁ x₀ x₂) q := funext fun r => funext fun k => hH r k
  rw [← hN]
  simp (disch := decide) only [View.readCov_fill]
  refine (read_whole _ _ _ _).trans ?_
  generalize hy : (ix2 r k : S1024x2816.Idx) = y
  have y0 : (y 0).val = r.val := by rw [← hy]; rfl
  have y1 : (y 1).val = k.val := by rw [← hy]; rfl
  canon_tiles x e
  case piece0 => exact chunk_at W H wg cw cb hwg hcw hcb 2560 5376 (by omega) rfl _ _ _ _ _ _ x r k (by omega) (by omega)
  case piece1 => exact chunk_at W H wg cw cb hwg hcw hcb 2304 5120 (by omega) rfl _ _ _ _ _ _ x r k (by omega) (by omega)
  case piece2 => exact chunk_at W H wg cw cb hwg hcw hcb 2048 4864 (by omega) rfl _ _ _ _ _ _ x r k (by omega) (by omega)
  case piece3 => exact chunk_at W H wg cw cb hwg hcw hcb 1792 4608 (by omega) rfl _ _ _ _ _ _ x r k (by omega) (by omega)
  case piece4 => exact chunk_at W H wg cw cb hwg hcw hcb 1536 4352 (by omega) rfl _ _ _ _ _ _ x r k (by omega) (by omega)
  case piece5 => exact chunk_at W H wg cw cb hwg hcw hcb 1280 4096 (by omega) rfl _ _ _ _ _ _ x r k (by omega) (by omega)
  case piece6 => exact chunk_at W H wg cw cb hwg hcw hcb 1024 3840 (by omega) rfl _ _ _ _ _ _ x r k (by omega) (by omega)
  case piece7 => exact chunk_at W H wg cw cb hwg hcw hcb 768 3584 (by omega) rfl _ _ _ _ _ _ x r k (by omega) (by omega)
  case piece8 => exact chunk_at W H wg cw cb hwg hcw hcb 512 3328 (by omega) rfl _ _ _ _ _ _ x r k (by omega) (by omega)
  case piece9 => exact chunk_at W H wg cw cb hwg hcw hcb 256 3072 (by omega) rfl _ _ _ _ _ _ x r k (by omega) (by omega)
  case piece10 => exact chunk_at W H wg cw cb hwg hcw hcb 0 2816 (by omega) rfl _ _ _ _ _ _ x r k (by omega) (by omega)

end Cert.FfnIdeal.Tile
-- ==== Proof.FfnEntry.lean ====
/- What the feed-forward kernel finds in its input arrays: the rows of the four inputs and the weights of the second
   layer, as the host lays them out. -/
module

public import proofs.«01_k».proof.Proof.FfnBlock

@[expose] public section

set_option maxRecDepth 16384

noncomputable section

namespace Cert.FfnIdeal.Tile

open Cert.FfnIdeal Cert.FfnIdeal.Gen Idealize.ShloMosaic Idealize.ShloMosaic.TcCoe Idealize.SL.Sem Cert.Feed

/-- The second layer's weights in the arrays that hold both layers'. -/
def weights (x₄ : FVec Ideal S2x1024 .f32) (x₅ : FVec Ideal S2x1024x1024 .f32) (x₆ : FVec Ideal S2x1024 .f32)
    (x₇ : FVec Ideal S2x1024x5632 .f32) (x₈ : FVec Ideal S2x3x2816 .f32) (x₉ : FVec Ideal S2x2816 .f32)
    (x₁₀ : FVec Ideal S2x2816x1024 .f32) : Weights where
  g k := x₄ (ix2 1 k)
  wo k l := x₅ (ix3 1 k l)
  g2 k := x₆ (ix2 1 k)
  wg k l := x₇ (ix3 1 k l)
  cw i l := x₈ (ix3 1 i l)
  cb l := x₉ (ix2 1 l)
  wd k l := x₁₀ (ix3 1 k l)

/-- Row `s` of sequence `b` of the four inputs. -/
def rowOf (x₀ : FVec Ideal S8x4096x256 .bf16) (x₁ x₂ : FVec Ideal S8x4096x384 .bf16) (x₃ : FVec Ideal S8x4096x1024 .f32)
    (b : Fin 8) (s : Fin 4096) : Row where
  a l := x₀ (ix3 b s l)
  d l := x₁ (ix3 b s l)
  c l := x₂ (ix3 b s l)
  x l := x₃ (ix3 b s l)

/-- Row `i` of the sequences laid end to end is row `i % 4096` of sequence `i / 4096`. -/
def seqOf (i : Fin 32768) : Fin 8 := ⟨i.val / 4096, by omega⟩
/-- The place of a row in its sequence. -/
def posOf (i : Fin 32768) : Fin 4096 := ⟨i.val % 4096, by omega⟩

variable (m : (ℓ : Loc nD τ sig) → Buf (Elt Ideal) ℓ)

/-- The weights the kernel is given, -/
def theWeights (c : Dev nD) : Weights :=
  weights (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- and its rows. -/
def theRow (c : Dev nD) (i : Fin 32768) : Row :=
  rowOf (m ((c : Thread nD τ).loc main_arg0)) (m ((c : Thread nD τ).loc main_arg1)) (m ((c : Thread nD τ).loc main_arg2))
    (m ((c : Thread nD τ).loc main_arg3)) (seqOf i) (posOf i)

/-- Each input array holds those rows, -/
theorem entry_a (c : Dev nD) (i : Fin 32768) (l : Fin 256) : V m c main_v3 (ix2 i l) = (theRow m c i).a l := by
  entry_read
  pointwise
  rfl

/-- The second attention's rows. -/
theorem entry_d (c : Dev nD) (i : Fin 32768) (l : Fin 384) : V m c main_v4 (ix2 i l) = (theRow m c i).d l := by
  entry_read
  pointwise
  rfl

/-- The third attention's rows. -/
theorem entry_c (c : Dev nD) (i : Fin 32768) (l : Fin 384) : V m c main_v5 (ix2 i l) = (theRow m c i).c l := by
  entry_read
  pointwise
  rfl

/-- The layer's input. -/
theorem entry_x (c : Dev nD) (i : Fin 32768) (l : Fin 1024) : V m c main_v6 (ix2 i l) = (theRow m c i).x l := by
  entry_read
  pointwise
  rfl

/-- and each array of weights those weights. -/
theorem entry_g (c : Dev nD) (l : Fin 1024) : V m c main_v9 (ix2 0 l) = (theWeights m c).g l := by
  entry_read
  pointwise
  rfl

/-- The gains of the second norm. -/
theorem entry_g2 (c : Dev nD) (l : Fin 1024) : V m c main_v12 (ix2 0 l) = (theWeights m c).g2 l := by
  entry_read
  pointwise
  rfl

/-- The bias of the convolution. -/
theorem entry_cb (c : Dev nD) (l : Fin 2816) : V m c main_v17 (ix2 0 l) = (theWeights m c).cb l := by
  entry_read
  pointwise
  rfl

/-- The output projection. -/
theorem entry_wo (c : Dev nD) (k : Fin 1024) (l : Fin 1024) : V m c main_v0 (ix3 1 k l) = (theWeights m c).wo k l := by
  entry_read
  pointwise
  rfl

/-- The gate and up projection. -/
theorem entry_wg (c : Dev nD) (k : Fin 1024) (l : Fin 5632) : V m c main_v1 (ix3 1 k l) = (theWeights m c).wg k l := by
  entry_read
  pointwise
  rfl

/-- The down projection. -/
theorem entry_wd (c : Dev nD) (k : Fin 2816) (l : Fin 1024) : V m c main_v2 (ix3 1 k l) = (theWeights m c).wd k l := by
  entry_read
  pointwise
  rfl

/-- The taps of the convolution. -/
theorem entry_cw (c : Dev nD) (k : Fin 3) (l : Fin 2816) : V m c main_v14 (ix2 k l) = (theWeights m c).cw k l := by
  entry_read
  pointwise
  rfl

/-- A grid point is its own coordinate. -/
theorem coord_eq (t : Fin cfg0.N) : (grid0.coords t 0).val = t.val :=
  (by decide +kernel : ∀ t : Fin grid0.N, (grid0.coords t 0).val = t.val) t

/-- There are 32 blocks of rows. -/
theorem point_lt (t : Fin cfg0.N) : t.val < 32 := lt_of_lt_of_eq t.isLt N_0

/-- The blocks of a grid point: its own 1024 rows, the 16 before, the 16 after, and the second layer's weights. -/
theorem win_0 (t : Fin cfg0.N) : win0_0.index t = ![t.val, 0] :=
  (by decide +kernel : ∀ t : Fin grid0.N, win0_0.index t = ![t.val, 0]) t

/-- Where this window stands. -/
theorem win_3 (t : Fin cfg0.N) : win0_3.index t = ![t.val, 0] :=
  (by decide +kernel : ∀ t : Fin grid0.N, win0_3.index t = ![t.val, 0]) t

/-- Where this window stands. -/
theorem win_6 (t : Fin cfg0.N) : win0_6.index t = ![t.val, 0] :=
  (by decide +kernel : ∀ t : Fin grid0.N, win0_6.index t = ![t.val, 0]) t

/-- Where this window stands. -/
theorem win_9 (t : Fin cfg0.N) : win0_9.index t = ![t.val, 0] :=
  (by decide +kernel : ∀ t : Fin grid0.N, win0_9.index t = ![t.val, 0]) t

/-- Where this window stands. -/
theorem win_19 (t : Fin cfg0.N) : win0_19.index t = ![t.val, 0] :=
  (by decide +kernel : ∀ t : Fin grid0.N, win0_19.index t = ![t.val, 0]) t

/-- Where this window stands. -/
theorem win_1 (t : Fin cfg0.N) : win0_1.index t = ![t.val * 64 - 1, 0] :=
  (by decide +kernel : ∀ t : Fin grid0.N, win0_1.index t = ![t.val * 64 - 1, 0]) t

/-- Where this window stands. -/
theorem win_2 (t : Fin cfg0.N) : win0_2.index t = ![min (t.val * 64 + 64) 2047, 0] :=
  (by decide +kernel : ∀ t : Fin grid0.N, win0_2.index t = ![min (t.val * 64 + 64) 2047, 0]) t

/-- Where this window stands. -/
theorem win_4 (t : Fin cfg0.N) : win0_4.index t = ![t.val * 64 - 1, 0] :=
  (by decide +kernel : ∀ t : Fin grid0.N, win0_4.index t = ![t.val * 64 - 1, 0]) t

/-- Where this window stands. -/
theorem win_5 (t : Fin cfg0.N) : win0_5.index t = ![min (t.val * 64 + 64) 2047, 0] :=
  (by decide +kernel : ∀ t : Fin grid0.N, win0_5.index t = ![min (t.val * 64 + 64) 2047, 0]) t

/-- Where this window stands. -/
theorem win_7 (t : Fin cfg0.N) : win0_7.index t = ![t.val * 64 - 1, 0] :=
  (by decide +kernel : ∀ t : Fin grid0.N, win0_7.index t = ![t.val * 64 - 1, 0]) t

/-- Where this window stands. -/
theorem win_8 (t : Fin cfg0.N) : win0_8.index t = ![min (t.val * 64 + 64) 2047, 0] :=
  (by decide +kernel : ∀ t : Fin grid0.N, win0_8.index t = ![min (t.val * 64 + 64) 2047, 0]) t

/-- Where this window stands. -/
theorem win_10 (t : Fin cfg0.N) : win0_10.index t = ![t.val * 64 - 1, 0] :=
  (by decide +kernel : ∀ t : Fin grid0.N, win0_10.index t = ![t.val * 64 - 1, 0]) t

/-- Where this window stands. -/
theorem win_11 (t : Fin cfg0.N) : win0_11.index t = ![min (t.val * 64 + 64) 2047, 0] :=
  (by decide +kernel : ∀ t : Fin grid0.N, win0_11.index t = ![min (t.val * 64 + 64) 2047, 0]) t

/-- Where this window stands. -/
theorem win_12 (t : Fin cfg0.N) : win0_12.index t = ![0, 0] :=
  (by decide +kernel : ∀ t : Fin grid0.N, win0_12.index t = ![0, 0]) t

/-- Where this window stands. -/
theorem win_14 (t : Fin cfg0.N) : win0_14.index t = ![0, 0] :=
  (by decide +kernel : ∀ t : Fin grid0.N, win0_14.index t = ![0, 0]) t

/-- Where this window stands. -/
theorem win_16 (t : Fin cfg0.N) : win0_16.index t = ![0, 0] :=
  (by decide +kernel : ∀ t : Fin grid0.N, win0_16.index t = ![0, 0]) t

/-- Where this window stands. -/
theorem win_17 (t : Fin cfg0.N) : win0_17.index t = ![0, 0] :=
  (by decide +kernel : ∀ t : Fin grid0.N, win0_17.index t = ![0, 0]) t

/-- Where this window stands. -/
theorem win_13 (t : Fin cfg0.N) : win0_13.index t = ![1, 0, 0] :=
  (by decide +kernel : ∀ t : Fin grid0.N, win0_13.index t = ![1, 0, 0]) t

/-- Where this window stands. -/
theorem win_15 (t : Fin cfg0.N) : win0_15.index t = ![1, 0, 0] :=
  (by decide +kernel : ∀ t : Fin grid0.N, win0_15.index t = ![1, 0, 0]) t

/-- Where this window stands. -/
theorem win_18 (t : Fin cfg0.N) : win0_18.index t = ![1, 0, 0] :=
  (by decide +kernel : ∀ t : Fin grid0.N, win0_18.index t = ![1, 0, 0]) t

/-- This window read at an index. -/
theorem blk_0 (c : Dev nD) (t : Fin cfg0.N) (r : Fin 1024) (l : Fin 256) (i : Fin 32768) (hi : i.val = t.val * 1024 + r.val) :
    iblk m c 0 t (ix2 r l) = (theRow m c i).a l := by
  rw [← entry_a]
  unfold iblk
  blk_simp
  refine congrArg (V m c main_v3) ?_
  blk_ext [win_0]

/-- This window read at an index. -/
theorem blk_1 (c : Dev nD) (t : Fin cfg0.N) (r : Fin 16) (l : Fin 256) (i : Fin 32768) (hi : i.val + 16 = t.val * 1024 + r.val) :
    iblk m c 1 t (ix2 r l) = (theRow m c i).a l := by
  rw [← entry_a]
  unfold iblk
  blk_simp
  refine congrArg (V m c main_v3) ?_
  blk_ext [win_1]

/-- This window read at an index. -/
theorem blk_2 (c : Dev nD) (t : Fin cfg0.N) (r : Fin 16) (l : Fin 256) (i : Fin 32768) (hi : i.val = t.val * 1024 + 1024 + r.val) :
    iblk m c 2 t (ix2 r l) = (theRow m c i).a l := by
  rw [← entry_a]
  unfold iblk
  blk_simp
  refine congrArg (V m c main_v3) ?_
  blk_ext [win_2]

/-- This window read at an index. -/
theorem blk_3 (c : Dev nD) (t : Fin cfg0.N) (r : Fin 1024) (l : Fin 384) (i : Fin 32768) (hi : i.val = t.val * 1024 + r.val) :
    iblk m c 3 t (ix2 r l) = (theRow m c i).d l := by
  rw [← entry_d]
  unfold iblk
  blk_simp
  refine congrArg (V m c main_v4) ?_
  blk_ext [win_3]

/-- This window read at an index. -/
theorem blk_4 (c : Dev nD) (t : Fin cfg0.N) (r : Fin 16) (l : Fin 384) (i : Fin 32768) (hi : i.val + 16 = t.val * 1024 + r.val) :
    iblk m c 4 t (ix2 r l) = (theRow m c i).d l := by
  rw [← entry_d]
  unfold iblk
  blk_simp
  refine congrArg (V m c main_v4) ?_
  blk_ext [win_4]

/-- This window read at an index. -/
theorem blk_5 (c : Dev nD) (t : Fin cfg0.N) (r : Fin 16) (l : Fin 384) (i : Fin 32768) (hi : i.val = t.val * 1024 + 1024 + r.val) :
    iblk m c 5 t (ix2 r l) = (theRow m c i).d l := by
  rw [← entry_d]
  unfold iblk
  blk_simp
  refine congrArg (V m c main_v4) ?_
  blk_ext [win_5]

/-- This window read at an index. -/
theorem blk_6 (c : Dev nD) (t : Fin cfg0.N) (r : Fin 1024) (l : Fin 384) (i : Fin 32768) (hi : i.val = t.val * 1024 + r.val) :
    iblk m c 6 t (ix2 r l) = (theRow m c i).c l := by
  rw [← entry_c]
  unfold iblk
  blk_simp
  refine congrArg (V m c main_v5) ?_
  blk_ext [win_6]

/-- This window read at an index. -/
theorem blk_7 (c : Dev nD) (t : Fin cfg0.N) (r : Fin 16) (l : Fin 384) (i : Fin 32768) (hi : i.val + 16 = t.val * 1024 + r.val) :
    iblk m c 7 t (ix2 r l) = (theRow m c i).c l := by
  rw [← entry_c]
  unfold iblk
  blk_simp
  refine congrArg (V m c main_v5) ?_
  blk_ext [win_7]

/-- This window read at an index. -/
theorem blk_8 (c : Dev nD) (t : Fin cfg0.N) (r : Fin 16) (l : Fin 384) (i : Fin 32768) (hi : i.val = t.val * 1024 + 1024 + r.val) :
    iblk m c 8 t (ix2 r l) = (theRow m c i).c l := by
  rw [← entry_c]
  unfold iblk
  blk_simp
  refine congrArg (V m c main_v5) ?_
  blk_ext [win_8]

/-- This window read at an index. -/
theorem blk_9 (c : Dev nD) (t : Fin cfg0.N) (r : Fin 1024) (l : Fin 1024) (i : Fin 32768) (hi : i.val = t.val * 1024 + r.val) :
    iblk m c 9 t (ix2 r l) = (theRow m c i).x l := by
  rw [← entry_x]
  unfold iblk
  blk_simp
  refine congrArg (V m c main_v6) ?_
  blk_ext [win_9]

/-- This window read at an index. -/
theorem blk_10 (c : Dev nD) (t : Fin cfg0.N) (r : Fin 16) (l : Fin 1024) (i : Fin 32768) (hi : i.val + 16 = t.val * 1024 + r.val) :
    iblk m c 10 t (ix2 r l) = (theRow m c i).x l := by
  rw [← entry_x]
  unfold iblk
  blk_simp
  refine congrArg (V m c main_v6) ?_
  blk_ext [win_10]

/-- This window read at an index. -/
theorem blk_11 (c : Dev nD) (t : Fin cfg0.N) (r : Fin 16) (l : Fin 1024) (i : Fin 32768) (hi : i.val = t.val * 1024 + 1024 + r.val) :
    iblk m c 11 t (ix2 r l) = (theRow m c i).x l := by
  rw [← entry_x]
  unfold iblk
  blk_simp
  refine congrArg (V m c main_v6) ?_
  blk_ext [win_11]

/-- The kernel's blocks of weights are the second layer's weights. -/
theorem holds (c : Dev nD) (t : Fin cfg0.N) : Holds m c t (theWeights m c) := by
  constructor
  · intro k
    rw [← entry_g]
    unfold iblk
    blk_simp
    refine congrArg (V m c main_v9) ?_
    blk_ext [win_12]
  · intro k l
    rw [← entry_wo]
    unfold iblk
    blk_simp
    refine congrArg (V m c main_v0) ?_
    blk_ext [win_13]
  · intro k
    rw [← entry_g2]
    unfold iblk
    blk_simp
    refine congrArg (V m c main_v12) ?_
    blk_ext [win_14]
  · intro k l
    rw [← entry_wg]
    unfold iblk
    blk_simp
    refine congrArg (V m c main_v1) ?_
    blk_ext [win_15]
  · intro k l
    rw [← entry_cw]
    unfold iblk
    blk_simp
    refine congrArg (V m c main_v14) ?_
    blk_ext [win_16]
  · intro k
    rw [← entry_cb]
    unfold iblk
    blk_simp
    refine congrArg (V m c main_v17) ?_
    blk_ext [win_17]
  · intro k l
    rw [← entry_wd]
    unfold iblk
    blk_simp
    refine congrArg (V m c main_v2) ?_
    blk_ext [win_18]

/-- The rows a grid point works on are consecutive rows of the sequences. -/
theorem blockRows_eq (c : Dev nD) (t : Fin cfg0.N) (r : Fin 1056) (i : Fin 32768) (hi : i.val + 16 = t.val * 1024 + r.val) :
    blockRows m c t r = theRow m c i := by
  unfold blockRows rows
  rw [show theRow m c i = ⟨(theRow m c i).a, (theRow m c i).d, (theRow m c i).c, (theRow m c i).x⟩ from rfl]
  congr 1
  · funext l
    unfold ext
    split_ifs with h h'
    · exact blk_1 m c t _ l i hi
    · exact blk_0 m c t _ l i (by show i.val = t.val * 1024 + (r.val - 16); omega)
    · exact blk_2 m c t _ l i (by show i.val = t.val * 1024 + 1024 + (r.val - 16 - 1024); omega)
  · funext l
    unfold ext
    split_ifs with h h'
    · exact blk_4 m c t _ l i hi
    · exact blk_3 m c t _ l i (by show i.val = t.val * 1024 + (r.val - 16); omega)
    · exact blk_5 m c t _ l i (by show i.val = t.val * 1024 + 1024 + (r.val - 16 - 1024); omega)
  · funext l
    unfold ext
    split_ifs with h h'
    · exact blk_7 m c t _ l i hi
    · exact blk_6 m c t _ l i (by show i.val = t.val * 1024 + (r.val - 16); omega)
    · exact blk_8 m c t _ l i (by show i.val = t.val * 1024 + 1024 + (r.val - 16 - 1024); omega)
  · funext l
    unfold ext
    split_ifs with h h'
    · exact blk_10 m c t _ l i hi
    · exact blk_9 m c t _ l i (by show i.val = t.val * 1024 + (r.val - 16); omega)
    · exact blk_11 m c t _ l i (by show i.val = t.val * 1024 + 1024 + (r.val - 16 - 1024); omega)

end Cert.FfnIdeal.Tile
-- ==== Proof.FfnFinal.lean ====
/- The feed-forward kernel's whole output: at every row and lane the layer's output as mathematics. -/
module

public import proofs.«01_k».proof.Proof.FfnEntry

@[expose] public section

set_option maxRecDepth 16384

noncomputable section

namespace Cert.FfnIdeal.Tile

open Cert.FfnIdeal Cert.FfnIdeal.Gen Idealize.ShloMosaic Idealize.ShloMosaic.TcCoe Idealize.SL.Sem Cert.Feed

variable (m : (ℓ : Loc nD τ sig) → Buf (Elt Ideal) ℓ)

/-- The rows of sequence `b`. -/
def theSeq (c : Dev nD) (b : Fin 8) (s : Fin 4096) : Row :=
  rowOf (m ((c : Thread nD τ).loc main_arg0)) (m ((c : Thread nD τ).loc main_arg1)) (m ((c : Thread nD τ).loc main_arg2))
    (m ((c : Thread nD τ).loc main_arg3)) b s

/-- The gate of row `r` of the rows a grid point works on, in its sequence with a row of zeros at either end: `j` is the row's
    place there, `i` the place of a row of the block one before, at, or one after it. -/
theorem gate_row (c : Dev nD) (t : Fin cfg0.N) (q : Fin 4) (hq : q.val = t.val % 4) (W : Weights) (r : Fin 1056) (b : Fin 8)
    (j : ℕ) (hb : b.val = t.val / 4) (hj : j + 15 = q.val * 1024 + r.val) (hr : 15 ≤ r.val) (hr' : r.val ≤ 1040) :
    gate W (normed W (blockRows m c t) q r) = padded W (theSeq m c b) j := by
  have ht := point_lt t
  funext k
  unfold padded
  split_ifs with h
  · have hin : inside q r = true := by
      unfold inside
      simp only [Bool.and_eq_true, Bool.or_eq_true, decide_eq_true_eq]
      omega
    have hrow := blockRows_eq m c t r ⟨t.val * 1024 + r.val - 16, by omega⟩ (by show t.val * 1024 + r.val - 16 + 16 = _; omega)
    have hN : normed W (blockRows m c t) q r = hid W (theSeq m c b ⟨j - 1, h.2⟩) := by
      funext l
      unfold normed
      rw [if_pos hin, hrow]
      refine congrArg (fun R => hid W R l) ?_
      show theSeq m c (seqOf _) (posOf _) = _
      refine congrArg₂ (theSeq m c) (Fin.ext ?_) (Fin.ext ?_)
      · show (t.val * 1024 + r.val - 16) / 4096 = b.val; omega
      · show (t.val * 1024 + r.val - 16) % 4096 = j - 1; omega
    rw [hN]
  · have hin : inside q r = false := by
      unfold inside
      rw [Bool.and_eq_false_iff]
      simp only [Bool.or_eq_false_iff, decide_eq_false_iff_not]
      have := q.isLt
      omega
    have hN : normed W (blockRows m c t) q r = fun _ => 0 := by
      funext l
      unfold normed
      rw [hin]
      rfl
    rw [hN, gate_zero]

/-- What a grid point leaves in its block. -/
theorem block_value (c : Dev nD) (t : Fin cfg0.N) (r : Fin 1024) (l : Fin 1024) (b : Fin 8) (s : Fin 4096)
    (hb : b.val = t.val / 4) (hs : s.val = t.val % 4 * 1024 + r.val) :
    outsAt0 m c t (ix2 r l) = out (theWeights m c) (theSeq m c b) s l := by
  have ht := point_lt t
  have hc := coord_eq t
  rw [outs_at m c t (theWeights m c) (holds m c t) ⟨t.val % 4, by omega⟩ (by show t.val % 4 = _; rw [hc]) r l]
  have hrow := blockRows_eq m c t ⟨16 + r.val, by omega⟩ ⟨t.val * 1024 + r.val, by omega⟩
    (by show t.val * 1024 + r.val + 16 = t.val * 1024 + (16 + r.val); omega)
  have hs' : theRow m c ⟨t.val * 1024 + r.val, by omega⟩ = theSeq m c b s := by
    show theSeq m c (seqOf _) (posOf _) = _
    refine congrArg₂ (theSeq m c) (Fin.ext ?_) (Fin.ext ?_)
    · show (t.val * 1024 + r.val) / 4096 = b.val; omega
    · show (t.val * 1024 + r.val) % 4096 = s.val; omega
  have hin : inside (⟨t.val % 4, by omega⟩ : Fin 4) ⟨16 + r.val, by omega⟩ = true := by
    unfold inside
    simp only [Bool.and_eq_true, Bool.or_eq_true, decide_eq_true_eq]
    have := r.isLt
    omega
  have hN : normed (theWeights m c) (blockRows m c t) ⟨t.val % 4, by omega⟩ ⟨16 + r.val, by omega⟩
      = hid (theWeights m c) (theSeq m c b s) := by
    funext l
    unfold normed
    rw [if_pos hin, hrow, hs']
  unfold out act
  rw [gate_row m c t ⟨t.val % 4, by omega⟩ rfl (theWeights m c) ⟨15 + r.val, by omega⟩ b s.val hb
      (by show s.val + 15 = t.val % 4 * 1024 + (15 + r.val); omega) (by show 15 ≤ 15 + r.val; omega) (by show 15 + r.val ≤ 1040; omega),
    gate_row m c t ⟨t.val % 4, by omega⟩ rfl (theWeights m c) ⟨16 + r.val, by omega⟩ b (s.val + 1) hb
      (by show s.val + 1 + 15 = t.val % 4 * 1024 + (16 + r.val); omega) (by show 15 ≤ 16 + r.val; omega) (by show 16 + r.val ≤ 1040; omega),
    gate_row m c t ⟨t.val % 4, by omega⟩ rfl (theWeights m c) ⟨17 + r.val, by omega⟩ b (s.val + 2) hb
      (by show s.val + 2 + 15 = t.val % 4 * 1024 + (17 + r.val); omega) (by show 15 ≤ 17 + r.val; omega) (by show 17 + r.val ≤ 1040; omega),
    hN, hrow, hs']

/-- An array that holds the layer's output at every coordinate is the kernel's output. -/
theorem final (c : Dev nD) (f : S32768x1024.Idx → EReal)
    (hf : ∀ i l, f (ix2 i l) = out (theWeights m c) (theSeq m c (seqOf i)) (posOf i) l) :
    (dats m 0 c).arrAt 19 cfg0.N = f := by
  refine (dats m 0 c).arrAt_eq_of_covers 19 _ (by decide +kernel) fun t _ y => ?_
  have ht := point_lt t
  blk_simp
  rw [after0_19]
  obtain ⟨r, l, rfl⟩ : ∃ (r : Fin 1024) (l : Fin 1024), y = (ix2 r l : S1024x1024.Idx) :=
    ⟨y 0, y 1, by funext a; fin_cases a <;> rfl⟩
  refine (block_value m c t r l (seqOf ⟨t.val * 1024 + r.val, by omega⟩) (posOf ⟨t.val * 1024 + r.val, by omega⟩) ?_ ?_).trans
    ((hf ⟨t.val * 1024 + r.val, by omega⟩ l).symm.trans (congrArg f ?_))
  · show (t.val * 1024 + r.val) / 4096 = t.val / 4; omega
  · show (t.val * 1024 + r.val) % 4096 = t.val % 4 * 1024 + r.val; omega
  blk_ext [win_19]

end Cert.FfnIdeal.Tile
-- ==== Proof.FfnRef.lean ====
/- The end of the layer written plainly, read at one row and lane. -/
module

public import proofs.«01_k».proof.Proof.Gen.FfnRefIdeal.Run
public import proofs.«01_k».proof.Proof.Gen.FfnRefIdeal.Read
public import proofs.«01_k».proof.Proof.FfnFinal

@[expose] public section

set_option maxRecDepth 16384

noncomputable section

namespace Cert.FfnRefIdeal.Plain

open Cert.FfnRefIdeal Cert.FfnRefIdeal.Gen Cert.FfnRefIdeal.Read Idealize.ShloMosaic Cert.Feed
open Cert.FfnIdeal.Tile (weights rowOf seqOf posOf)

variable (x₀ : FVec Ideal S8x4096x256 .bf16) (x₁ x₂ : FVec Ideal S8x4096x384 .bf16) (x₃ : FVec Ideal S8x4096x1024 .f32)
    (x₄ : FVec Ideal S2x1024 .f32) (x₅ : FVec Ideal S2x1024x1024 .f32) (x₆ : FVec Ideal S2x1024 .f32)
    (x₇ : FVec Ideal S2x1024x5632 .f32) (x₈ : FVec Ideal S2x3x2816 .f32) (x₉ : FVec Ideal S2x2816 .f32)
    (x₁₀ : FVec Ideal S2x2816x1024 .f32)

/-- The first attention's output, normed, -/
theorem v16_at (b : Fin 8) (s : Fin 4096) (l : Fin 256) : val_main_v16 (F := Ideal) x₀ x₄ (ix3 b s l)
    = rms (Ideal.ofBits .f32 0x43800000#32) (fun k => x₀ (ix3 b s k)) (fun k => x₄ (ix2 1 ⟨k.val, by omega⟩)) l := by
  have h3 : ∀ k : Fin 256, val_main_v3 (F := Ideal) x₄ (ix1 k) = x₄ (ix2 1 ⟨k.val, by omega⟩) := fun k => by
    unfold val_main_v3 val_main_v1 val_main_v0
    pointwise
  unfold val_main_v16 val_main_v15 val_main_v14
  generalize val_main_v3 (F := Ideal) x₄ = g at *
  unfold val_main_v13 val_main_v12 val_main_v11 val_main_v10 val_main_v9 val_main_v8 val_main_v7 val_main_v6 val_main_v5 val_main_v4
    val_main_v2 val_main_cst val_main_cst_0 val_main_cst_1
  pointwise
  rw [h3]
  rfl

/-- the second's, -/
theorem v31_at (b : Fin 8) (s : Fin 4096) (l : Fin 384) : val_main_v31 (F := Ideal) x₁ x₄ (ix3 b s l)
    = rms (Ideal.ofBits .f32 0x43C00000#32) (fun k => x₁ (ix3 b s k)) (fun k => x₄ (ix2 1 ⟨256 + k.val, by omega⟩)) l := by
  have h3 : ∀ k : Fin 384, val_main_v18 (F := Ideal) x₄ (ix1 k) = x₄ (ix2 1 ⟨256 + k.val, by omega⟩) := fun k => by
    unfold val_main_v18 val_main_v1 val_main_v0
    pointwise
  unfold val_main_v31 val_main_v30 val_main_v29
  generalize val_main_v18 (F := Ideal) x₄ = g at *
  unfold val_main_v28 val_main_v27 val_main_v26 val_main_v25 val_main_v24 val_main_v23 val_main_v22 val_main_v21 val_main_v20 val_main_v19
    val_main_v17 val_main_cst_2 val_main_cst_3 val_main_cst_4
  pointwise
  rw [h3]
  rfl

/-- and the third's. -/
theorem v46_at (b : Fin 8) (s : Fin 4096) (l : Fin 384) : val_main_v46 (F := Ideal) x₂ x₄ (ix3 b s l)
    = rms (Ideal.ofBits .f32 0x43C00000#32) (fun k => x₂ (ix3 b s k)) (fun k => x₄ (ix2 1 ⟨640 + k.val, by omega⟩)) l := by
  have h3 : ∀ k : Fin 384, val_main_v33 (F := Ideal) x₄ (ix1 k) = x₄ (ix2 1 ⟨640 + k.val, by omega⟩) := fun k => by
    unfold val_main_v33 val_main_v1 val_main_v0
    pointwise
  unfold val_main_v46 val_main_v45 val_main_v44
  generalize val_main_v33 (F := Ideal) x₄ = g at *
  unfold val_main_v43 val_main_v42 val_main_v41 val_main_v40 val_main_v39 val_main_v38 val_main_v37 val_main_v36 val_main_v35 val_main_v34
    val_main_v32 val_main_cst_5 val_main_cst_6 val_main_cst_7
  pointwise
  rw [h3]
  rfl

/-- The three side by side, -/
theorem v47_at (b : Fin 8) (s : Fin 4096) (l : Fin 1024) : val_main_v47 (F := Ideal) x₀ x₁ x₂ x₄ (ix3 b s l)
    = mix (weights x₄ x₅ x₆ x₇ x₈ x₉ x₁₀) (rowOf x₀ x₁ x₂ x₃ b s) l := by
  have ha := v16_at x₀ x₄ b s
  have hd := v31_at x₁ x₄ b s
  have hc := v46_at x₂ x₄ b s
  unfold val_main_v47
  generalize val_main_v16 (F := Ideal) x₀ x₄ = A at *
  generalize val_main_v31 (F := Ideal) x₁ x₄ = D at *
  generalize val_main_v46 (F := Ideal) x₂ x₄ = C at *
  pointwise
  simp only [ha, hd, hc]
  rfl

/-- the residual stream after them, -/
theorem v51_at (b : Fin 8) (s : Fin 4096) (l : Fin 1024) : val_main_v51 (F := Ideal) x₀ x₁ x₂ x₃ x₄ x₅ (ix3 b s l)
    = resid (weights x₄ x₅ x₆ x₇ x₈ x₉ x₁₀) (rowOf x₀ x₁ x₂ x₃ b s) l := by
  have hm := v47_at x₀ x₁ x₂ x₃ x₄ x₅ x₆ x₇ x₈ x₉ x₁₀ b s
  unfold val_main_v51 val_main_v50
  generalize val_main_v47 (F := Ideal) x₀ x₁ x₂ x₄ = M at *
  unfold val_main_v49 val_main_v48
  pointwise
  simp only [hm]
  rfl

/-- and its norm. -/
theorem v66_at (b : Fin 8) (s : Fin 4096) (l : Fin 1024) : val_main_v66 (F := Ideal) x₀ x₁ x₂ x₃ x₄ x₅ x₆ (ix3 b s l)
    = hid (weights x₄ x₅ x₆ x₇ x₈ x₉ x₁₀) (rowOf x₀ x₁ x₂ x₃ b s) l := by
  have hy := v51_at x₀ x₁ x₂ x₃ x₄ x₅ x₆ x₇ x₈ x₉ x₁₀ b s
  unfold val_main_v66 val_main_v65 val_main_v64 val_main_v63 val_main_v62 val_main_v61 val_main_v60 val_main_v59 val_main_v58
    val_main_v57 val_main_v56 val_main_v55 val_main_v54 val_main_v53 val_main_v52 val_main_cst_8 val_main_cst_9 val_main_cst_10
  generalize val_main_v51 (F := Ideal) x₀ x₁ x₂ x₃ x₄ x₅ = Y at *
  pointwise
  simp only [hy]
  rfl

/-- The gate, -/
theorem v70_at (b : Fin 8) (s : Fin 4096) (c : Fin 2816) : val_main_v70 (F := Ideal) x₀ x₁ x₂ x₃ x₄ x₅ x₆ x₇ (ix3 b s c)
    = gate (weights x₄ x₅ x₆ x₇ x₈ x₉ x₁₀) (hid (weights x₄ x₅ x₆ x₇ x₈ x₉ x₁₀) (rowOf x₀ x₁ x₂ x₃ b s)) c := by
  have hh := v66_at x₀ x₁ x₂ x₃ x₄ x₅ x₆ x₇ x₈ x₉ x₁₀ b s
  unfold val_main_v70 val_main_v69 val_main_v68 val_main_v67
  generalize val_main_v66 (F := Ideal) x₀ x₁ x₂ x₃ x₄ x₅ x₆ = H at *
  pointwise
  simp only [hh]
  rfl

/-- and what it multiplies. -/
theorem v71_at (b : Fin 8) (s : Fin 4096) (c : Fin 2816) : val_main_v71 (F := Ideal) x₀ x₁ x₂ x₃ x₄ x₅ x₆ x₇ (ix3 b s c)
    = up (weights x₄ x₅ x₆ x₇ x₈ x₉ x₁₀) (hid (weights x₄ x₅ x₆ x₇ x₈ x₉ x₁₀) (rowOf x₀ x₁ x₂ x₃ b s)) c := by
  have hh := v66_at x₀ x₁ x₂ x₃ x₄ x₅ x₆ x₇ x₈ x₉ x₁₀ b s
  unfold val_main_v71 val_main_v69 val_main_v68 val_main_v67
  generalize val_main_v66 (F := Ideal) x₀ x₁ x₂ x₃ x₄ x₅ x₆ = H at *
  pointwise
  simp only [hh]
  rfl

/-- The gate with a row of zeros before and a row of zeros after. -/
theorem v76_at (b : Fin 8) (j : Fin 4098) (c : Fin 2816) : val_main_v76 (F := Ideal) x₀ x₁ x₂ x₃ x₄ x₅ x₆ x₇ (ix3 b j c)
    = padded (weights x₄ x₅ x₆ x₇ x₈ x₉ x₁₀) (rowOf x₀ x₁ x₂ x₃ b) j.val c := by
  have hg := fun s => v70_at x₀ x₁ x₂ x₃ x₄ x₅ x₆ x₇ x₈ x₉ x₁₀ b s
  unfold val_main_v76 val_main_call0_v0 val_main_c
  generalize val_main_v70 (F := Ideal) x₀ x₁ x₂ x₃ x₄ x₅ x₆ x₇ = G at *
  pointwise
  rw [show (FloatOps.sitofp FTy.f32 (0#32) : Ideal .f32) = 0 from by simp [FloatOps.sitofp]]
  simp only [hg]
  rfl

/-- The convolution of the gate over the rows, -/
theorem v99_at (b : Fin 8) (s : Fin 4096) (c : Fin 2816) : val_main_v99 (F := Ideal) x₀ x₁ x₂ x₃ x₄ x₅ x₆ x₇ x₈ x₉ (ix3 b s c)
    = conv (weights x₄ x₅ x₆ x₇ x₈ x₉ x₁₀) (padded (weights x₄ x₅ x₆ x₇ x₈ x₉ x₁₀) (rowOf x₀ x₁ x₂ x₃ b) s.val)
      (padded (weights x₄ x₅ x₆ x₇ x₈ x₉ x₁₀) (rowOf x₀ x₁ x₂ x₃ b) (s.val + 1))
      (padded (weights x₄ x₅ x₆ x₇ x₈ x₉ x₁₀) (rowOf x₀ x₁ x₂ x₃ b) (s.val + 2)) c := by
  have hp := fun j => v76_at x₀ x₁ x₂ x₃ x₄ x₅ x₆ x₇ x₈ x₉ x₁₀ b j
  unfold val_main_v99 val_main_v98 val_main_v97 val_main_v96 val_main_v95 val_main_v94 val_main_v93 val_main_v92 val_main_v91
    val_main_v90 val_main_v89 val_main_v88 val_main_v87 val_main_v86 val_main_v85 val_main_v84 val_main_v83 val_main_v82
    val_main_v81 val_main_v80 val_main_v79 val_main_v78 val_main_v77 val_main_v75 val_main_v74 val_main_v73 val_main_v72
  generalize val_main_v76 (F := Ideal) x₀ x₁ x₂ x₃ x₄ x₅ x₆ x₇ = P at *
  pointwise
  simp only [hp, Nat.add_comm 1 s.val, Nat.add_comm 2 s.val]
  rfl

/-- the unit of it times what the gate multiplies, -/
theorem v107_at (b : Fin 8) (s : Fin 4096) (c : Fin 2816) : val_main_v107 (F := Ideal) x₀ x₁ x₂ x₃ x₄ x₅ x₆ x₇ x₈ x₉ (ix3 b s c)
    = gelu (conv (weights x₄ x₅ x₆ x₇ x₈ x₉ x₁₀) (padded (weights x₄ x₅ x₆ x₇ x₈ x₉ x₁₀) (rowOf x₀ x₁ x₂ x₃ b) s.val)
      (padded (weights x₄ x₅ x₆ x₇ x₈ x₉ x₁₀) (rowOf x₀ x₁ x₂ x₃ b) (s.val + 1))
      (padded (weights x₄ x₅ x₆ x₇ x₈ x₉ x₁₀) (rowOf x₀ x₁ x₂ x₃ b) (s.val + 2)) c)
      * up (weights x₄ x₅ x₆ x₇ x₈ x₉ x₁₀) (hid (weights x₄ x₅ x₆ x₇ x₈ x₉ x₁₀) (rowOf x₀ x₁ x₂ x₃ b s)) c := by
  have hv := v99_at x₀ x₁ x₂ x₃ x₄ x₅ x₆ x₇ x₈ x₉ x₁₀ b s c
  have hu := v71_at x₀ x₁ x₂ x₃ x₄ x₅ x₆ x₇ x₈ x₉ x₁₀ b s c
  unfold val_main_v107 val_main_v106 val_main_v105 val_main_v104 val_main_v103 val_main_v102 val_main_v101 val_main_v100
    val_main_cst_11 val_main_cst_12
  generalize val_main_v99 (F := Ideal) x₀ x₁ x₂ x₃ x₄ x₅ x₆ x₇ x₈ x₉ = Z at *
  generalize val_main_v71 (F := Ideal) x₀ x₁ x₂ x₃ x₄ x₅ x₆ x₇ = U at *
  pointwise
  rw [hv, hu, EReal.neg_mul, Ideal.erfc_neg]
  rfl

/-- and the output. -/
theorem value (i : Fin 32768) (l : Fin 1024) : val_main_v112 (F := Ideal) x₀ x₁ x₂ x₃ x₄ x₅ x₆ x₇ x₈ x₉ x₁₀ (ix2 i l)
    = out (weights x₄ x₅ x₆ x₇ x₈ x₉ x₁₀) (rowOf x₀ x₁ x₂ x₃ (seqOf i)) (posOf i) l := by
  have hy := fun b s => v51_at x₀ x₁ x₂ x₃ x₄ x₅ x₆ x₇ x₈ x₉ x₁₀ b s
  have ha := fun b s => v107_at x₀ x₁ x₂ x₃ x₄ x₅ x₆ x₇ x₈ x₉ x₁₀ b s
  unfold val_main_v112 val_main_v111 val_main_v110 val_main_v109 val_main_v108
  generalize val_main_v51 (F := Ideal) x₀ x₁ x₂ x₃ x₄ x₅ = Y at *
  generalize val_main_v107 (F := Ideal) x₀ x₁ x₂ x₃ x₄ x₅ x₆ x₇ x₈ x₉ = A at *
  pointwise
  simp only [hy, ha]
  rfl

end Cert.FfnRefIdeal.Plain
-- ==== Proof.FfnClaims.lean ====
/- The claims about the feed-forward part: it runs, its idealized form is the program read over the reals, and its result is the plain one's. -/
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnFinal
public import proofs.«01_k».proof.Proof.FfnRef
public import Idealize.ShloMosaic.Adequacy
public import Idealize.ShloMosaic.Init

@[expose] public section

set_option maxRecDepth 16384

noncomputable section

namespace Cert.Proof

open Idealize.ShloMosaic Idealize.SL.Sem

/-- The feed-forward kernel runs and leaves its arguments as they were. -/
theorem frame_ffn : Cert.quiescent_Ffn := fun m ρ _ => Cert.Ffn.Gen.frame m ρ

/-- So does its idealized form, -/
theorem frame_ffnIdeal : Cert.quiescent_FfnIdeal := fun m ρ _ => Cert.FfnIdeal.Gen.frame m ρ

/-- and so does the plain program. -/
theorem frame_ffnRefIdeal : Cert.quiescent_FfnRefIdeal := fun m ρ _ =>
  (θ_run (Cert.FfnRefIdeal.defs (F := Ideal)) _ _).mono
    (fun r h => ⟨fun c => (h c).2, sem_eq_zero_of_no_sems (by decide) r.2⟩)
    (Cert.FfnRefIdeal.Value.run (F := Ideal) m ρ)

/-- No constant is named and no operation replaced. -/
theorem preserves_ffn : Cert.preserves_Ffn_FfnIdeal := trivial

/-- The tiled feed-forward part and the plain one leave the same array, whatever their arguments. -/
theorem algebraic_ffn : Cert.algebraic_FfnIdeal_FfnRefIdeal := by
  intro m ρ m' ρ' _ hagree
  refine ⟨fun c => Cert.FfnRefIdeal.Read.val_main_v112 (F := Ideal)
    (m' ((c.tc : Thread Cert.FfnRefIdeal.nD Cert.FfnRefIdeal.τ).loc Cert.FfnRefIdeal.main_arg0))
    (m' ((c.tc : Thread Cert.FfnRefIdeal.nD Cert.FfnRefIdeal.τ).loc Cert.FfnRefIdeal.main_arg1))
    (m' ((c.tc : Thread Cert.FfnRefIdeal.nD Cert.FfnRefIdeal.τ).loc Cert.FfnRefIdeal.main_arg2))
    (m' ((c.tc : Thread Cert.FfnRefIdeal.nD Cert.FfnRefIdeal.τ).loc Cert.FfnRefIdeal.main_arg3))
    (m' ((c.tc : Thread Cert.FfnRefIdeal.nD Cert.FfnRefIdeal.τ).loc Cert.FfnRefIdeal.main_arg4))
    (m' ((c.tc : Thread Cert.FfnRefIdeal.nD Cert.FfnRefIdeal.τ).loc Cert.FfnRefIdeal.main_arg5))
    (m' ((c.tc : Thread Cert.FfnRefIdeal.nD Cert.FfnRefIdeal.τ).loc Cert.FfnRefIdeal.main_arg6))
    (m' ((c.tc : Thread Cert.FfnRefIdeal.nD Cert.FfnRefIdeal.τ).loc Cert.FfnRefIdeal.main_arg7))
    (m' ((c.tc : Thread Cert.FfnRefIdeal.nD Cert.FfnRefIdeal.τ).loc Cert.FfnRefIdeal.main_arg8))
    (m' ((c.tc : Thread Cert.FfnRefIdeal.nD Cert.FfnRefIdeal.τ).loc Cert.FfnRefIdeal.main_arg9))
    (m' ((c.tc : Thread Cert.FfnRefIdeal.nD Cert.FfnRefIdeal.τ).loc Cert.FfnRefIdeal.main_arg10)), ?_, ?_⟩
  · refine (θ_run (Cert.FfnIdeal.defs (F := Ideal)) _ _).mono (fun r h c => ⟨(h c).1.trans ?_, (h c).2⟩) (Cert.FfnIdeal.Value.run_blocks (F := Ideal) m ρ)
    obtain ⟨e₀, e₁, e₂, e₃, e₄, e₅, e₆, e₇, e₈, e₉, e₁₀⟩ := hagree c
    dsimp only
    rw [e₀, e₁, e₂, e₃, e₄, e₅, e₆, e₇, e₈, e₉, e₁₀]
    exact Cert.FfnIdeal.Tile.final m c _ fun i l => Cert.FfnRefIdeal.Plain.value _ _ _ _ _ _ _ _ _ _ _ i l
  · exact (θ_run (Cert.FfnRefIdeal.defs (F := Ideal)) _ _).mono
      (fun r h c => ⟨(h c).1.trans (Cert.FfnRefIdeal.Read.val_main_v112_eq (F := Ideal) _ _), (h c).2⟩) (Cert.FfnRefIdeal.Value.run (F := Ideal) m' ρ')

end Cert.Proof

end
-- ==== Proof.InprojMath.lean ====
/- The beginning of the layer for one row, as mathematics: the normed row's projection, the norms of its heads and the
   turns by the rotary angles, in the kernel's form and in the plain one. -/
module

public import proofs.«01_k».proof.Proof.FfnMath

@[expose] public section

set_option maxRecDepth 16384

noncomputable section

namespace Cert.Inproj

open Idealize.ShloMosaic Cert.Feed

/-- The projection of a row `x`: it is normed with the gains `g` and multiplied by the weights `w`. -/
def proj (g : Fin 1024 → EReal) (w : Fin 1024 → Fin 2560 → EReal) (x : Fin 1024 → EReal) (c : Fin 2560) : EReal :=
  ∑ k, rms (Ideal.ofBits .f32 0x44800000#32) x g k * w k c

/-- The norm of one head's 64 lanes. -/
def headNorm (v g : Fin 64 → EReal) (d : Fin 64) : EReal := rms (Ideal.ofBits .f32 0x42800000#32) v g d

/-- The head that column `c` lies in. -/
def headOf {n : ℕ} (Q : Fin n → EReal) (c : Fin n) (d : Fin 64) : EReal :=
  if h : c.val / 64 * 64 + d.val < n then Q ⟨c.val / 64 * 64 + d.val, h⟩ else 0

/-- The normed columns, each with its own gain. -/
def cols (Q : Fin 2560 → EReal) (G : Fin 1792 → EReal) (c : Fin 1792) : EReal :=
  Q ⟨c.val, by omega⟩ * Ideal.rsqrt (Ideal.div (∑ d, headOf Q ⟨c.val, by omega⟩ d * headOf Q ⟨c.val, by omega⟩ d)
    (Ideal.ofBits .f32 0x42800000#32) + eps) * G c

/-- The lane `k` places on in the same 128. -/
def shift (k : ℕ) (c : Fin 1792) : Fin 1792 := ⟨c.val / 128 * 128 + (c.val % 128 + k) % 128, by omega⟩

/-- A turn as the kernel computes it: a column times its cosine, plus the column half a turn's width on or back times its
    signed sine. -/
def spin (h w : ℕ) (N : Fin 1792 → EReal) (C S : Fin 128 → EReal) (c : Fin 1792) : EReal :=
  N c * C ⟨c.val % 128, by omega⟩ + (if c.val % w < h then N (shift h c) else N (shift (128 - h) c)) * S ⟨c.val % 128, by omega⟩

/-- The turn of a pair of halves of `n` lanes. -/
def turn {n : ℕ} (v w c s : Fin n → EReal) (d : Fin (n + n)) : EReal :=
  if h : d.val < n then v ⟨d.val, h⟩ * c ⟨d.val, h⟩ - w ⟨d.val, h⟩ * s ⟨d.val, h⟩
  else w ⟨d.val - n, by omega⟩ * c ⟨d.val - n, by omega⟩ + v ⟨d.val - n, by omega⟩ * s ⟨d.val - n, by omega⟩

/-- The turn of a head's first 16 lanes. -/
def part (v : Fin 64 → EReal) (c s : Fin 8 → EReal) (d : Fin 64) : EReal :=
  if h : d.val < 16 then turn (n := 8) (fun j => v ⟨j.val, by omega⟩) (fun j => v ⟨8 + j.val, by omega⟩) c s ⟨d.val, h⟩
  else v d

/-- The turns of a head's two halves, by two angles. -/
def axial (v : Fin 64 → EReal) (c s c' s' : Fin 16 → EReal) (d : Fin 64) : EReal :=
  if h : d.val < 32 then turn (n := 16) (fun j => v ⟨j.val, by omega⟩) (fun j => v ⟨16 + j.val, by omega⟩) c s ⟨d.val, h⟩
  else turn (n := 16) (fun j => v ⟨32 + j.val, by omega⟩) (fun j => v ⟨48 + j.val, by omega⟩) c' s' ⟨d.val - 32, by omega⟩

/-- The column of the weights that the kernel holds at column `l`: it takes the normed columns first. -/
def perm (l : Fin 2560) : Fin 2560 :=
  if l.val < 512 then l else if h : l.val < 1280 then ⟨l.val + 256, by omega⟩ else if h : l.val < 1792 then ⟨l.val + 640, by omega⟩
  else if l.val < 2048 then ⟨l.val - 1280, by omega⟩ else if l.val < 2432 then ⟨l.val - 512, by omega⟩ else l

/-- The kernel's table of cosines for the turn of the first 16 lanes, -/
def partCos (c : Fin 8 → EReal) (l : Fin 128) : EReal :=
  if h : l.val % 64 < 8 then c ⟨l.val % 64, h⟩ else if h' : l.val % 64 < 16 then c ⟨l.val % 64 - 8, by omega⟩ else 1
/-- and of signed sines. -/
def partSin (s : Fin 8 → EReal) (l : Fin 128) : EReal :=
  if h : l.val % 64 < 8 then -s ⟨l.val % 64, h⟩ else if h' : l.val % 64 < 16 then s ⟨l.val % 64 - 8, by omega⟩ else 0

/-- The kernel's table of cosines for the turns of both halves, -/
def axialCos (c c' : Fin 16 → EReal) (l : Fin 128) : EReal :=
  if l.val % 64 < 32 then c ⟨l.val % 16, by omega⟩ else c' ⟨l.val % 16, by omega⟩
/-- and of signed sines. -/
def axialSin (s s' : Fin 16 → EReal) (l : Fin 128) : EReal :=
  if l.val % 64 < 32 then (if l.val % 32 < 16 then -s ⟨l.val % 16, by omega⟩ else s ⟨l.val % 16, by omega⟩)
  else (if l.val % 32 < 16 then -s' ⟨l.val % 16, by omega⟩ else s' ⟨l.val % 16, by omega⟩)

/-- A sum over 256 lanes that counts the lanes of one head only is the sum over that head. -/
theorem head_sum (f : Fin 256 → EReal) (j : Fin 4) :
    ∑ k : Fin 256, f k * (if k.val / 64 = j.val then 1 else 0) = ∑ d : Fin 64, f ⟨j.val * 64 + d.val, by omega⟩ := by
  rw [← (finProdFinEquiv : Fin 4 × Fin 64 ≃ Fin 256).sum_comp, Fintype.sum_prod_type, Finset.sum_eq_single j]
  · refine Finset.sum_congr rfl fun d _ => ?_
    rw [if_pos (by show (d.val + 64 * j.val) / 64 = j.val; omega), mul_one]
    exact congrArg f (Fin.ext (by show d.val + 64 * j.val = j.val * 64 + d.val; omega))
  · intro i _ hi
    refine Finset.sum_eq_zero fun d _ => ?_
    rw [if_neg (fun h => hi (Fin.ext (by have : (d.val + 64 * i.val) / 64 = j.val := h; omega))), mul_zero]
  · intro h
    exact absurd (Finset.mem_univ j) h

/-- A 64th is a division by 64. -/
theorem over_64 (x : EReal) : x * Ideal.ofBits .f32 0x3C800000#32 = Ideal.div x (Ideal.ofBits .f32 0x42800000#32) := by
  have h : Ideal.ofBits .f32 0x42800000#32 = ((64 : ℝ) : EReal) := by
    simp [Ideal.ofBits, Ideal.ieee]
    refine (EReal.coe_mul _ _).symm.trans (congrArg _ ?_)
    norm_num
  have h' : Ideal.ofBits .f32 0x3C800000#32 = ((1 / 64 : ℝ) : EReal) := by
    simp [Ideal.ofBits, Ideal.ieee]
    refine (EReal.coe_mul _ _).symm.trans (congrArg _ ?_)
    norm_num
  rw [h, h', Ideal.div_coe (by norm_num)]

/-- The scale of the queries. -/
def sigma : EReal := Ideal.ofBits .f32 0x3E38AA3B#32

/-- The scale is a real number that is not negative; -/
theorem sigma_real : ∃ r : ℝ, 0 ≤ r ∧ sigma = (r : EReal) := by
  refine ⟨_, ?_, by unfold sigma; simp only [Ideal.ofBits, Ideal.ieee]; rw [if_neg (by decide), if_neg (by decide)]⟩
  rw [if_neg (by decide), one_mul]
  positivity

/-- it is not negative as an extended real, -/
theorem sigma_nonneg : 0 ≤ sigma := by
  obtain ⟨r, h, e⟩ := sigma_real
  rw [e]
  exact EReal.coe_nonneg.mpr h

/-- and it is not infinite. -/
theorem sigma_ne_top : sigma ≠ ⊤ := by
  obtain ⟨r, h, e⟩ := sigma_real
  rw [e]
  exact EReal.coe_ne_top r

/-- A turn of scaled lanes is the turn, scaled. -/
theorem turn_scale {n : ℕ} (v w c s : Fin n → EReal) (d : Fin (n + n)) :
    turn (fun j => v j * sigma) (fun j => w j * sigma) c s d = turn v w c s d * sigma := by
  have ha : ∀ a b : EReal, (a + b) * sigma = a * sigma + b * sigma := fun a b =>
    EReal.right_distrib_of_nonneg_of_ne_top sigma_nonneg sigma_ne_top a b
  unfold turn
  split_ifs with h
  · rw [sub_eq_add_neg, sub_eq_add_neg, ha, EReal.neg_mul, mul_right_comm, mul_right_comm (w _)]
  · rw [ha, mul_right_comm, mul_right_comm (v _)]

/-- The partial rotary turn passes over the scale. -/
theorem part_scale (v : Fin 64 → EReal) (c s : Fin 8 → EReal) (d : Fin 64) :
    part (fun j => v j * sigma) c s d = part v c s d * sigma := by
  unfold part
  split_ifs with h
  · exact turn_scale (n := 8) _ _ c s _
  · rfl

/-- So does the turn along the two axes of the grid, -/
theorem axial_scale (v : Fin 64 → EReal) (c s c' s' : Fin 16 → EReal) (d : Fin 64) :
    axial (fun j => v j * sigma) c s c' s' d = axial v c s c' s' d * sigma := by
  unfold axial
  split_ifs with h
  · exact turn_scale (n := 16) _ _ c s _
  · exact turn_scale (n := 16) _ _ c' s' _

/-- and the norm of a head passes a scale in its gains on to its result. -/
theorem headNorm_scale (v g : Fin 64 → EReal) (d : Fin 64) :
    headNorm v (fun j => g j * sigma) d = headNorm v g d * sigma := by
  unfold headNorm rms
  exact (mul_assoc _ _ _).symm

/-- The kernel's turn of the first 16 lanes of each head is the plain one. -/
theorem spin_part (N : Fin 1792 → EReal) (c s : Fin 8 → EReal) (i : Fin 1792) :
    spin 8 64 N (partCos c) (partSin s) i = part (headOf N i) c s ⟨i.val % 64, by omega⟩ := by
  have hd : ∀ (d : ℕ) (h : d < 64) (j : Fin 1792), j.val = i.val / 64 * 64 + d → headOf N i ⟨d, h⟩ = N j := by
    intro d h j e
    unfold headOf
    rw [dif_pos (by show i.val / 64 * 64 + d < 1792; omega)]
    exact congrArg N (Fin.ext e.symm)
  have e : i.val % 128 % 64 = i.val % 64 := by omega
  unfold spin part turn partCos partSin
  dsimp only
  simp only [e]
  by_cases h₁ : i.val % 64 < 8
  · rw [dif_pos h₁, dif_pos h₁, if_pos h₁, dif_pos (by omega), dif_pos h₁,
      hd _ _ i (by show i.val = _; omega), hd _ _ (shift 8 i) (by show i.val / 128 * 128 + (i.val % 128 + 8) % 128 = _; omega),
      sub_eq_add_neg, mul_comm _ (-_), EReal.neg_mul, mul_comm (s _)]
  · rw [dif_neg h₁, dif_neg h₁, if_neg h₁]
    by_cases h₂ : i.val % 64 < 16
    · rw [dif_pos h₂, dif_pos h₂, dif_pos h₂, dif_neg h₁,
        hd _ _ i (by show i.val = _ + (8 + (i.val % 64 - 8)); omega),
        hd _ _ (shift (128 - 8) i) (by show i.val / 128 * 128 + (i.val % 128 + (128 - 8)) % 128 = _; omega)]
    · rw [dif_neg h₂, dif_neg h₂, dif_neg h₂, mul_one, mul_zero, add_zero, hd _ _ i (by show i.val = _; omega)]

/-- The kernel's turns of the two halves of each head are the plain ones. -/
theorem spin_axial (N : Fin 1792 → EReal) (c s c' s' : Fin 16 → EReal) (i : Fin 1792) :
    spin 16 32 N (axialCos c c') (axialSin s s') i = axial (headOf N i) c s c' s' ⟨i.val % 64, by omega⟩ := by
  have hd : ∀ (d : ℕ) (h : d < 64) (j : Fin 1792), j.val = i.val / 64 * 64 + d → headOf N i ⟨d, h⟩ = N j := by
    intro d h j e
    unfold headOf
    rw [dif_pos (by show i.val / 64 * 64 + d < 1792; omega)]
    exact congrArg N (Fin.ext e.symm)
  have e : i.val % 128 % 64 = i.val % 64 := by omega
  have e₁ : i.val % 128 % 32 = i.val % 32 := by omega
  have e₂ : i.val % 128 % 16 = i.val % 16 := by omega
  unfold spin axial turn axialCos axialSin
  dsimp only
  simp only [e, e₁, e₂]
  have neg : ∀ x y z w : EReal, x * y + z * -w = x * y - z * w := fun x y z w => by
    rw [sub_eq_add_neg, mul_comm z (-w), EReal.neg_mul, mul_comm w z]
  by_cases h₁ : i.val % 64 < 32
  · rw [if_pos h₁, if_pos h₁, dif_pos h₁]
    by_cases h₂ : i.val % 32 < 16
    · rw [if_pos h₂, if_pos h₂, dif_pos (by omega),
        hd _ _ i (by show i.val = _; omega), hd _ _ (shift 16 i) (by show i.val / 128 * 128 + (i.val % 128 + 16) % 128 = _; omega), neg]
      simp only [show i.val % 16 = i.val % 64 by omega]
    · rw [if_neg h₂, if_neg h₂, dif_neg (by omega),
        hd _ _ i (by show i.val = _ + (16 + (i.val % 64 - 16)); omega),
        hd _ _ (shift (128 - 16) i) (by show i.val / 128 * 128 + (i.val % 128 + (128 - 16)) % 128 = _; omega)]
      simp only [show i.val % 16 = i.val % 64 - 16 by omega]
  · rw [if_neg h₁, if_neg h₁, dif_neg h₁]
    by_cases h₂ : i.val % 32 < 16
    · rw [if_pos h₂, if_pos h₂, dif_pos (by omega),
        hd _ _ i (by show i.val = _ + (32 + (i.val % 64 - 32)); omega), hd _ _ (shift 16 i) (by show i.val / 128 * 128 + (i.val % 128 + 16) % 128 = _ + (48 + (i.val % 64 - 32)); omega), neg]
      simp only [show i.val % 16 = i.val % 64 - 32 by omega]
    · rw [if_neg h₂, if_neg h₂, dif_neg (by omega),
        hd _ _ i (by show i.val = _ + (48 + (i.val % 64 - 32 - 16)); omega),
        hd _ _ (shift (128 - 16) i) (by show i.val / 128 * 128 + (i.val % 128 + (128 - 16)) % 128 = _ + (32 + (i.val % 64 - 32 - 16)); omega)]
      simp only [show i.val % 16 = i.val % 64 - 32 - 16 by omega]

/-- The gains of all normed columns: each head's, three kinds of queries and keys in turn, the queries' with the scale. -/
def gain (qg kg : Fin 3 → Fin 64 → EReal) (l : Fin 1792) : EReal :=
  if l.val < 256 then qg 0 ⟨l.val % 64, by omega⟩ * sigma else if l.val < 512 then kg 0 ⟨l.val % 64, by omega⟩
  else if l.val < 896 then qg 1 ⟨l.val % 64, by omega⟩ * sigma else if l.val < 1280 then kg 1 ⟨l.val % 64, by omega⟩
  else if l.val < 1664 then qg 2 ⟨l.val % 64, by omega⟩ * sigma else kg 2 ⟨l.val % 64, by omega⟩

/-- The angle of lane `k` at position `s`: a power of `th` with exponent `-2k` over `n`, times the position. -/
def angle (th n : BitVec 32) (k s : ℕ) : EReal :=
  Ideal.pow (Ideal.ofBits .f32 th) (Ideal.div (-(Ideal.ofBits .f32 0x40000000#32 * FloatOps.sitofp (F := Ideal) .f32 (BitVec.ofNat 32 k))) (Ideal.ofBits .f32 n))
    * FloatOps.sitofp (F := Ideal) .f32 (BitVec.ofNat 32 s)

end Cert.Inproj
-- ==== Proof.InprojTile.lean ====
/- The values of the projection kernel's body: each kind of store read at one row and one lane. -/
module

public import proofs.«01_k».proof.Proof.Gen.InprojIdeal.Skeleton
public import proofs.«01_k».proof.Proof.InprojMath

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

/-- The 256 rows from `p` on. -/
abbrev rowsOf (x : Vec Ideal S1024x1024 .f32) (p : ℕ) (h : ∀ a, (![p, 0] : Fin 2 → ℕ) a + S256x1024.size a ≤ S1024x1024.size a) :
    Vec Ideal S256x1024 .f32 := View.ld x (Rect.unit (s := S1024x1024) ![p, 0] S256x1024.size h)

/-- The same rows of a table. -/
abbrev tabOf (x : Vec Ideal S1024x128 .f32) (p : ℕ) (h : ∀ a, (![p, 0] : Fin 2 → ℕ) a + S256x128.size a ≤ S1024x128.size a) :
    Vec Ideal S256x128 .f32 := View.ld x (Rect.unit (s := S1024x128) ![p, 0] S256x128.size h)

/-- The columns that are normed, of some rows. -/
abbrev colsA (X : Vec Ideal S256x1024 .f32) (g : Vec Ideal S1x1024 .f32) (w : Vec Ideal S1x1024x2560 .bf16) : FVec Ideal S256x1792 .f32 :=
  k0_pay6 (k0_pay4 X) (View.ld g (Rect.unit (s := S1x1024) ![0, 0] S1x1024.size inb_S1x1024_S1x1024_0_0))
    (View.ld w (Rect.unit (s := S1x1024x2560) ![0, 0, 0] S1x1024x1792.size inb_S1x1024x2560_S1x1024x1792_0_0_0))

/-- The columns that are not. -/
abbrev colsB (X : Vec Ideal S256x1024 .f32) (g : Vec Ideal S1x1024 .f32) (w : Vec Ideal S1x1024x2560 .bf16) : FVec Ideal S256x768 .f32 :=
  k0_pay7 (k0_pay4 X) (View.ld g (Rect.unit (s := S1x1024) ![0, 0] S1x1024.size inb_S1x1024_S1x1024_0_0))
    (View.ld w (Rect.unit (s := S1x1024x2560) ![0, 0, 1792] S1x1024x768.size inb_S1x1024x2560_S1x1024x768_0_0_1792))

/-- The 256 columns from `o` on, normed head by head. -/
abbrev normed (Q : FVec Ideal S256x1792 .f32) (G : Vec Ideal S256x256 .bf16) (g : Vec Ideal S1x1792 .f32) (o : ℕ)
    (hs : S256x1792.Slices ![0, o] S256x256) (h : ∀ a, (![0, o] : Fin 2 → ℕ) a + S1x256.size a ≤ S1x1792.size a) : FVec Ideal S256x256 .f32 :=
  mulf (mulf (extractStridedSlice S256x256 ![0, o] Q hs)
      (rsqrt (addf (mulf (matmul (φ₂ := .bf16) dot_S256x256_S256x256_S256x256_1_0_0_1_n_n none
          (extractStridedSlice S256x256 ![0, o] (truncf .bf16 (mulf Q Q) bitsLt_bf16_f32) hs)
          (shapeCast S256x256 (View.ld G (Rect.unit (s := S256x256) ![0, 0] S256x256.size inb_S256x256_S256x256_0_0)) shapeCasts_S256x256_S256x256)
          (constant S256x256 .f32 0x00000000#32))
        (broadcast S256x256 (Scalar.ofBits .f32 0x3C800000#32))) (broadcast S256x256 (Scalar.ofBits .f32 0x358637BD#32)))))
    (broadcastTo S256x256 (shapeCast S1x256 (View.ld g (Rect.unit (s := S1x1792) ![0, o] S1x256.size h)) shapeCasts_S1x256_S1x256)
      broadcasts_S1x256_S256x256)

/-- The 128 columns of half `q` of them, turned. -/
abbrev turned (mask : IVec S1x128 1) (a b : BitVec 32) (N : FVec Ideal S256x256 .f32) (q : ℕ) (hq : S256x256.Slices ![0, q] S256x128)
    (C S : Vec Ideal S256x128 .f32) : FVec Ideal S256x128 .f32 :=
  addf (mulf (extractStridedSlice S256x128 ![0, q] N hq) (shapeCast S256x128 C shapeCasts_S256x128_S256x128))
    (mulf (select (broadcastTo S256x128 (shapeCast S1x128 mask shapeCasts_S1x128_S1x128) broadcasts_S1x128_S256x128)
        (dynamicRotate 1 a none (extractStridedSlice S256x128 ![0, q] N hq) rotates_S256x128_d1)
        (dynamicRotate 1 b none (extractStridedSlice S256x128 ![0, q] N hq) rotates_S256x128_d1))
      (shapeCast S256x128 S shapeCasts_S256x128_S256x128))

section
variable (x : Vec Ideal S1024x1024 .f32) (g : Vec Ideal S1x1024 .f32) (w : Vec Ideal S1x1024x2560 .bf16)

/-- The projection of row `i` of the block. -/
def projRow (i : Fin 1024) : Fin 2560 → EReal :=
  proj (fun k => g (ix2 0 k)) (fun k c => w (ix3 0 k c)) (fun k => x (ix2 i k))

/-- A read of a chunk of the rows gives the row it starts at, counted on, -/
theorem ld_x (p : ℕ) (h : ∀ a, (![p, 0] : Fin 2 → ℕ) a + S256x1024.size a ≤ S1024x1024.size a) (r : Fin 256) (k : Fin 1024) (i : Fin 1024)
    (hi : i.val = p + r.val) : rowsOf x p h (ix2 r k) = x (ix2 i k) := by
  refine View.ld_unit_apply_of x _ _ h _ (ix2 i k : S1024x1024.Idx) ?_
  intro a
  fin_cases a
  · exact hi
  · show k.val = 0 + k.val; omega

/-- and a read of a chunk of a rotary table does the same. -/
theorem ld_tab (t : Vec Ideal S1024x128 .f32) (p : ℕ) (h : ∀ a, (![p, 0] : Fin 2 → ℕ) a + S256x128.size a ≤ S1024x128.size a) (r : Fin 256) (k : Fin 128)
    (i : Fin 1024) (hi : i.val = p + r.val) : tabOf t p h (ix2 r k) = t (ix2 i k) := by
  refine View.ld_unit_apply_of t _ _ h _ (ix2 i k : S1024x128.Idx) ?_
  intro a
  fin_cases a
  · exact hi
  · show k.val = 0 + k.val; omega

/-- The columns that are normed are the first 1792 of it, -/
theorem colsA_at (p : ℕ) (h : ∀ a, (![p, 0] : Fin 2 → ℕ) a + S256x1024.size a ≤ S1024x1024.size a) (r : Fin 256) (c : Fin 1792) (i : Fin 1024)
    (hi : i.val = p + r.val) : colsA (rowsOf x p h) g w (ix2 r c) = projRow x g w i ⟨c.val, by omega⟩ := by
  have hx := fun k => ld_x x p h r k i hi
  have hg : ∀ k : Fin 1024, View.ld g (Rect.unit (s := S1x1024) ![0, 0] S1x1024.size inb_S1x1024_S1x1024_0_0) (ix2 0 k) = g (ix2 0 k) := fun k => by
    refine View.ld_unit_apply_of g _ _ _ _ (ix2 0 k : S1x1024.Idx) ?_
    intro a
    fin_cases a
    · rfl
    · show k.val = 0 + k.val; omega
  have hw : ∀ k : Fin 1024, View.ld w (Rect.unit (s := S1x1024x2560) ![0, 0, 0] S1x1024x1792.size inb_S1x1024x2560_S1x1024x1792_0_0_0) (ix3 0 k c)
      = w (ix3 0 k ⟨c.val, by omega⟩) := fun k => by
    refine View.ld_unit_apply_of w _ _ _ _ (ix3 0 k ⟨c.val, by omega⟩ : S1x1024x2560.Idx) ?_
    intro a
    fin_cases a
    · rfl
    · show k.val = 0 + k.val; omega
    · show c.val = 0 + c.val; omega
  unfold colsA
  generalize rowsOf x p h = X at *
  generalize View.ld g _ = g' at *
  generalize View.ld w _ = w' at *
  unfold_payloads
  pointwise
  simp only [hx, hg, hw]
  rfl

/-- and the columns that are not are the rest. -/
theorem colsB_at (p : ℕ) (h : ∀ a, (![p, 0] : Fin 2 → ℕ) a + S256x1024.size a ≤ S1024x1024.size a) (r : Fin 256) (c : Fin 768) (i : Fin 1024)
    (hi : i.val = p + r.val) : colsB (rowsOf x p h) g w (ix2 r c) = projRow x g w i ⟨1792 + c.val, by omega⟩ := by
  have hx := fun k => ld_x x p h r k i hi
  have hg : ∀ k : Fin 1024, View.ld g (Rect.unit (s := S1x1024) ![0, 0] S1x1024.size inb_S1x1024_S1x1024_0_0) (ix2 0 k) = g (ix2 0 k) := fun k => by
    refine View.ld_unit_apply_of g _ _ _ _ (ix2 0 k : S1x1024.Idx) ?_
    intro a
    fin_cases a
    · rfl
    · show k.val = 0 + k.val; omega
  have hw : ∀ k : Fin 1024, View.ld w (Rect.unit (s := S1x1024x2560) ![0, 0, 1792] S1x1024x768.size inb_S1x1024x2560_S1x1024x768_0_0_1792) (ix3 0 k c)
      = w (ix3 0 k ⟨1792 + c.val, by omega⟩) := fun k => by
    refine View.ld_unit_apply_of w _ _ _ _ (ix3 0 k ⟨1792 + c.val, by omega⟩ : S1x1024x2560.Idx) ?_
    intro a
    fin_cases a
    · rfl
    · show k.val = 0 + k.val; omega
    · rfl
  unfold colsB
  generalize rowsOf x p h = X at *
  generalize View.ld g _ = g' at *
  generalize View.ld w _ = w' at *
  unfold_payloads
  pointwise
  simp only [hx, hg, hw]
  rfl

/-- The normed columns. -/
theorem normed_at (G : Vec Ideal S256x256 .bf16) (hG : ∀ k l : Fin 256, G (ix2 k l) = if k.val / 64 = l.val / 64 then 1 else 0)
    (gn : Vec Ideal S1x1792 .f32) (Q : FVec Ideal S256x1792 .f32) (R : Fin 2560 → EReal) (r : Fin 256)
    (hQ : ∀ c : Fin 1792, Q (ix2 r c) = R ⟨c.val, by omega⟩) (o : ℕ) (ho : o % 64 = 0) (ho' : o + 256 ≤ 1792)
    (hs : S256x1792.Slices ![0, o] S256x256) (h : ∀ a, (![0, o] : Fin 2 → ℕ) a + S1x256.size a ≤ S1x1792.size a) (l : Fin 256)
    (c : Fin 1792) (hc : c.val = o + l.val) : normed Q G gn o hs h (ix2 r l) = cols R (fun c => gn (ix2 0 c)) c := by
  have hg : View.ld gn (Rect.unit (s := S1x1792) ![0, o] S1x256.size h) (ix2 0 l) = gn (ix2 0 c) := by
    refine View.ld_unit_apply_of gn _ _ h _ (ix2 0 c : S1x1792.Idx) ?_
    intro a
    fin_cases a
    · rfl
    · exact hc
  have hG' : ∀ k : Fin 256, View.ld G (Rect.unit (s := S256x256) ![0, 0] S256x256.size inb_S256x256_S256x256_0_0) (ix2 k l)
      = if k.val / 64 = l.val / 64 then 1 else 0 := fun k => by
    refine (View.ld_unit_apply_of G _ _ _ _ (ix2 k l : S256x256.Idx) ?_).trans (hG k l)
    intro a
    fin_cases a
    · show k.val = 0 + k.val; omega
    · show l.val = 0 + l.val; omega
  unfold normed
  generalize View.ld gn _ = g' at *
  generalize View.ld G _ = G' at *
  pointwise
  simp only [hG', hg, hQ]
  rw [head_sum (fun k : Fin 256 => R ⟨o + k.val, by omega⟩ * R ⟨o + k.val, by omega⟩) ⟨l.val / 64, by omega⟩, over_64]
  have e : ∀ d : Fin 64, headOf R ⟨c.val, by omega⟩ d = R ⟨o + (l.val / 64 * 64 + d.val), by omega⟩ := fun d => by
    unfold headOf
    rw [dif_pos (by show c.val / 64 * 64 + d.val < 2560; omega)]
    exact congrArg R (Fin.ext (by show c.val / 64 * 64 + d.val = o + (l.val / 64 * 64 + d.val); omega))
  unfold cols
  simp only [e]
  have e' : (⟨o + l.val, by omega⟩ : Fin 2560) = ⟨c.val, by omega⟩ := Fin.ext hc.symm
  rw [e']
  rfl

end

/-- The first 8 lanes of each head, -/
theorem first_8 : ∀ l : Fin 128, k0_pay1 (ix2 0 l) = BitVec.ofBool (decide (l.val % 64 < 8)) := by
  intro l
  unfold k0_pay1
  pointwise
  revert l
  decide +kernel

/-- and the first 16 of each half head. -/
theorem first_16 : ∀ l : Fin 128, k0_pay2 (ix2 0 l) = BitVec.ofBool (decide (l.val % 32 < 16)) := by
  intro l
  unfold k0_pay2
  pointwise
  revert l
  decide +kernel

/-- The lanes of the first head. -/
theorem first_64 : ∀ l : Fin 128, k0_pay3 (ix2 0 l) = BitVec.ofBool (decide (l.val < 64)) := by
  intro l
  unfold k0_pay3
  pointwise
  revert l
  decide +kernel

/-- A choice by one bit. -/
theorem select_ofBool {α : Type} (b : Bool) (x y : α) : Scalar.select (BitVec.ofBool b) x y = if b then x else y := by
  cases b <;> rfl

section
variable (q : ℕ) (hq : S256x256.Slices ![0, q] S256x128) (hq' : q + 128 ≤ 256) (hq₀ : q % 128 = 0) (N : FVec Ideal S256x256 .f32)
    (C S : Vec Ideal S256x128 .f32) (r : Fin 256) (l : Fin 128) (V : Fin 1792 → EReal) (o : ℕ) (ho : o % 128 = 0)
    (ho' : o + 256 ≤ 1792) (hN : ∀ (l : Fin 256) (c : Fin 1792), c.val = o + l.val → N (ix2 r l) = V c) (c : Fin 1792)
    (hc : c.val = o + (q + l.val)) (c' s' : Fin 128 → EReal) (hC : ∀ l, C (ix2 r l) = c' l) (hS : ∀ l, S (ix2 r l) = s' l)

include hq' hq₀ ho ho' hN hc hC hS

/-- The columns turned in the first 16 lanes of each head, -/
theorem turned_8 : turned k0_pay1 120#32 8#32 N q hq C S (ix2 r l) = spin 8 64 V c' s' c := by
  have hm := first_8 l
  generalize k0_pay1 = M at *
  unfold turned
  pointwise
  rw [hm, select_ofBool, hC, hS, hN _ c hc, hN _ (shift 8 c) (by show c.val / 128 * 128 + (c.val % 128 + 8) % 128 = o + (q + (l.val + 128 - 120) % 128); omega),
    hN _ (shift (128 - 8) c) (by show c.val / 128 * 128 + (c.val % 128 + 120) % 128 = o + (q + (l.val + 128 - 8) % 128); omega)]
  have e : l = ⟨c.val % 128, by omega⟩ := Fin.ext (by show l.val = c.val % 128; omega)
  have e' : c.val % 64 = l.val % 64 := by omega
  unfold spin
  rw [← e, e']
  simp only [decide_eq_true_eq]

/-- and in both halves. -/
theorem turned_16 : turned k0_pay2 112#32 16#32 N q hq C S (ix2 r l) = spin 16 32 V c' s' c := by
  have hm := first_16 l
  generalize k0_pay2 = M at *
  unfold turned
  pointwise
  rw [hm, select_ofBool, hC, hS, hN _ c hc, hN _ (shift 16 c) (by show c.val / 128 * 128 + (c.val % 128 + 16) % 128 = o + (q + (l.val + 128 - 112) % 128); omega),
    hN _ (shift (128 - 16) c) (by show c.val / 128 * 128 + (c.val % 128 + 112) % 128 = o + (q + (l.val + 128 - 16) % 128); omega)]
  have e : l = ⟨c.val % 128, by omega⟩ := Fin.ext (by show l.val = c.val % 128; omega)
  have e' : c.val % 32 = l.val % 32 := by omega
  unfold spin
  rw [← e, e']
  simp only [decide_eq_true_eq]

end

end Cert.InprojIdeal.Tile
-- ==== Proof.InprojBlock.lean ====
/- What one grid point of the projection kernel leaves in its eight blocks of results. -/
module

public import proofs.«01_k».proof.Proof.Gen.InprojIdeal.Value
public import proofs.«01_k».proof.Proof.InprojTile

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

section
variable (x : Vec Ideal S1024x1024 .f32) (g : Vec Ideal S1x1024 .f32) (w : Vec Ideal S1x1024x2560 .bf16) (G : Vec Ideal S256x256 .bf16)
    (gn : Vec Ideal S1x1792 .f32) (cb sb cc sc : Vec Ideal S1024x128 .f32)

/-- The normed columns of row `i` of the block. -/
def colsRow (i : Fin 1024) : Fin 1792 → EReal := cols (projRow x g w i) (fun c => gn (ix2 0 c))

/-- The columns of the second attention, turned, -/
def partRow (i : Fin 1024) : Fin 1792 → EReal := spin 8 64 (colsRow x g w gn i) (fun l => cb (ix2 i l)) (fun l => sb (ix2 i l))

/-- and of the third. -/
def axialRow (i : Fin 1024) : Fin 1792 → EReal := spin 16 32 (colsRow x g w gn i) (fun l => cc (ix2 i l)) (fun l => sc (ix2 i l))

/-- The third attention's keys and values side by side, ones beside each head's values. -/
def besideRow (i : Fin 1024) (l : Fin 384) : EReal :=
  if h : l.val < 128 then axialRow x g w gn cc sc i ⟨1664 + l.val, by omega⟩
  else if h' : l.val < 192 then projRow x g w i ⟨2432 + (l.val - 128), by omega⟩
  else if h'' : l.val < 320 then 1 else projRow x g w i ⟨2432 + (l.val - 256), by omega⟩

variable (p o q : ℕ) (h : ∀ a, (![p, 0] : Fin 2 → ℕ) a + S256x1024.size a ≤ S1024x1024.size a)
    (ht : ∀ a, (![p, 0] : Fin 2 → ℕ) a + S256x128.size a ≤ S1024x128.size a) (y : S256x128.Idx) (i : Fin 1024)
    (hi : i.val = p + (y 0).val)

/-- A position of a pair of heads is its row and its lane. -/
theorem ix_eta (y : S256x128.Idx) : y = ix2 (y 0 : Fin 256) (y 1 : Fin 128) := by
  funext a
  fin_cases a <;> rfl

section
variable (hG : ∀ k l : Fin 256, G (ix2 k l) = if k.val / 64 = l.val / 64 then 1 else 0)
    (ho : o % 128 = 0) (ho' : o + 256 ≤ 1792) (hq' : q + 128 ≤ 256) (hq₀ : q % 128 = 0)
    (hs : S256x1792.Slices ![0, o] S256x256) (h4 : ∀ a, (![0, o] : Fin 2 → ℕ) a + S1x256.size a ≤ S1x1792.size a)
    (hq : S256x256.Slices ![0, q] S256x128) (c : Fin 1792) (hc : c.val = o + (q + (y 1).val))

include hi hG ho ho' hq' hq₀ hc

/-- A store of columns that are normed only, -/
theorem norm_piece :
    truncf .bf16 (extractStridedSlice S256x128 ![0, q] (normed (colsA (rowsOf x p h) g w) G gn o hs h4) hq) bitsLt_bf16_f32 y
      = colsRow x g w gn i c := by
  have e := fun l (c : Fin 1792) hc => normed_at G hG gn (colsA (rowsOf x p h) g w) (projRow x g w i) (y 0)
    (fun c => colsA_at x g w p h (y 0) c i hi) o (by omega) ho' hs h4 l c hc
  unfold colsRow
  rw [ix_eta y]
  generalize normed (colsA (rowsOf x p h) g w) G gn o hs h4 = N at *
  pointwise
  exact e _ c hc

/-- of columns turned in the first 16 lanes of each head, -/
theorem part_piece :
    truncf .bf16 (turned k0_pay1 120#32 8#32 (normed (colsA (rowsOf x p h) g w) G gn o hs h4) q hq (tabOf cb p ht) (tabOf sb p ht)) bitsLt_bf16_f32 y
      = partRow x g w gn cb sb i c := by
  have e := fun l (c : Fin 1792) hc => normed_at G hG gn (colsA (rowsOf x p h) g w) (projRow x g w i) (y 0)
    (fun c => colsA_at x g w p h (y 0) c i hi) o (by omega) ho' hs h4 l c hc
  unfold partRow colsRow
  rw [ix_eta y]
  exact turned_8 q hq hq' hq₀ _ _ _ (y 0) (y 1) _ o ho ho' e c hc _ _ (fun l => ld_tab cb p ht (y 0) l i hi) (fun l => ld_tab sb p ht (y 0) l i hi)

/-- of columns turned in both halves of each head. -/
theorem axial_piece :
    truncf .bf16 (turned k0_pay2 112#32 16#32 (normed (colsA (rowsOf x p h) g w) G gn o hs h4) q hq (tabOf cc p ht) (tabOf sc p ht)) bitsLt_bf16_f32 y
      = axialRow x g w gn cc sc i c := by
  have e := fun l (c : Fin 1792) hc => normed_at G hG gn (colsA (rowsOf x p h) g w) (projRow x g w i) (y 0)
    (fun c => colsA_at x g w p h (y 0) c i hi) o (by omega) ho' hs h4 l c hc
  unfold axialRow colsRow
  rw [ix_eta y]
  exact turned_16 q hq hq' hq₀ _ _ _ (y 0) (y 1) _ o ho ho' e c hc _ _ (fun l => ld_tab cc p ht (y 0) l i hi) (fun l => ld_tab sc p ht (y 0) l i hi)

end

section
variable (ho' : o + 256 ≤ 768) (hq' : q + 128 ≤ 256) (hs : S256x768.Slices ![0, o] S256x256) (hq : S256x256.Slices ![0, q] S256x128)

include hi

/-- A store of columns that are not normed, -/
theorem plain_piece (c : Fin 2560) (hc : c.val = 1792 + (o + (q + (y 1).val))) :
    truncf .bf16 (extractStridedSlice S256x128 ![0, q] (extractStridedSlice S256x256 ![0, o] (colsB (rowsOf x p h) g w) hs) hq) bitsLt_bf16_f32 y
      = projRow x g w i c := by
  have e := fun c => colsB_at x g w p h (y 0) c i hi
  rw [ix_eta y]
  generalize colsB (rowsOf x p h) g w = Q at *
  pointwise
  exact (e _).trans (congrArg _ (Fin.ext hc.symm))

/-- of values with ones after them, -/
theorem before_piece (j : Fin 384) (hj : j.val = 128 + (y 1).val) (hs : S256x768.Slices ![0, 512] S256x256) (hq : S256x256.Slices ![0, 128] S256x128) :
    truncf .bf16 (select (broadcastTo S256x128 (shapeCast S1x128 k0_pay3 shapeCasts_S1x128_S1x128) broadcasts_S1x128_S256x128)
      (extractStridedSlice S256x128 ![0, 128] (extractStridedSlice S256x256 ![0, 512] (colsB (rowsOf x p h) g w) hs) hq)
      (broadcast S256x128 (Scalar.ofBits .f32 0x3F800000#32))) bitsLt_bf16_f32 y
      = besideRow x g w gn cc sc i j := by
  have e := fun c => colsB_at x g w p h (y 0) c i hi
  have hm := first_64 (y 1)
  rw [ix_eta y]
  generalize colsB (rowsOf x p h) g w = Q at *
  generalize k0_pay3 = M at *
  pointwise
  rw [hm, select_ofBool]
  unfold besideRow
  have hy := (y 1).isLt
  rw [dif_neg (by omega)]
  by_cases hl : (y 1).val < 64
  · rw [dif_pos (by omega), if_pos (by simpa using hl), e]
    exact congrArg _ (Fin.ext (by show 1792 + (512 + (128 + (y 1).val)) = 2432 + (j.val - 128); omega))
  · rw [dif_neg (by omega), dif_pos (by show j.val < 320; have : (y 1).val < 128 := hy; omega), if_neg (by simpa using hl)]

/-- of ones with values after them. -/
theorem after_piece (j : Fin 384) (hj : j.val = 256 + (y 1).val) (hs : S256x768.Slices ![0, 512] S256x256) (hq : S256x256.Slices ![0, 128] S256x128) :
    truncf .bf16 (select (broadcastTo S256x128 (shapeCast S1x128 k0_pay3 shapeCasts_S1x128_S1x128) broadcasts_S1x128_S256x128)
      (broadcast S256x128 (Scalar.ofBits .f32 0x3F800000#32))
      (extractStridedSlice S256x128 ![0, 128] (extractStridedSlice S256x256 ![0, 512] (colsB (rowsOf x p h) g w) hs) hq)) bitsLt_bf16_f32 y
      = besideRow x g w gn cc sc i j := by
  have e := fun c => colsB_at x g w p h (y 0) c i hi
  have hm := first_64 (y 1)
  rw [ix_eta y]
  generalize colsB (rowsOf x p h) g w = Q at *
  generalize k0_pay3 = M at *
  pointwise
  rw [hm, select_ofBool]
  unfold besideRow
  have hy := (y 1).isLt
  rw [dif_neg (by omega), dif_neg (by omega)]
  by_cases hl : (y 1).val < 64
  · rw [dif_pos (by omega), if_pos (by simpa using hl)]
  · rw [dif_neg (by omega), if_neg (by simpa using hl), e]
    exact congrArg _ (Fin.ext (by show 1792 + (512 + (128 + (y 1).val)) = 2432 + (j.val - 256); omega))

end

end

variable (x0 : Vec Ideal S1024x1024 .f32) (x1 : Vec Ideal S1x1024 .f32) (x2 : Vec Ideal S1x1024x2560 .bf16) (x3 : Vec Ideal S256x256 .bf16)
    (x4 : Vec Ideal S1x1792 .f32) (x5 x6 x7 x8 : Vec Ideal S1024x128 .f32)
    (hG : ∀ k l : Fin 256, x3 (ix2 k l) = if k.val / 64 = l.val / 64 then 1 else 0)

section

include hG

/-- The first attention's queries, -/
theorem out_9 (i : Fin 1024) (l : Fin 256) : out0_9 x0 x1 x2 x3 x4 x5 x6 x7 x8 (ix2 i l) = colsRow x0 x1 x2 x4 i ⟨l.val, by omega⟩ := by
  generalize hy : (ix2 i l : S1024x256.Idx) = y
  have y0 : (y 0).val = i.val := by rw [← hy]; rfl
  have y1 : (y 1).val = l.val := by rw [← hy]; rfl
  unfold_out out0_9
  canon_tiles x e
  all_goals exact norm_piece x0 x1 x2 x3 x4 _ _ _ _ x i (by omega) hG (by decide) (by decide) (by decide) (by decide) _ _ (by decide) _ (by show l.val = _; omega)

/-- its keys. -/
theorem out_10 (i : Fin 1024) (l : Fin 256) : out0_10 x0 x1 x2 x3 x4 x5 x6 x7 x8 (ix2 i l) = colsRow x0 x1 x2 x4 i ⟨256 + l.val, by omega⟩ := by
  generalize hy : (ix2 i l : S1024x256.Idx) = y
  have y0 : (y 0).val = i.val := by rw [← hy]; rfl
  have y1 : (y 1).val = l.val := by rw [← hy]; rfl
  unfold_out out0_10
  canon_tiles x e
  all_goals exact norm_piece x0 x1 x2 x3 x4 _ _ _ _ x i (by omega) hG (by decide) (by decide) (by decide) (by decide) _ _ (by decide) _ (by show 256 + l.val = _; omega)

/-- The second attention's queries, -/
theorem out_12 (i : Fin 1024) (l : Fin 384) : out0_12 x0 x1 x2 x3 x4 x5 x6 x7 x8 (ix2 i l) = partRow x0 x1 x2 x4 x5 x6 i ⟨512 + l.val, by omega⟩ := by
  generalize hy : (ix2 i l : S1024x384.Idx) = y
  have y0 : (y 0).val = i.val := by rw [← hy]; rfl
  have y1 : (y 1).val = l.val := by rw [← hy]; rfl
  unfold_out out0_12
  canon_tiles x e
  all_goals exact part_piece x0 x1 x2 x3 x4 x5 x6 _ _ _ _ _ x i (by omega) hG (by decide) (by decide) (by decide) (by decide) _ _ (by decide) _ (by show 512 + l.val = _; omega)

/-- its keys. -/
theorem out_13 (i : Fin 1024) (l : Fin 384) : out0_13 x0 x1 x2 x3 x4 x5 x6 x7 x8 (ix2 i l) = partRow x0 x1 x2 x4 x5 x6 i ⟨896 + l.val, by omega⟩ := by
  generalize hy : (ix2 i l : S1024x384.Idx) = y
  have y0 : (y 0).val = i.val := by rw [← hy]; rfl
  have y1 : (y 1).val = l.val := by rw [← hy]; rfl
  unfold_out out0_13
  canon_tiles x e
  all_goals exact part_piece x0 x1 x2 x3 x4 x5 x6 _ _ _ _ _ x i (by omega) hG (by decide) (by decide) (by decide) (by decide) _ _ (by decide) _ (by show 896 + l.val = _; omega)

/-- The third attention's queries, -/
theorem out_15 (i : Fin 1024) (l : Fin 384) : out0_15 x0 x1 x2 x3 x4 x5 x6 x7 x8 (ix2 i l) = axialRow x0 x1 x2 x4 x7 x8 i ⟨1280 + l.val, by omega⟩ := by
  generalize hy : (ix2 i l : S1024x384.Idx) = y
  have y0 : (y 0).val = i.val := by rw [← hy]; rfl
  have y1 : (y 1).val = l.val := by rw [← hy]; rfl
  unfold_out out0_15
  canon_tiles x e
  all_goals exact axial_piece x0 x1 x2 x3 x4 x7 x8 _ _ _ _ _ x i (by omega) hG (by decide) (by decide) (by decide) (by decide) _ _ (by decide) _ (by show 1280 + l.val = _; omega)

/-- its keys and values. -/
theorem out_16 (i : Fin 1024) (l : Fin 384) : out0_16 x0 x1 x2 x3 x4 x5 x6 x7 x8 (ix2 i l) = besideRow x0 x1 x2 x4 x7 x8 i l := by
  generalize hy : (ix2 i l : S1024x384.Idx) = y
  have y0 : (y 0).val = i.val := by rw [← hy]; rfl
  have y1 : (y 1).val = l.val := by rw [← hy]; rfl
  unfold_out out0_16
  canon_tiles x e
  all_goals first
    | exact before_piece x0 x1 x2 x4 x7 x8 _ _ x i (by omega) l (by omega) (by decide) (by decide)
    | exact after_piece x0 x1 x2 x4 x7 x8 _ _ x i (by omega) l (by omega) (by decide) (by decide)
    | refine Eq.trans ?_ (dif_pos (show l.val < 128 by omega)).symm
      exact axial_piece x0 x1 x2 x3 x4 x7 x8 _ _ _ _ _ x i (by omega) hG (by decide) (by decide) (by decide) (by decide) _ _ (by decide) _ (by show 1664 + l.val = _; omega)

end

/-- The first attention's values, -/
theorem out_11 (i : Fin 1024) (l : Fin 256) : out0_11 x0 x1 x2 x3 x4 x5 x6 x7 x8 (ix2 i l) = projRow x0 x1 x2 i ⟨1792 + l.val, by omega⟩ := by
  generalize hy : (ix2 i l : S1024x256.Idx) = y
  have y0 : (y 0).val = i.val := by rw [← hy]; rfl
  have y1 : (y 1).val = l.val := by rw [← hy]; rfl
  unfold_out out0_11
  canon_tiles x e
  all_goals exact plain_piece x0 x1 x2 _ _ _ _ x i (by omega) (by decide) (by decide) _ (by show 1792 + l.val = _; omega)

/-- and the second's. -/
theorem out_14 (i : Fin 1024) (l : Fin 384) : out0_14 x0 x1 x2 x3 x4 x5 x6 x7 x8 (ix2 i l) = projRow x0 x1 x2 i ⟨2048 + l.val, by omega⟩ := by
  generalize hy : (ix2 i l : S1024x384.Idx) = y
  have y0 : (y 0).val = i.val := by rw [← hy]; rfl
  have y1 : (y 1).val = l.val := by rw [← hy]; rfl
  unfold_out out0_14
  canon_tiles x e
  all_goals exact plain_piece x0 x1 x2 _ _ _ _ x i (by omega) (by decide) (by decide) _ (by show 2048 + l.val = _; omega)

end Cert.InprojIdeal.Tile
-- ==== Proof.InprojHost.lean ====
/- A line of host operations taken in parts. -/
module

public import proofs.«01_k».proof.Proof.InprojBlock

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

/-- A line of operations in two parts. -/
theorem two_parts (n : ℕ) (ops : List (HloOp τ sig (Elt Ideal))) (W : Valuation τ sig (Elt Ideal)) :
    StableHlo.after ops W = StableHlo.after (ops.drop n) (StableHlo.after (ops.take n) W) := by
  rw [← StableHlo.after_append, List.take_append_drop]

/-- A line of operations around one of them. -/
theorem around (n : ℕ) (ops : List (HloOp τ sig (Elt Ideal))) (W : Valuation τ sig (Elt Ideal)) :
    StableHlo.after ops W
      = StableHlo.after (ops.drop (n + 1)) (StableHlo.after ((ops.drop n).take 1) (StableHlo.after (ops.take n) W)) := by
  rw [two_parts n ops W, two_parts 1 (ops.drop n), List.drop_drop]

end Cert.InprojIdeal.Tile
-- ==== Proof.InprojLaid.lean ====
/- The weights and the gains as the host lays them side by side for the projection kernel. -/
module

public import proofs.«01_k».proof.Proof.InprojHost

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

section
variable (W : Valuation τ sig (Elt Ideal))

/-- A gain times the scale of the logits. -/
abbrev timesSigma (x : EReal) : EReal := x * sigma

/-- The weights cut up by the host: each piece is some columns of them. -/
theorem piece_w (k : Fin 1024) :
    (∀ j, StableHlo.after ((hostOps0_2 (F := Ideal)).take 17) W main_v77 (ix3 1 k j) = W main_arg2 (ix3 1 k ⟨j.val, by omega⟩)) ∧
    (∀ j, StableHlo.after ((hostOps0_2 (F := Ideal)).take 17) W main_v78 (ix3 1 k j) = W main_arg2 (ix3 1 k ⟨256 + j.val, by omega⟩)) ∧
    (∀ j, StableHlo.after ((hostOps0_2 (F := Ideal)).take 17) W main_v79 (ix3 1 k j) = W main_arg2 (ix3 1 k ⟨512 + j.val, by omega⟩)) ∧
    (∀ j, StableHlo.after ((hostOps0_2 (F := Ideal)).take 17) W main_v80 (ix3 1 k j) = W main_arg2 (ix3 1 k ⟨768 + j.val, by omega⟩)) ∧
    (∀ j, StableHlo.after ((hostOps0_2 (F := Ideal)).take 17) W main_v81 (ix3 1 k j) = W main_arg2 (ix3 1 k ⟨1152 + j.val, by omega⟩)) ∧
    (∀ j, StableHlo.after ((hostOps0_2 (F := Ideal)).take 17) W main_v82 (ix3 1 k j) = W main_arg2 (ix3 1 k ⟨1536 + j.val, by omega⟩)) ∧
    (∀ j, StableHlo.after ((hostOps0_2 (F := Ideal)).take 17) W main_v83 (ix3 1 k j) = W main_arg2 (ix3 1 k ⟨1920 + j.val, by omega⟩)) ∧
    (∀ j, StableHlo.after ((hostOps0_2 (F := Ideal)).take 17) W main_v84 (ix3 1 k j) = W main_arg2 (ix3 1 k ⟨2304 + j.val, by omega⟩)) ∧
    (∀ j, StableHlo.after ((hostOps0_2 (F := Ideal)).take 17) W main_v85 (ix3 1 k j) = W main_arg2 (ix3 1 k ⟨2432 + j.val, by omega⟩)) := by
  simp only [hostOps0_2, List.take_succ_cons, List.take_zero]
  refine ⟨?_, ?_, ?_, ?_, ?_, ?_, ?_, ?_, ?_⟩
  all_goals
    intro j
    entry_read
    pointwise
    try rfl

/-- The column of the weights at a place, as a number. -/
theorem perm_val (l : Fin 2560) : (perm l).val
    = if l.val < 512 then l.val else if l.val < 1280 then l.val + 256 else if l.val < 1792 then l.val + 640
      else if l.val < 2048 then l.val - 1280 else if l.val < 2432 then l.val - 512 else l.val := by
  unfold perm
  split_ifs <;> rfl

/-- The weights at the same column. -/
theorem col_eq (k : Fin 1024) (l q : Fin 2560) (h : q.val = (perm l).val) : W main_arg2 (ix3 1 k q) = W main_arg2 (ix3 1 k (perm l)) :=
  congrArg (fun q => W main_arg2 (ix3 1 k q)) (Fin.ext h)

/-- The weights side by side in the kernel's order, -/
theorem beside_w (k : Fin 1024) (l : Fin 2560) :
    StableHlo.after (hostOps0_2 (F := Ideal)) W main_v86 (ix3 1 k l) = W main_arg2 (ix3 1 k (perm l)) := by
  have hl := l.isLt
  obtain ⟨e₀, e₁, e₂, e₃, e₄, e₅, e₆, e₇, e₈⟩ := piece_w W k
  rw [around 17]
  generalize StableHlo.after ((hostOps0_2 (F := Ideal)).take 17) W = U at *
  trans StableHlo.after (((hostOps0_2 (F := Ideal)).drop 17).take 1) U main_v86 (ix3 1 k l)
  · generalize StableHlo.after (((hostOps0_2 (F := Ideal)).drop 17).take 1) _ = U
    simp only [hostOps0_2, List.drop_succ_cons, List.drop_zero]
    entry_read
    rfl
  simp only [hostOps0_2, List.drop_succ_cons, List.drop_zero, List.take_succ_cons, List.take_zero]
  rw [StableHlo.after_cons, StableHlo.after_nil, StableHlo.nary_result]
  pointwise
  by_cases c : l.val < 256
  · exact (dif_pos c).trans <| (e₀ _).trans (col_eq W k l _ (by (try dsimp only); rw [perm_val]; split_ifs <;> omega))
  refine (dif_neg c).trans ?_
  by_cases c : l.val - 256 < 256
  · exact (dif_pos c).trans <| (e₁ _).trans (col_eq W k l _ (by (try dsimp only); rw [perm_val]; split_ifs <;> omega))
  refine (dif_neg c).trans ?_
  by_cases c : l.val - 256 - 256 < 384
  · exact (dif_pos c).trans <| (e₃ _).trans (col_eq W k l _ (by (try dsimp only); rw [perm_val]; split_ifs <;> omega))
  refine (dif_neg c).trans ?_
  by_cases c : l.val - 256 - 256 - 384 < 384
  · exact (dif_pos c).trans <| (e₄ _).trans (col_eq W k l _ (by (try dsimp only); rw [perm_val]; split_ifs <;> omega))
  refine (dif_neg c).trans ?_
  by_cases c : l.val - 256 - 256 - 384 - 384 < 384
  · exact (dif_pos c).trans <| (e₆ _).trans (col_eq W k l _ (by (try dsimp only); rw [perm_val]; split_ifs <;> omega))
  refine (dif_neg c).trans ?_
  by_cases c : l.val - 256 - 256 - 384 - 384 - 384 < 128
  · exact (dif_pos c).trans <| (e₇ _).trans (col_eq W k l _ (by (try dsimp only); rw [perm_val]; split_ifs <;> omega))
  refine (dif_neg c).trans ?_
  by_cases c : l.val - 256 - 256 - 384 - 384 - 384 - 128 < 256
  · exact (dif_pos c).trans <| (e₂ _).trans (col_eq W k l _ (by (try dsimp only); rw [perm_val]; split_ifs <;> omega))
  refine (dif_neg c).trans ?_
  by_cases c : l.val - 256 - 256 - 384 - 384 - 384 - 128 - 256 < 384
  · exact (dif_pos c).trans <| (e₅ _).trans (col_eq W k l _ (by (try dsimp only); rw [perm_val]; split_ifs <;> omega))
  refine (dif_neg c).trans ?_
  exact (e₈ _).trans (col_eq W k l _ (by (try dsimp only); rw [perm_val]; split_ifs <;> omega))

/-- The gains cut up and repeated by the host: each piece is one kind's gains, head after head. -/
theorem piece_gain :
    (∀ j, StableHlo.after ((hostOps0_2 (F := Ideal)).take 61) W main_v97 (ix1 j) = timesSigma (W main_arg3 (ix3 1 0 ⟨j.val % 64, by omega⟩))) ∧
    (∀ j, StableHlo.after ((hostOps0_2 (F := Ideal)).take 61) W main_v102 (ix1 j) = W main_arg4 (ix3 1 0 ⟨j.val % 64, by omega⟩)) ∧
    (∀ j, StableHlo.after ((hostOps0_2 (F := Ideal)).take 61) W main_v109 (ix1 j) = timesSigma (W main_arg3 (ix3 1 1 ⟨j.val % 64, by omega⟩))) ∧
    (∀ j, StableHlo.after ((hostOps0_2 (F := Ideal)).take 61) W main_v114 (ix1 j) = W main_arg4 (ix3 1 1 ⟨j.val % 64, by omega⟩)) ∧
    (∀ j, StableHlo.after ((hostOps0_2 (F := Ideal)).take 61) W main_v121 (ix1 j) = timesSigma (W main_arg3 (ix3 1 2 ⟨j.val % 64, by omega⟩))) ∧
    (∀ j, StableHlo.after ((hostOps0_2 (F := Ideal)).take 61) W main_v126 (ix1 j) = W main_arg4 (ix3 1 2 ⟨j.val % 64, by omega⟩)) := by
  simp only [hostOps0_2, List.take_succ_cons, List.take_zero]
  refine ⟨?_, ?_, ?_, ?_, ?_, ?_⟩
  all_goals
    intro j
    entry_read
    pointwise
    try rfl

section
variable (qg kg : Fin 3 → Fin 64 → EReal) (l : Fin 1792)

/-- The gains of each kind's lanes: the first attention's queries, -/
theorem gain_0 (hl : l.val < 256) : timesSigma (qg 0 ⟨l.val % 64, by omega⟩) = gain qg kg l := by
  unfold gain
  rw [if_pos hl]

/-- its keys, -/
theorem gain_1 (h : 256 ≤ l.val) (hl : l.val < 512) : kg 0 ⟨l.val % 64, by omega⟩ = gain qg kg l := by
  unfold gain
  rw [if_neg (by omega), if_pos hl]

/-- the second's queries, -/
theorem gain_2 (h : 512 ≤ l.val) (hl : l.val < 896) : timesSigma (qg 1 ⟨l.val % 64, by omega⟩) = gain qg kg l := by
  unfold gain
  rw [if_neg (by omega), if_neg (by omega), if_pos hl]

/-- its keys, -/
theorem gain_3 (h : 896 ≤ l.val) (hl : l.val < 1280) : kg 1 ⟨l.val % 64, by omega⟩ = gain qg kg l := by
  unfold gain
  rw [if_neg (by omega), if_neg (by omega), if_neg (by omega), if_pos hl]

/-- the third's queries, -/
theorem gain_4 (h : 1280 ≤ l.val) (hl : l.val < 1664) : timesSigma (qg 2 ⟨l.val % 64, by omega⟩) = gain qg kg l := by
  unfold gain
  rw [if_neg (by omega), if_neg (by omega), if_neg (by omega), if_neg (by omega), if_pos hl]

/-- and its keys. -/
theorem gain_5 (h : 1664 ≤ l.val) : kg 2 ⟨l.val % 64, by omega⟩ = gain qg kg l := by
  unfold gain
  rw [if_neg (by omega), if_neg (by omega), if_neg (by omega), if_neg (by omega), if_neg (by omega)]

end

/-- A query's gain at a lane, -/
theorem gain_q (a : Fin 3) (p q : ℕ) (h : p % 64 = q % 64) :
    timesSigma (W main_arg3 (ix3 1 a ⟨p % 64, Nat.mod_lt _ (by decide)⟩)) = timesSigma (W main_arg3 (ix3 1 a ⟨q % 64, Nat.mod_lt _ (by decide)⟩)) :=
  congrArg (fun d => timesSigma (W main_arg3 (ix3 1 a d))) (Fin.ext h)
/-- and a key's. -/
theorem gain_k (a : Fin 3) (p q : ℕ) (h : p % 64 = q % 64) :
    W main_arg4 (ix3 1 a ⟨p % 64, Nat.mod_lt _ (by decide)⟩) = W main_arg4 (ix3 1 a ⟨q % 64, Nat.mod_lt _ (by decide)⟩) :=
  congrArg (fun d => W main_arg4 (ix3 1 a d)) (Fin.ext h)

/-- and the gains, each head's in turn. -/
theorem beside_gain (l : Fin 1792) :
    StableHlo.after (hostOps0_2 (F := Ideal)) W main_v128 (ix2 0 l)
      = gain (fun a d => W main_arg3 (ix3 1 a d)) (fun a d => W main_arg4 (ix3 1 a d)) l := by
  have hl := l.isLt
  obtain ⟨e₀, e₁, e₂, e₃, e₄, e₅⟩ := piece_gain W
  rw [around 61]
  generalize StableHlo.after ((hostOps0_2 (F := Ideal)).take 61) W = U at *
  trans StableHlo.after (((hostOps0_2 (F := Ideal)).drop 61).take 1) U main_v127 (ix1 l)
  · generalize StableHlo.after (((hostOps0_2 (F := Ideal)).drop 61).take 1) _ = U
    simp only [hostOps0_2, List.drop_succ_cons, List.drop_zero]
    entry_read
    pointwise
  simp only [hostOps0_2, List.drop_succ_cons, List.drop_zero, List.take_succ_cons, List.take_zero]
  rw [StableHlo.after_cons, StableHlo.after_nil, StableHlo.nary_result]
  pointwise
  by_cases c : l.val < 256
  · exact (dif_pos c).trans <| (e₀ _).trans (gain_q W 0 _ l.val (by first | rfl | ((try dsimp only); omega)) |>.trans (gain_0 (fun a d => W main_arg3 (ix3 1 a d)) (fun a d => W main_arg4 (ix3 1 a d)) l (by omega)))
  refine (dif_neg c).trans ?_
  by_cases c : l.val - 256 < 256
  · exact (dif_pos c).trans <| (e₁ _).trans (gain_k W 0 _ l.val (by first | rfl | ((try dsimp only); omega)) |>.trans (gain_1 (fun a d => W main_arg3 (ix3 1 a d)) (fun a d => W main_arg4 (ix3 1 a d)) l (by omega) (by omega)))
  refine (dif_neg c).trans ?_
  by_cases c : l.val - 256 - 256 < 384
  · exact (dif_pos c).trans <| (e₂ _).trans (gain_q W 1 _ l.val (by first | rfl | ((try dsimp only); omega)) |>.trans (gain_2 (fun a d => W main_arg3 (ix3 1 a d)) (fun a d => W main_arg4 (ix3 1 a d)) l (by omega) (by omega)))
  refine (dif_neg c).trans ?_
  by_cases c : l.val - 256 - 256 - 384 < 384
  · exact (dif_pos c).trans <| (e₃ _).trans (gain_k W 1 _ l.val (by first | rfl | ((try dsimp only); omega)) |>.trans (gain_3 (fun a d => W main_arg3 (ix3 1 a d)) (fun a d => W main_arg4 (ix3 1 a d)) l (by omega) (by omega)))
  refine (dif_neg c).trans ?_
  by_cases c : l.val - 256 - 256 - 384 - 384 < 384
  · exact (dif_pos c).trans <| (e₄ _).trans (gain_q W 2 _ l.val (by first | rfl | ((try dsimp only); omega)) |>.trans (gain_4 (fun a d => W main_arg3 (ix3 1 a d)) (fun a d => W main_arg4 (ix3 1 a d)) l (by omega) (by omega)))
  refine (dif_neg c).trans ?_
  refine Eq.trans (congrArg (U main_v126) (?_ : _ = ix1 ⟨l.val - 256 - 256 - 384 - 384 - 384, by omega⟩)) ?_
  · funext a
    fin_cases a
    rfl
  exact (e₅ _).trans (gain_k W 2 _ l.val (by first | rfl | ((try dsimp only); omega)) |>.trans (gain_5 (fun a d => W main_arg3 (ix3 1 a d)) (fun a d => W main_arg4 (ix3 1 a d)) l (by omega)))

end

end Cert.InprojIdeal.Tile
-- ==== Proof.InprojTables.lean ====
/- The tables of the turns as the host lays them out for the projection kernel, and the heads that the lanes lie in. -/
module

public import proofs.«01_k».proof.Proof.InprojHost

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

section
variable (W : Valuation τ sig (Elt Ideal))

/-- The counts of one head's lanes. -/
theorem heads_eq (hi : W main_v67 = iotaInDim S256 32 0) (hc : W main_c = constantI S_ 32 64#32) (k : Fin 256) :
    StableHlo.after (hostOps0_1 (F := Ideal)) W main_v68 (ix1 k) = BitVec.ofNat 32 (k.val / 64) := by
  simp only [hostOps0_1]
  entry_read
  rw [hi, hc]
  dsimp only [StableHlo.TRef.ofBuf, StableHlo.TRef.toBuf]
  revert k
  decide +kernel

/-- Two lanes are of one head or of two. -/
theorem same_head (k l : Fin 256) :
    (FloatOps.uitofp (F := Ideal) .bf16 (IntOp.cmpi .eq (BitVec.ofNat 32 (k.val / 64)) (BitVec.ofNat 32 (l.val / 64))) : EReal)
      = if k.val / 64 = l.val / 64 then 1 else 0 := by
  have h : IntOp.cmpi .eq (BitVec.ofNat 32 (k.val / 64)) (BitVec.ofNat 32 (l.val / 64)) = BitVec.ofBool (decide (k.val / 64 = l.val / 64)) := by
    revert k l
    decide +kernel
  rw [h]
  by_cases e : k.val / 64 = l.val / 64
  · rw [if_pos e, decide_eq_true e]
    simp [FloatOps.uitofp]
  · rw [if_neg e, decide_eq_false e]
    simp [FloatOps.uitofp]

/-- The cosines of the first turn in all lanes, -/
theorem beside_cb (s : Fin 4096) (l : Fin 128) :
    StableHlo.after (hostOps0 (F := Ideal)) W main_v63 (ix2 s l) = partCos (fun k => Ideal.cos (angle 0x48F42400#32 0x41800000#32 k s.val)) l := by
  have hl := l.isLt
  have hp : (∀ j, StableHlo.after ((hostOps0 (F := Ideal)).take 29) W main_v20 (ix2 s j) = Ideal.cos (angle 0x48F42400#32 0x41800000#32 j.val s.val)) ∧
    (∀ j, StableHlo.after ((hostOps0 (F := Ideal)).take 29) W main_v22 (ix2 s j) = (1 : EReal)) := by
    simp only [hostOps0, List.take_succ_cons, List.take_zero]
    refine ⟨?_, ?_⟩
    all_goals
      intro j
      entry_read
      pointwise
      try rfl
  obtain ⟨e₀, e₁⟩ := hp
  rw [around 29]
  generalize StableHlo.after ((hostOps0 (F := Ideal)).take 29) W = U at *
  trans StableHlo.after (((hostOps0 (F := Ideal)).drop 29).take 1) U main_v23 (ix2 s ⟨l.val % 64, by omega⟩)
  · generalize StableHlo.after (((hostOps0 (F := Ideal)).drop 29).take 1) _ = U
    simp only [hostOps0, List.drop_succ_cons, List.drop_zero]
    entry_read
    pointwise
    split_ifs
    all_goals exact congrArg (fun q => U main_v23 (ix2 s q)) (Fin.ext (by first | rfl | omega | (dsimp only; omega)))
  simp only [hostOps0, List.drop_succ_cons, List.drop_zero, List.take_succ_cons, List.take_zero]
  rw [StableHlo.after_cons, StableHlo.after_nil, StableHlo.nary_result]
  pointwise
  simp only [e₀, e₁]
  unfold partCos
  split_ifs
  all_goals try dsimp only
  all_goals first
    | omega
    | rfl
    | (congr 2; omega)
    | (congr 3; omega)

/-- the signed sines, -/
theorem beside_sb (s : Fin 4096) (l : Fin 128) :
    StableHlo.after (hostOps0 (F := Ideal)) W main_v64 (ix2 s l) = partSin (fun k => Ideal.sin (angle 0x48F42400#32 0x41800000#32 k s.val)) l := by
  have hl := l.isLt
  have hp : (∀ j, StableHlo.after ((hostOps0 (F := Ideal)).take 33) W main_v24 (ix2 s j) = -Ideal.sin (angle 0x48F42400#32 0x41800000#32 j.val s.val)) ∧
    (∀ j, StableHlo.after ((hostOps0 (F := Ideal)).take 33) W main_v21 (ix2 s j) = Ideal.sin (angle 0x48F42400#32 0x41800000#32 j.val s.val)) ∧
    (∀ j, StableHlo.after ((hostOps0 (F := Ideal)).take 33) W main_v25 (ix2 s j) = (0 : EReal)) := by
    simp only [hostOps0, List.take_succ_cons, List.take_zero]
    refine ⟨?_, ?_, ?_⟩
    all_goals
      intro j
      entry_read
      pointwise
      try rfl
  obtain ⟨e₀, e₁, e₂⟩ := hp
  rw [around 33]
  generalize StableHlo.after ((hostOps0 (F := Ideal)).take 33) W = U at *
  trans StableHlo.after (((hostOps0 (F := Ideal)).drop 33).take 1) U main_v26 (ix2 s ⟨l.val % 64, by omega⟩)
  · generalize StableHlo.after (((hostOps0 (F := Ideal)).drop 33).take 1) _ = U
    simp only [hostOps0, List.drop_succ_cons, List.drop_zero]
    entry_read
    pointwise
    split_ifs
    all_goals exact congrArg (fun q => U main_v26 (ix2 s q)) (Fin.ext (by first | rfl | omega | (dsimp only; omega)))
  simp only [hostOps0, List.drop_succ_cons, List.drop_zero, List.take_succ_cons, List.take_zero]
  rw [StableHlo.after_cons, StableHlo.after_nil, StableHlo.nary_result]
  pointwise
  simp only [e₀, e₁, e₂]
  unfold partSin
  split_ifs
  all_goals try dsimp only
  all_goals first
    | omega
    | rfl
    | (congr 2; omega)
    | (congr 3; omega)

/-- the cosines of the other turns, -/
theorem beside_cc (s : Fin 4096) (l : Fin 128) :
    StableHlo.after (hostOps0 (F := Ideal)) W main_v65 (ix2 s l) = axialCos (fun k => Ideal.cos (angle 0x461C4000#32 0x42000000#32 k (s.val / 64))) (fun k => Ideal.cos (angle 0x461C4000#32 0x42000000#32 k (s.val % 64))) l := by
  have hl := l.isLt
  have hp : (∀ j, StableHlo.after ((hostOps0 (F := Ideal)).take 71) W main_v50 (ix2 s j) = Ideal.cos (angle 0x461C4000#32 0x42000000#32 j.val (s.val / 64))) ∧
    (∀ j, StableHlo.after ((hostOps0 (F := Ideal)).take 71) W main_v55 (ix2 s j) = Ideal.cos (angle 0x461C4000#32 0x42000000#32 j.val (s.val % 64))) := by
    simp only [hostOps0, List.take_succ_cons, List.take_zero]
    refine ⟨?_, ?_⟩
    all_goals
      intro j
      entry_read
      pointwise
      try rfl
  obtain ⟨e₀, e₁⟩ := hp
  rw [around 71]
  generalize StableHlo.after ((hostOps0 (F := Ideal)).take 71) W = U at *
  trans StableHlo.after (((hostOps0 (F := Ideal)).drop 71).take 1) U main_v59 (ix2 s ⟨l.val % 64, by omega⟩)
  · generalize StableHlo.after (((hostOps0 (F := Ideal)).drop 71).take 1) _ = U
    simp only [hostOps0, List.drop_succ_cons, List.drop_zero]
    entry_read
    pointwise
    split_ifs
    all_goals exact congrArg (fun q => U main_v59 (ix2 s q)) (Fin.ext (by first | rfl | omega | (dsimp only; omega)))
  simp only [hostOps0, List.drop_succ_cons, List.drop_zero, List.take_succ_cons, List.take_zero]
  rw [StableHlo.after_cons, StableHlo.after_nil, StableHlo.nary_result]
  pointwise
  simp only [e₀, e₁]
  unfold axialCos
  split_ifs
  all_goals try dsimp only
  all_goals first
    | omega
    | rfl
    | (congr 2; omega)
    | (congr 3; omega)

/-- and the signed sines. -/
theorem beside_sc (s : Fin 4096) (l : Fin 128) :
    StableHlo.after (hostOps0 (F := Ideal)) W main_v66 (ix2 s l) = axialSin (fun k => Ideal.sin (angle 0x461C4000#32 0x42000000#32 k (s.val / 64))) (fun k => Ideal.sin (angle 0x461C4000#32 0x42000000#32 k (s.val % 64))) l := by
  have hl := l.isLt
  have hp : (∀ j, StableHlo.after ((hostOps0 (F := Ideal)).take 74) W main_v60 (ix2 s j) = -Ideal.sin (angle 0x461C4000#32 0x42000000#32 j.val (s.val / 64))) ∧
    (∀ j, StableHlo.after ((hostOps0 (F := Ideal)).take 74) W main_v52 (ix2 s j) = Ideal.sin (angle 0x461C4000#32 0x42000000#32 j.val (s.val / 64))) ∧
    (∀ j, StableHlo.after ((hostOps0 (F := Ideal)).take 74) W main_v61 (ix2 s j) = -Ideal.sin (angle 0x461C4000#32 0x42000000#32 j.val (s.val % 64))) ∧
    (∀ j, StableHlo.after ((hostOps0 (F := Ideal)).take 74) W main_v58 (ix2 s j) = Ideal.sin (angle 0x461C4000#32 0x42000000#32 j.val (s.val % 64))) := by
    simp only [hostOps0, List.take_succ_cons, List.take_zero]
    refine ⟨?_, ?_, ?_, ?_⟩
    all_goals
      intro j
      entry_read
      pointwise
      try rfl
  obtain ⟨e₀, e₁, e₂, e₃⟩ := hp
  rw [around 74]
  generalize StableHlo.after ((hostOps0 (F := Ideal)).take 74) W = U at *
  trans StableHlo.after (((hostOps0 (F := Ideal)).drop 74).take 1) U main_v62 (ix2 s ⟨l.val % 64, by omega⟩)
  · generalize StableHlo.after (((hostOps0 (F := Ideal)).drop 74).take 1) _ = U
    simp only [hostOps0, List.drop_succ_cons, List.drop_zero]
    entry_read
    pointwise
    split_ifs
    all_goals exact congrArg (fun q => U main_v62 (ix2 s q)) (Fin.ext (by first | rfl | omega | (dsimp only; omega)))
  simp only [hostOps0, List.drop_succ_cons, List.drop_zero, List.take_succ_cons, List.take_zero]
  rw [StableHlo.after_cons, StableHlo.after_nil, StableHlo.nary_result]
  pointwise
  simp only [e₀, e₁, e₂, e₃]
  unfold axialSin
  split_ifs
  all_goals try dsimp only
  all_goals first
    | omega
    | rfl
    | (congr 2; omega)
    | (congr 3; omega)

end

end Cert.InprojIdeal.Tile
-- ==== Proof.InprojEntry.lean ====
/- What the projection kernel finds in its input arrays, as the host lays them out: the rows of the input, the weights in the
   order of its tiles, the gains, and the tables of the turns. -/
module

public import proofs.«01_k».proof.Proof.InprojLaid
public import proofs.«01_k».proof.Proof.InprojTables

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

section
variable (W : Valuation τ sig (Elt Ideal))

/-- The first operations leave the arguments alone, -/
theorem kept_a :
    StableHlo.after (hostOps0 (F := Ideal)) W main_arg2 = W main_arg2 ∧
    StableHlo.after (hostOps0 (F := Ideal)) W main_arg3 = W main_arg3 ∧
    StableHlo.after (hostOps0 (F := Ideal)) W main_arg4 = W main_arg4 := by
  refine ⟨?_, ?_, ?_⟩
  all_goals
    entry_read
    try rfl

/-- the next the tables as well, -/
theorem kept_b :
    StableHlo.after (hostOps0_1 (F := Ideal)) W main_arg2 = W main_arg2 ∧
    StableHlo.after (hostOps0_1 (F := Ideal)) W main_arg3 = W main_arg3 ∧
    StableHlo.after (hostOps0_1 (F := Ideal)) W main_arg4 = W main_arg4 ∧
    StableHlo.after (hostOps0_1 (F := Ideal)) W main_v63 = W main_v63 ∧
    StableHlo.after (hostOps0_1 (F := Ideal)) W main_v64 = W main_v64 ∧
    StableHlo.after (hostOps0_1 (F := Ideal)) W main_v65 = W main_v65 ∧
    StableHlo.after (hostOps0_1 (F := Ideal)) W main_v66 = W main_v66 := by
  refine ⟨?_, ?_, ?_, ?_, ?_, ?_, ?_⟩
  all_goals
    entry_read
    try rfl

/-- and the last the tables. -/
theorem kept_c :
    StableHlo.after (hostOps0_2 (F := Ideal)) W main_v63 = W main_v63 ∧
    StableHlo.after (hostOps0_2 (F := Ideal)) W main_v64 = W main_v64 ∧
    StableHlo.after (hostOps0_2 (F := Ideal)) W main_v65 = W main_v65 ∧
    StableHlo.after (hostOps0_2 (F := Ideal)) W main_v66 = W main_v66 := by
  refine ⟨?_, ?_, ?_, ?_⟩
  all_goals
    entry_read
    try rfl

/-- The lanes the host counts. -/
theorem lanes_eq : StableHlo.after (hostOps0 (F := Ideal)) W main_v67 = iotaInDim S256 32 0
    ∧ StableHlo.after (hostOps0 (F := Ideal)) W main_c = constantI S_ 32 64#32 := by
  refine ⟨?_, ?_⟩
  all_goals
    entry_read
    try rfl

end

/-! ## The arrays -/

variable (m : (ℓ : Loc nD τ sig) → Buf (Elt Ideal) ℓ)

/-- The host's operations one part after the other. -/
theorem enter (c : Dev nD) (b : Ref sig .tc) :
    V m c b = StableHlo.after (hostOps0_2 (F := Ideal)) (StableHlo.after hostOps0_1 (StableHlo.after hostOps0 (fun b => m (c, b)))) b := by
  simp only [V, List.flatten_cons, List.flatten_nil, List.append_nil, StableHlo.after_append]

/-- The rows of the input, -/
theorem entry_x (c : Dev nD) (i : Fin 32768) (l : Fin 1024) :
    V m c main_v75 (ix2 i l) = m ((c : Thread nD τ).loc main_arg0) (ix3 ⟨i.val / 4096, by omega⟩ ⟨i.val % 4096, by omega⟩ l) := by
  simp only [V, hostOps0, hostOps0_1, hostOps0_2, List.flatten_cons, List.flatten_nil, List.append_nil, List.cons_append, List.nil_append]
  entry_read
  pointwise

/-- the gains of the norm, -/
theorem entry_g (c : Dev nD) (l : Fin 1024) : V m c main_v131 (ix2 0 l) = m ((c : Thread nD τ).loc main_arg1) (ix2 1 l) := by
  simp only [V, hostOps0, hostOps0_1, hostOps0_2, List.flatten_cons, List.flatten_nil, List.append_nil, List.cons_append, List.nil_append]
  entry_read
  pointwise

/-- the weights, -/
theorem entry_w (c : Dev nD) (k : Fin 1024) (l : Fin 2560) :
    V m c main_v86 (ix3 1 k l) = m ((c : Thread nD τ).loc main_arg2) (ix3 1 k (perm l)) := by
  rw [enter, beside_w, (kept_b _).1, (kept_a _).1]

/-- the gains of the heads, -/
theorem entry_gain (c : Dev nD) (l : Fin 1792) :
    V m c main_v128 (ix2 0 l)
      = gain (fun a d => m ((c : Thread nD τ).loc main_arg3) (ix3 1 a d)) (fun a d => m ((c : Thread nD τ).loc main_arg4) (ix3 1 a d)) l := by
  rw [enter, beside_gain, (kept_b _).2.1, (kept_a _).2.1, (kept_b _).2.2.1, (kept_a _).2.2]

/-- the matrix that sums a head's lanes, -/
theorem entry_heads (c : Dev nD) (k l : Fin 256) : V m c main_v74 (ix2 k l) = if k.val / 64 = l.val / 64 then (1 : EReal) else 0 := by
  rw [enter, ← same_head]
  have h := heads_eq (StableHlo.after hostOps0 (fun b => m (c, b))) (lanes_eq _).1 (lanes_eq _).2
  generalize StableHlo.after (hostOps0_1 (F := Ideal)) _ = U at *
  rw [← h k, ← h l]
  entry_read
  pointwise

/-- and the four tables. -/
theorem entry_cb (c : Dev nD) (s : Fin 4096) (l : Fin 128) :
    V m c main_v63 (ix2 s l) = partCos (fun k => Ideal.cos (angle 0x48F42400#32 0x41800000#32 k s)) l := by
  rw [enter, (kept_c _).1, (kept_b _).2.2.2.1, beside_cb]

/-- The signed sines of the first turn, -/
theorem entry_sb (c : Dev nD) (s : Fin 4096) (l : Fin 128) :
    V m c main_v64 (ix2 s l) = partSin (fun k => Ideal.sin (angle 0x48F42400#32 0x41800000#32 k s)) l := by
  rw [enter, (kept_c _).2.1, (kept_b _).2.2.2.2.1, beside_sb]

/-- the cosines of the other turns, -/
theorem entry_cc (c : Dev nD) (s : Fin 4096) (l : Fin 128) :
    V m c main_v65 (ix2 s l) = axialCos (fun k => Ideal.cos (angle 0x461C4000#32 0x42000000#32 k (s.val / 64)))
      (fun k => Ideal.cos (angle 0x461C4000#32 0x42000000#32 k (s.val % 64))) l := by
  rw [enter, (kept_c _).2.2.1, (kept_b _).2.2.2.2.2.1, beside_cc]

/-- and their signed sines. -/
theorem entry_sc (c : Dev nD) (s : Fin 4096) (l : Fin 128) :
    V m c main_v66 (ix2 s l) = axialSin (fun k => Ideal.sin (angle 0x461C4000#32 0x42000000#32 k (s.val / 64)))
      (fun k => Ideal.sin (angle 0x461C4000#32 0x42000000#32 k (s.val % 64))) l := by
  rw [enter, (kept_c _).2.2.2, (kept_b _).2.2.2.2.2.2, beside_sc]

end Cert.InprojIdeal.Tile
-- ==== Proof.InprojForm.lean ====
/- The eight results of the projection, as mathematics over one row: what the kernel's columns come to head by head. -/
module

public import proofs.«01_k».proof.Proof.InprojMath

@[expose] public section

set_option maxRecDepth 16384

noncomputable section

namespace Cert.Inproj

open Idealize.ShloMosaic Cert.Feed

/-- The head that lane `l` of the columns from `o` on lies in. -/
def head (P : Fin 2560 → EReal) (o l : ℕ) (d : Fin 64) : EReal :=
  if h : o + l / 64 * 64 + d.val < 2560 then P ⟨o + l / 64 * 64 + d.val, h⟩ else 0

/-- The angles of the first turn at position `s`, -/
def byPos (s : ℕ) (k : Fin 8) : EReal := angle 0x48F42400#32 0x41800000#32 k s
/-- and of the other two at row or column `s`. -/
def byGrid (s : ℕ) (k : Fin 16) : EReal := angle 0x461C4000#32 0x42000000#32 k s

/-- A head turned by its position, -/
def turned (v : Fin 64 → EReal) (s : ℕ) (d : Fin 64) : EReal :=
  part v (fun k => Ideal.cos (byPos s k)) (fun k => Ideal.sin (byPos s k)) d
/-- or by its row and its column in a grid 64 wide. -/
def turned2 (v : Fin 64 → EReal) (s : ℕ) (d : Fin 64) : EReal :=
  axial v (fun k => Ideal.cos (byGrid (s / 64) k)) (fun k => Ideal.sin (byGrid (s / 64) k))
    (fun k => Ideal.cos (byGrid (s % 64) k)) (fun k => Ideal.sin (byGrid (s % 64) k)) d

section
variable (P : Fin 2560 → EReal) (qg kg : Fin 3 → Fin 64 → EReal) (s : ℕ)

/-- The lane of column `l` in its head. -/
def lane (l : ℕ) : Fin 64 := ⟨l % 64, Nat.mod_lt _ (by decide)⟩

/-- The first attention's queries, -/
def resQa (l : Fin 256) : EReal := headNorm (head P 0 l) (qg 0) (lane l) * sigma
/-- keys, -/
def resKa (l : Fin 256) : EReal := headNorm (head P 256 l) (kg 0) (lane l)
/-- and values; -/
def resVa (l : Fin 256) : EReal := P ⟨512 + l.val, by omega⟩
/-- the second's queries, -/
def resQd (l : Fin 384) : EReal := turned (headNorm (head P 768 l) (qg 1)) s (lane l) * sigma
/-- keys, -/
def resKd (l : Fin 384) : EReal := turned (headNorm (head P 1152 l) (kg 1)) s (lane l)
/-- and values; -/
def resVd (l : Fin 384) : EReal := P ⟨1536 + l.val, by omega⟩
/-- the third's queries, -/
def resQc (l : Fin 384) : EReal := turned2 (headNorm (head P 1920 l) (qg 2)) s (lane l) * sigma
/-- and its keys and values side by side, ones beside each head's values. -/
def resKvc (l : Fin 384) : EReal :=
  if l.val < 128 then turned2 (headNorm (head P 2304 l) (kg 2)) s (lane l)
  else if h : l.val < 192 then P ⟨2432 + (l.val - 128), by omega⟩
  else if h : l.val < 320 then 1 else P ⟨2432 + (l.val - 256), by omega⟩

end

section
variable (P : Fin 2560 → EReal) (qg kg : Fin 3 → Fin 64 → EReal)

/-- A head of the kernel's normed columns is the norm of a head of the plain projection. -/
theorem headOf_cols (c : Fin 1792) (o l : ℕ) (g : Fin 64 → EReal)
    (hp : ∀ d : Fin 64, (perm ⟨c.val / 64 * 64 + d.val, by omega⟩).val = o + l / 64 * 64 + d.val)
    (hg : ∀ d : Fin 64, gain qg kg ⟨c.val / 64 * 64 + d.val, by omega⟩ = g d) :
    headOf (cols (fun c => P (perm c)) (gain qg kg)) c = headNorm (head P o l) g := by
  funext d
  have hP : ∀ d : Fin 64, P (perm ⟨c.val / 64 * 64 + d.val, by omega⟩) = head P o l d := fun d => by
    have h := hp d
    unfold head
    rw [dif_pos (by have := (perm ⟨c.val / 64 * 64 + d.val, by omega⟩).isLt; omega)]
    exact congrArg P (Fin.ext h)
  have hh : ∀ d' : Fin 64, headOf (fun c => P (perm c)) (⟨c.val / 64 * 64 + d.val, by omega⟩ : Fin 2560) d' = head P o l d' := fun d' => by
    rw [← hP d']
    unfold headOf
    rw [dif_pos (by show (c.val / 64 * 64 + d.val) / 64 * 64 + d'.val < 2560; omega)]
    exact congrArg (fun q => P (perm q)) (Fin.ext (by show (c.val / 64 * 64 + d.val) / 64 * 64 + d'.val = c.val / 64 * 64 + d'.val; omega))
  show (if h : c.val / 64 * 64 + d.val < 1792 then cols (fun c => P (perm c)) (gain qg kg) ⟨c.val / 64 * 64 + d.val, h⟩ else 0) = _
  rw [dif_pos (by omega)]
  unfold cols headNorm rms
  rw [hg d]
  simp only [hh]
  rw [← hP d]

/-- A column is a lane of its head. -/
theorem col_head (Q : Fin 1792 → EReal) (c : Fin 1792) : Q c = headOf Q c ⟨c.val % 64, by omega⟩ := by
  unfold headOf
  rw [dif_pos (by show c.val / 64 * 64 + c.val % 64 < 1792; omega)]
  exact congrArg Q (Fin.ext (by show c.val = c.val / 64 * 64 + c.val % 64; omega))

/-- The kernel's columns are the results: the first attention's queries, -/
theorem cols_qa (l : Fin 256) (h : l.val < 1792) : cols (fun c => P (perm c)) (gain qg kg) ⟨l.val, h⟩ = resQa P qg l := by
  unfold resQa
  rw [← headNorm_scale, col_head (cols _ _), headOf_cols P qg kg _ 0 l.val (fun j => qg 0 j * sigma)]
  · rfl
  · intro d
    unfold perm
    dsimp only
    split_ifs <;> dsimp only <;> omega
  · intro d
    unfold gain
    rw [if_pos (by dsimp only; omega)]
    exact congrArg (fun q => qg 0 q * sigma) (Fin.ext (by dsimp only; omega))

/-- its keys; -/
theorem cols_ka (l : Fin 256) (h : 256 + l.val < 1792) : cols (fun c => P (perm c)) (gain qg kg) ⟨256 + l.val, h⟩ = resKa P kg l := by
  unfold resKa
  rw [col_head (cols _ _), headOf_cols P qg kg _ 256 l.val (kg 0)]
  · exact congrArg _ (Fin.ext (by show (256 + l.val) % 64 = l.val % 64; omega))
  · intro d
    unfold perm
    dsimp only
    split_ifs <;> dsimp only <;> omega
  · intro d
    unfold gain
    rw [if_neg (by dsimp only; omega), if_pos (by dsimp only; omega)]
    exact congrArg (fun q => kg 0 q) (Fin.ext (by dsimp only; omega))

variable (s : ℕ)

/-- the second's queries, -/
theorem spin_qd (l : Fin 384) (h : 512 + l.val < 1792) :
    spin 8 64 (cols (fun c => P (perm c)) (gain qg kg)) (partCos fun k => Ideal.cos (byPos s k)) (partSin fun k => Ideal.sin (byPos s k)) ⟨512 + l.val, h⟩
      = resQd P qg s l := by
  unfold resQd turned
  rw [spin_part, headOf_cols P qg kg _ 768 l.val (fun j => qg 1 j * sigma), ← part_scale]
  · have e : headNorm (head P 768 l.val) (fun j => qg 1 j * sigma) = fun j => headNorm (head P 768 l.val) (qg 1) j * sigma :=
      funext fun d => headNorm_scale _ _ d
    rw [e]
    exact congrArg _ (Fin.ext (by show (512 + l.val) % 64 = l.val % 64; omega))
  · intro d
    unfold perm
    dsimp only
    split_ifs <;> dsimp only <;> omega
  · intro d
    unfold gain
    rw [if_neg (by dsimp only; omega), if_neg (by dsimp only; omega), if_pos (by dsimp only; omega)]
    exact congrArg (fun q => qg 1 q * sigma) (Fin.ext (by dsimp only; omega))

/-- its keys; -/
theorem spin_kd (l : Fin 384) (h : 896 + l.val < 1792) :
    spin 8 64 (cols (fun c => P (perm c)) (gain qg kg)) (partCos fun k => Ideal.cos (byPos s k)) (partSin fun k => Ideal.sin (byPos s k)) ⟨896 + l.val, h⟩
      = resKd P kg s l := by
  unfold resKd turned
  rw [spin_part, headOf_cols P qg kg _ 1152 l.val (kg 1)]
  · exact congrArg _ (Fin.ext (by show (896 + l.val) % 64 = l.val % 64; omega))
  · intro d
    unfold perm
    dsimp only
    split_ifs <;> dsimp only <;> omega
  · intro d
    unfold gain
    rw [if_neg (by dsimp only; omega), if_neg (by dsimp only; omega), if_neg (by dsimp only; omega), if_pos (by dsimp only; omega)]
    exact congrArg (fun q => kg 1 q) (Fin.ext (by dsimp only; omega))

/-- the third's queries, -/
theorem spin_qc (l : Fin 384) (h : 1280 + l.val < 1792) :
    spin 16 32 (cols (fun c => P (perm c)) (gain qg kg)) (axialCos (fun k => Ideal.cos (byGrid (s / 64) k)) fun k => Ideal.cos (byGrid (s % 64) k))
      (axialSin (fun k => Ideal.sin (byGrid (s / 64) k)) fun k => Ideal.sin (byGrid (s % 64) k)) ⟨1280 + l.val, h⟩ = resQc P qg s l := by
  unfold resQc turned2
  rw [spin_axial, headOf_cols P qg kg _ 1920 l.val (fun j => qg 2 j * sigma), ← axial_scale]
  · have e : headNorm (head P 1920 l.val) (fun j => qg 2 j * sigma) = fun j => headNorm (head P 1920 l.val) (qg 2) j * sigma :=
      funext fun d => headNorm_scale _ _ d
    rw [e]
    exact congrArg _ (Fin.ext (by show (1280 + l.val) % 64 = l.val % 64; omega))
  · intro d
    unfold perm
    dsimp only
    split_ifs <;> dsimp only <;> omega
  · intro d
    unfold gain
    rw [if_neg (by dsimp only; omega), if_neg (by dsimp only; omega), if_neg (by dsimp only; omega), if_neg (by dsimp only; omega), if_pos (by dsimp only; omega)]
    exact congrArg (fun q => qg 2 q * sigma) (Fin.ext (by dsimp only; omega))

/-- and its keys. -/
theorem spin_kc (l : ℕ) (hl : l < 128) (h : 1664 + l < 1792) :
    spin 16 32 (cols (fun c => P (perm c)) (gain qg kg)) (axialCos (fun k => Ideal.cos (byGrid (s / 64) k)) fun k => Ideal.cos (byGrid (s % 64) k))
      (axialSin (fun k => Ideal.sin (byGrid (s / 64) k)) fun k => Ideal.sin (byGrid (s % 64) k)) ⟨1664 + l, h⟩
      = turned2 (headNorm (head P 2304 l) (kg 2)) s (lane l) := by
  unfold turned2
  rw [spin_axial, headOf_cols P qg kg _ 2304 l (kg 2)]
  · exact congrArg _ (Fin.ext (by show (1664 + l) % 64 = l % 64; omega))
  · intro d
    unfold perm
    dsimp only
    split_ifs <;> dsimp only <;> omega
  · intro d
    unfold gain
    rw [if_neg (by dsimp only; omega), if_neg (by dsimp only; omega), if_neg (by dsimp only; omega), if_neg (by dsimp only; omega), if_neg (by dsimp only; omega)]
    exact congrArg (fun q => kg 2 q) (Fin.ext (by dsimp only; omega))

end

end Cert.Inproj
-- ==== Proof.InprojFinal.lean ====
/- The projection kernel's eight results: at every row and lane, the projection as mathematics. -/
module

public import proofs.«01_k».proof.Proof.InprojEntry
public import proofs.«01_k».proof.Proof.InprojForm

@[expose] public section

set_option maxRecDepth 16384

noncomputable section

namespace Cert.InprojIdeal.Tile

open Cert.InprojIdeal Cert.InprojIdeal.Gen Idealize.ShloMosaic Idealize.ShloMosaic.TcCoe Idealize.SL.Sem Cert.Feed Cert.Inproj

/-- There are 32 blocks of rows. -/
theorem point_lt (t : Fin cfg0.N) : t.val < 32 := lt_of_lt_of_eq t.isLt N_0

/-- A grid point works on its own 1024 rows, -/
theorem win_0 (t : Fin cfg0.N) : win0_0.index t = ![t.val, 0] :=
  (by decide +kernel : ∀ t : Fin grid0.N, win0_0.index t = ![t.val, 0]) t

/-- on one row of gains, -/
theorem win_1 (t : Fin cfg0.N) : win0_1.index t = ![0, 0] :=
  (by decide +kernel : ∀ t : Fin grid0.N, win0_1.index t = ![0, 0]) t

/-- on the second layer's weights, -/
theorem win_2 (t : Fin cfg0.N) : win0_2.index t = ![1, 0, 0] :=
  (by decide +kernel : ∀ t : Fin grid0.N, win0_2.index t = ![1, 0, 0]) t

/-- on the matrix of heads, -/
theorem win_3 (t : Fin cfg0.N) : win0_3.index t = ![0, 0] :=
  (by decide +kernel : ∀ t : Fin grid0.N, win0_3.index t = ![0, 0]) t

/-- on the heads' gains, -/
theorem win_4 (t : Fin cfg0.N) : win0_4.index t = ![0, 0] :=
  (by decide +kernel : ∀ t : Fin grid0.N, win0_4.index t = ![0, 0]) t

/-- and on the rows of the tables for its places in the sequence: cosines, -/
theorem win_5 (t : Fin cfg0.N) : win0_5.index t = ![t.val % 4, 0] :=
  (by decide +kernel : ∀ t : Fin grid0.N, win0_5.index t = ![t.val % 4, 0]) t

/-- sines, -/
theorem win_6 (t : Fin cfg0.N) : win0_6.index t = ![t.val % 4, 0] :=
  (by decide +kernel : ∀ t : Fin grid0.N, win0_6.index t = ![t.val % 4, 0]) t

/-- cosines, -/
theorem win_7 (t : Fin cfg0.N) : win0_7.index t = ![t.val % 4, 0] :=
  (by decide +kernel : ∀ t : Fin grid0.N, win0_7.index t = ![t.val % 4, 0]) t

/-- and sines. -/
theorem win_8 (t : Fin cfg0.N) : win0_8.index t = ![t.val % 4, 0] :=
  (by decide +kernel : ∀ t : Fin grid0.N, win0_8.index t = ![t.val % 4, 0]) t

/-- Its results are the same rows of this array. -/
theorem win_9 (t : Fin cfg0.N) : win0_9.index t = ![t.val, 0] :=
  (by decide +kernel : ∀ t : Fin grid0.N, win0_9.index t = ![t.val, 0]) t

/-- Its results are the same rows of this array. -/
theorem win_10 (t : Fin cfg0.N) : win0_10.index t = ![t.val, 0] :=
  (by decide +kernel : ∀ t : Fin grid0.N, win0_10.index t = ![t.val, 0]) t

/-- Its results are the same rows of this array. -/
theorem win_11 (t : Fin cfg0.N) : win0_11.index t = ![t.val, 0] :=
  (by decide +kernel : ∀ t : Fin grid0.N, win0_11.index t = ![t.val, 0]) t

/-- Its results are the same rows of this array. -/
theorem win_12 (t : Fin cfg0.N) : win0_12.index t = ![t.val, 0] :=
  (by decide +kernel : ∀ t : Fin grid0.N, win0_12.index t = ![t.val, 0]) t

/-- Its results are the same rows of this array. -/
theorem win_13 (t : Fin cfg0.N) : win0_13.index t = ![t.val, 0] :=
  (by decide +kernel : ∀ t : Fin grid0.N, win0_13.index t = ![t.val, 0]) t

/-- Its results are the same rows of this array. -/
theorem win_14 (t : Fin cfg0.N) : win0_14.index t = ![t.val, 0] :=
  (by decide +kernel : ∀ t : Fin grid0.N, win0_14.index t = ![t.val, 0]) t

/-- Its results are the same rows of this array. -/
theorem win_15 (t : Fin cfg0.N) : win0_15.index t = ![t.val, 0] :=
  (by decide +kernel : ∀ t : Fin grid0.N, win0_15.index t = ![t.val, 0]) t

/-- Its results are the same rows of this array. -/
theorem win_16 (t : Fin cfg0.N) : win0_16.index t = ![t.val, 0] :=
  (by decide +kernel : ∀ t : Fin grid0.N, win0_16.index t = ![t.val, 0]) t

variable (m : (ℓ : Loc nD τ sig) → Buf (Elt Ideal) ℓ) (c : Dev nD) (t : Fin cfg0.N)

/-- The plain projection of row `s` of sequence `b`. -/
def plainRow (b : Fin 8) (s : Fin 4096) : Fin 2560 → EReal :=
  proj (fun k => m ((c : Thread nD τ).loc main_arg1) (ix2 1 k)) (fun k l => m ((c : Thread nD τ).loc main_arg2) (ix3 1 k l))
    (fun k => m ((c : Thread nD τ).loc main_arg0) (ix3 b s k))

/-- The gains of the queries' heads -/
def qGain (a : Fin 3) (d : Fin 64) : EReal := m ((c : Thread nD τ).loc main_arg3) (ix3 1 a d)
/-- and of the keys'. -/
def kGain (a : Fin 3) (d : Fin 64) : EReal := m ((c : Thread nD τ).loc main_arg4) (ix3 1 a d)

/-- The sequence a row lies in, -/
def seqOf (i : Fin 32768) : Fin 8 := ⟨i.val / 4096, by omega⟩
/-- and its place there. -/
def posOf (i : Fin 32768) : Fin 4096 := ⟨i.val % 4096, by omega⟩

/-- The plain projection of row `i` of all. -/
def rowAt (i : Fin 32768) : Fin 2560 → EReal := plainRow m c (seqOf i) (posOf i)

/-- The rows of a grid point's block, -/
theorem blk_0 (r k : Fin 1024) (i : Fin 32768) (hi : i.val = t.val * 1024 + r.val) :
    iblk m c 0 t (ix2 r k) = m ((c : Thread nD τ).loc main_arg0) (ix3 (seqOf i) (posOf i) k) := by
  refine Eq.trans ?_ (entry_x m c i k)
  unfold iblk
  blk_simp
  refine congrArg (V m c main_v75) ?_
  blk_ext [win_0]

/-- the gains of the norm, -/
theorem blk_1 (k : Fin 1024) : iblk m c 1 t (ix2 0 k) = m ((c : Thread nD τ).loc main_arg1) (ix2 1 k) := by
  refine Eq.trans ?_ (entry_g m c k)
  unfold iblk
  blk_simp
  refine congrArg (V m c main_v131) ?_
  blk_ext [win_1]

/-- the weights, -/
theorem blk_2 (k : Fin 1024) (l : Fin 2560) : iblk m c 2 t (ix3 0 k l) = m ((c : Thread nD τ).loc main_arg2) (ix3 1 k (perm l)) := by
  refine Eq.trans ?_ (entry_w m c k l)
  unfold iblk
  blk_simp
  refine congrArg (V m c main_v86) ?_
  blk_ext [win_2]

/-- the matrix of heads, -/
theorem blk_3 (k l : Fin 256) : iblk m c 3 t (ix2 k l) = if k.val / 64 = l.val / 64 then (1 : EReal) else 0 := by
  refine Eq.trans ?_ (entry_heads m c k l)
  unfold iblk
  blk_simp
  refine congrArg (V m c main_v74) ?_
  blk_ext [win_3]

/-- the heads' gains, -/
theorem blk_4 (l : Fin 1792) : iblk m c 4 t (ix2 0 l) = gain (qGain m c) (kGain m c) l := by
  refine Eq.trans ?_ (entry_gain m c l)
  unfold iblk
  blk_simp
  refine congrArg (V m c main_v128) ?_
  blk_ext [win_4]

/-- and the tables: the cosines of the first turn, -/
theorem blk_5 (r : Fin 1024) (l : Fin 128) (s : Fin 4096) (hs : s.val = t.val % 4 * 1024 + r.val) :
    iblk m c 5 t (ix2 r l) = partCos (fun k => Ideal.cos (byPos s.val k)) l := by
  refine Eq.trans ?_ (entry_cb m c s l)
  unfold iblk
  blk_simp
  refine congrArg (V m c main_v63) ?_
  blk_ext [win_5]

/-- its signed sines, -/
theorem blk_6 (r : Fin 1024) (l : Fin 128) (s : Fin 4096) (hs : s.val = t.val % 4 * 1024 + r.val) :
    iblk m c 6 t (ix2 r l) = partSin (fun k => Ideal.sin (byPos s.val k)) l := by
  refine Eq.trans ?_ (entry_sb m c s l)
  unfold iblk
  blk_simp
  refine congrArg (V m c main_v64) ?_
  blk_ext [win_6]

/-- the cosines of the other turns, -/
theorem blk_7 (r : Fin 1024) (l : Fin 128) (s : Fin 4096) (hs : s.val = t.val % 4 * 1024 + r.val) :
    iblk m c 7 t (ix2 r l) = axialCos (fun k => Ideal.cos (byGrid (s.val / 64) k)) (fun k => Ideal.cos (byGrid (s.val % 64) k)) l := by
  refine Eq.trans ?_ (entry_cc m c s l)
  unfold iblk
  blk_simp
  refine congrArg (V m c main_v65) ?_
  blk_ext [win_7]

/-- and their signed sines. -/
theorem blk_8 (r : Fin 1024) (l : Fin 128) (s : Fin 4096) (hs : s.val = t.val % 4 * 1024 + r.val) :
    iblk m c 8 t (ix2 r l) = axialSin (fun k => Ideal.sin (byGrid (s.val / 64) k)) (fun k => Ideal.sin (byGrid (s.val % 64) k)) l := by
  refine Eq.trans ?_ (entry_sc m c s l)
  unfold iblk
  blk_simp
  refine congrArg (V m c main_v66) ?_
  blk_ext [win_8]

section
variable (r : Fin 1024) (i : Fin 32768) (hi : i.val = t.val * 1024 + r.val)
include hi

/-- A row's place in its sequence is its block's row in the tables. -/
theorem pos_val : (posOf i).val = t.val % 4 * 1024 + r.val := by
  have ht := point_lt t
  show i.val % 4096 = _
  omega

/-- The block's projection of a row is the plain one in the kernel's order of columns, -/
theorem proj_at : projRow (iblk m c 0 t) (iblk m c 1 t) (iblk m c 2 t) r = fun l => rowAt m c i (perm l) := by
  have e0 := fun k => blk_0 m c t r k i hi
  have e1 := blk_1 m c t
  have e2 := blk_2 m c t
  unfold projRow rowAt plainRow
  generalize iblk m c 0 t = x at *
  generalize iblk m c 1 t = g at *
  generalize iblk m c 2 t = w at *
  funext l
  unfold proj
  simp only [e0, e1, e2]

/-- normed, -/
theorem cols_at : colsRow (iblk m c 0 t) (iblk m c 1 t) (iblk m c 2 t) (iblk m c 4 t) r
    = cols (fun l => rowAt m c i (perm l)) (gain (qGain m c) (kGain m c)) := by
  unfold colsRow
  rw [proj_at m c t r i hi]
  exact congrArg _ (funext fun l => blk_4 m c t l)

/-- turned by place, -/
theorem part_at : partRow (iblk m c 0 t) (iblk m c 1 t) (iblk m c 2 t) (iblk m c 4 t) (iblk m c 5 t) (iblk m c 6 t) r
    = spin 8 64 (cols (fun l => rowAt m c i (perm l)) (gain (qGain m c) (kGain m c)))
      (partCos fun k => Ideal.cos (byPos (posOf i).val k)) (partSin fun k => Ideal.sin (byPos (posOf i).val k)) := by
  unfold partRow
  rw [cols_at m c t r i hi]
  exact congrArg₂ _ (funext fun l => blk_5 m c t r l (posOf i) (pos_val t r i hi)) (funext fun l => blk_6 m c t r l (posOf i) (pos_val t r i hi))

/-- and turned by row and column. -/
theorem axial_at : axialRow (iblk m c 0 t) (iblk m c 1 t) (iblk m c 2 t) (iblk m c 4 t) (iblk m c 7 t) (iblk m c 8 t) r
    = spin 16 32 (cols (fun l => rowAt m c i (perm l)) (gain (qGain m c) (kGain m c)))
      (axialCos (fun k => Ideal.cos (byGrid ((posOf i).val / 64) k)) fun k => Ideal.cos (byGrid ((posOf i).val % 64) k))
      (axialSin (fun k => Ideal.sin (byGrid ((posOf i).val / 64) k)) fun k => Ideal.sin (byGrid ((posOf i).val % 64) k)) := by
  unfold axialRow
  rw [cols_at m c t r i hi]
  exact congrArg₂ _ (funext fun l => blk_7 m c t r l (posOf i) (pos_val t r i hi)) (funext fun l => blk_8 m c t r l (posOf i) (pos_val t r i hi))

/-- A column of the plain projection. -/
theorem proj_col (l q : Fin 2560) (h : (perm l).val = q.val) :
    projRow (iblk m c 0 t) (iblk m c 1 t) (iblk m c 2 t) r l = rowAt m c i q := by
  rw [proj_at m c t r i hi]
  exact congrArg (rowAt m c i) (Fin.ext h)

/-- The third attention's keys and values side by side. -/
theorem beside_at (l : Fin 384) : besideRow (iblk m c 0 t) (iblk m c 1 t) (iblk m c 2 t) (iblk m c 4 t) (iblk m c 7 t) (iblk m c 8 t) r l
    = resKvc (rowAt m c i) (kGain m c) (posOf i).val l := by
  unfold besideRow resKvc
  by_cases c₁ : l.val < 128
  · rw [dif_pos c₁, if_pos c₁, axial_at m c t r i hi]
    exact spin_kc _ _ _ _ l.val c₁ _
  rw [dif_neg c₁, if_neg c₁]
  by_cases c₂ : l.val < 192
  · rw [dif_pos c₂, dif_pos c₂]
    refine proj_col m c t r i hi _ _ ?_
    rw [perm_val]
    dsimp only
    split_ifs <;> omega
  rw [dif_neg c₂, dif_neg c₂]
  by_cases c₃ : l.val < 320
  · rw [dif_pos c₃, dif_pos c₃]
  rw [dif_neg c₃, dif_neg c₃]
  refine proj_col m c t r i hi _ _ ?_
  rw [perm_val]
  dsimp only
  split_ifs <;> omega

end

/-! ## The results -/

/-- The first attention's queries, -/
theorem final_9 (f : S32768x256.Idx → EReal) (hf : ∀ i l, f (ix2 i l) = resQa (rowAt m c i) (qGain m c) l) : (dats m 0 c).arrAt 9 cfg0.N = f := by
  refine (dats m 0 c).arrAt_eq_of_covers 9 _ (by decide +kernel) fun t _ y => ?_
  have ht := point_lt t
  blk_simp
  rw [after0_9]
  obtain ⟨r, l, rfl⟩ : ∃ (r : Fin 1024) (l : Fin 256), y = (ix2 r l : S1024x256.Idx) :=
    ⟨y 0, y 1, by funext a; fin_cases a <;> rfl⟩
  rw [out_9 _ _ _ _ _ _ _ _ _ (fun k l => blk_3 m c t k l)]
  refine Eq.trans ?_ ((hf ⟨t.val * 1024 + r.val, by omega⟩ l).symm.trans (congrArg f ?_))
  · rw [cols_at m c t r ⟨t.val * 1024 + r.val, by omega⟩ rfl]
    exact cols_qa _ _ _ l _
  blk_ext [win_9]

/-- its keys -/
theorem final_10 (f : S32768x256.Idx → EReal) (hf : ∀ i l, f (ix2 i l) = resKa (rowAt m c i) (kGain m c) l) : (dats m 0 c).arrAt 10 cfg0.N = f := by
  refine (dats m 0 c).arrAt_eq_of_covers 10 _ (by decide +kernel) fun t _ y => ?_
  have ht := point_lt t
  blk_simp
  rw [after0_10]
  obtain ⟨r, l, rfl⟩ : ∃ (r : Fin 1024) (l : Fin 256), y = (ix2 r l : S1024x256.Idx) :=
    ⟨y 0, y 1, by funext a; fin_cases a <;> rfl⟩
  rw [out_10 _ _ _ _ _ _ _ _ _ (fun k l => blk_3 m c t k l)]
  refine Eq.trans ?_ ((hf ⟨t.val * 1024 + r.val, by omega⟩ l).symm.trans (congrArg f ?_))
  · rw [cols_at m c t r ⟨t.val * 1024 + r.val, by omega⟩ rfl]
    exact cols_ka _ _ _ l _
  blk_ext [win_10]

/-- and its values; -/
theorem final_11 (f : S32768x256.Idx → EReal) (hf : ∀ i l, f (ix2 i l) = resVa (rowAt m c i) l) : (dats m 0 c).arrAt 11 cfg0.N = f := by
  refine (dats m 0 c).arrAt_eq_of_covers 11 _ (by decide +kernel) fun t _ y => ?_
  have ht := point_lt t
  blk_simp
  rw [after0_11]
  obtain ⟨r, l, rfl⟩ : ∃ (r : Fin 1024) (l : Fin 256), y = (ix2 r l : S1024x256.Idx) :=
    ⟨y 0, y 1, by funext a; fin_cases a <;> rfl⟩
  rw [out_11 _ _ _ _ _ _ _ _ _]
  refine Eq.trans ?_ ((hf ⟨t.val * 1024 + r.val, by omega⟩ l).symm.trans (congrArg f ?_))
  · refine proj_col m c t r _ rfl _ _ ?_
    rw [perm_val]
    dsimp only
    split_ifs <;> omega
  blk_ext [win_11]

/-- the second's queries, -/
theorem final_12 (f : S32768x384.Idx → EReal) (hf : ∀ i l, f (ix2 i l) = resQd (rowAt m c i) (qGain m c) (posOf i).val l) : (dats m 0 c).arrAt 12 cfg0.N = f := by
  refine (dats m 0 c).arrAt_eq_of_covers 12 _ (by decide +kernel) fun t _ y => ?_
  have ht := point_lt t
  blk_simp
  rw [after0_12]
  obtain ⟨r, l, rfl⟩ : ∃ (r : Fin 1024) (l : Fin 384), y = (ix2 r l : S1024x384.Idx) :=
    ⟨y 0, y 1, by funext a; fin_cases a <;> rfl⟩
  rw [out_12 _ _ _ _ _ _ _ _ _ (fun k l => blk_3 m c t k l)]
  refine Eq.trans ?_ ((hf ⟨t.val * 1024 + r.val, by omega⟩ l).symm.trans (congrArg f ?_))
  · rw [part_at m c t r ⟨t.val * 1024 + r.val, by omega⟩ rfl]
    exact spin_qd _ _ _ _ l _
  blk_ext [win_12]

/-- its keys -/
theorem final_13 (f : S32768x384.Idx → EReal) (hf : ∀ i l, f (ix2 i l) = resKd (rowAt m c i) (kGain m c) (posOf i).val l) : (dats m 0 c).arrAt 13 cfg0.N = f := by
  refine (dats m 0 c).arrAt_eq_of_covers 13 _ (by decide +kernel) fun t _ y => ?_
  have ht := point_lt t
  blk_simp
  rw [after0_13]
  obtain ⟨r, l, rfl⟩ : ∃ (r : Fin 1024) (l : Fin 384), y = (ix2 r l : S1024x384.Idx) :=
    ⟨y 0, y 1, by funext a; fin_cases a <;> rfl⟩
  rw [out_13 _ _ _ _ _ _ _ _ _ (fun k l => blk_3 m c t k l)]
  refine Eq.trans ?_ ((hf ⟨t.val * 1024 + r.val, by omega⟩ l).symm.trans (congrArg f ?_))
  · rw [part_at m c t r ⟨t.val * 1024 + r.val, by omega⟩ rfl]
    exact spin_kd _ _ _ _ l _
  blk_ext [win_13]

/-- and its values; -/
theorem final_14 (f : S32768x384.Idx → EReal) (hf : ∀ i l, f (ix2 i l) = resVd (rowAt m c i) l) : (dats m 0 c).arrAt 14 cfg0.N = f := by
  refine (dats m 0 c).arrAt_eq_of_covers 14 _ (by decide +kernel) fun t _ y => ?_
  have ht := point_lt t
  blk_simp
  rw [after0_14]
  obtain ⟨r, l, rfl⟩ : ∃ (r : Fin 1024) (l : Fin 384), y = (ix2 r l : S1024x384.Idx) :=
    ⟨y 0, y 1, by funext a; fin_cases a <;> rfl⟩
  rw [out_14 _ _ _ _ _ _ _ _ _]
  refine Eq.trans ?_ ((hf ⟨t.val * 1024 + r.val, by omega⟩ l).symm.trans (congrArg f ?_))
  · refine proj_col m c t r _ rfl _ _ ?_
    rw [perm_val]
    dsimp only
    split_ifs <;> omega
  blk_ext [win_14]

/-- the third's queries, -/
theorem final_15 (f : S32768x384.Idx → EReal) (hf : ∀ i l, f (ix2 i l) = resQc (rowAt m c i) (qGain m c) (posOf i).val l) : (dats m 0 c).arrAt 15 cfg0.N = f := by
  refine (dats m 0 c).arrAt_eq_of_covers 15 _ (by decide +kernel) fun t _ y => ?_
  have ht := point_lt t
  blk_simp
  rw [after0_15]
  obtain ⟨r, l, rfl⟩ : ∃ (r : Fin 1024) (l : Fin 384), y = (ix2 r l : S1024x384.Idx) :=
    ⟨y 0, y 1, by funext a; fin_cases a <;> rfl⟩
  rw [out_15 _ _ _ _ _ _ _ _ _ (fun k l => blk_3 m c t k l)]
  refine Eq.trans ?_ ((hf ⟨t.val * 1024 + r.val, by omega⟩ l).symm.trans (congrArg f ?_))
  · rw [axial_at m c t r ⟨t.val * 1024 + r.val, by omega⟩ rfl]
    exact spin_qc _ _ _ _ l _
  blk_ext [win_15]

/-- and its keys and values: an array that holds these is the kernel's result. -/
theorem final_16 (f : S32768x384.Idx → EReal) (hf : ∀ i l, f (ix2 i l) = resKvc (rowAt m c i) (kGain m c) (posOf i).val l) : (dats m 0 c).arrAt 16 cfg0.N = f := by
  refine (dats m 0 c).arrAt_eq_of_covers 16 _ (by decide +kernel) fun t _ y => ?_
  have ht := point_lt t
  blk_simp
  rw [after0_16]
  obtain ⟨r, l, rfl⟩ : ∃ (r : Fin 1024) (l : Fin 384), y = (ix2 r l : S1024x384.Idx) :=
    ⟨y 0, y 1, by funext a; fin_cases a <;> rfl⟩
  rw [out_16 _ _ _ _ _ _ _ _ _ (fun k l => blk_3 m c t k l)]
  refine Eq.trans ?_ ((hf ⟨t.val * 1024 + r.val, by omega⟩ l).symm.trans (congrArg f ?_))
  · exact beside_at m c t r _ rfl l
  blk_ext [win_16]

end Cert.InprojIdeal.Tile
-- ==== Proof.InprojRef.lean ====
/- The projection written plainly, read at one row and lane. -/
module

public import proofs.«01_k».proof.Proof.Gen.InprojRefIdeal.Run
public import proofs.«01_k».proof.Proof.Gen.InprojRefIdeal.Read
public import proofs.«01_k».proof.Proof.InprojForm

@[expose] public section

set_option maxRecDepth 16384

noncomputable section

namespace Cert.InprojRefIdeal.Plain

open Cert.InprojRefIdeal Cert.InprojRefIdeal.Gen Cert.InprojRefIdeal.Read Idealize.ShloMosaic Cert.Feed Cert.Inproj

/-! ## The angles -/

/-- The angles of the first turn, -/
theorem v16_at (s : Fin 4096) (k : Fin 8) : val_main_v16 (F := Ideal) (ix2 s k) = byPos s k := by
  unfold val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst
    val_main_cst_0 val_main_cst_1 val_main_cst_2
  pointwise
  exact mul_comm _ _

/-- the rows in the grid, -/
theorem v19_at (s : Fin 4096) : val_main_v19 (F := Ideal) (ix1 s) = BitVec.ofNat 32 (s.val / 64) := by
  unfold val_main_v19 val_main_call0_v13 val_main_call0_v12 val_main_call0_v11 val_main_call0_v10 val_main_call0_v9 val_main_call0_v8
    val_main_call0_v7 val_main_call0_v6 val_main_call0_v5 val_main_call0_v4 val_main_call0_v3 val_main_call0_v2 val_main_call0_v1
    val_main_call0_v0 val_main_call0_c val_main_call0_c_0 val_main_c val_main_v0
  revert s
  decide +kernel

/-- the columns, -/
theorem v38_at (s : Fin 4096) : val_main_v38 (F := Ideal) (ix1 s) = BitVec.ofNat 32 (s.val % 64) := by
  unfold val_main_v38 val_main_call1_v14 val_main_call1_v13 val_main_call1_v12 val_main_call1_v11 val_main_call1_v10 val_main_call1_v9
    val_main_call1_v8 val_main_call1_v7 val_main_call1_v6 val_main_call1_v5 val_main_call1_v4 val_main_call1_v3 val_main_call1_v2
    val_main_call1_v1 val_main_call1_v0 val_main_call1_c val_main_call1_c_0 val_main_call1_c_1 val_main_call1_c_2 val_main_call1_c_3
    val_main_c_7 val_main_v0
  revert s
  decide +kernel

/-- the angles by row, -/
theorem v35_at (s : Fin 4096) (k : Fin 16) : val_main_v35 (F := Ideal) (ix2 s k) = byGrid (s.val / 64) k := by
  have h := v19_at s
  unfold val_main_v35 val_main_v34 val_main_v33 val_main_v32 val_main_v31 val_main_v30 val_main_v29 val_main_v28 val_main_v27
    val_main_v26 val_main_v25 val_main_v24 val_main_v23 val_main_v22 val_main_v21 val_main_v20 val_main_cst_3 val_main_cst_4
    val_main_cst_5 val_main_cst_6
  generalize val_main_v19 (F := Ideal) = p at *
  pointwise
  rw [h]
  exact mul_comm _ _

/-- and by column. -/
theorem v54_at (s : Fin 4096) (k : Fin 16) : val_main_v54 (F := Ideal) (ix2 s k) = byGrid (s.val % 64) k := by
  have h := v38_at s
  unfold val_main_v54 val_main_v53 val_main_v52 val_main_v51 val_main_v50 val_main_v49 val_main_v48 val_main_v47 val_main_v46
    val_main_v45 val_main_v44 val_main_v43 val_main_v42 val_main_v41 val_main_v40 val_main_v39 val_main_cst_8 val_main_cst_9
    val_main_cst_10 val_main_cst_11
  generalize val_main_v38 (F := Ideal) = p at *
  pointwise
  rw [h]
  exact mul_comm _ _

/-! ## The projection -/

variable (x₀ : FVec Ideal S8x4096x1024 .f32) (x₁ : FVec Ideal S2x1024 .f32) (x₂ : FVec Ideal S2x1024x2560 .f32)
    (x₃ x₄ : FVec Ideal S2x3x64 .f32)

/-- The plain projection of one row. -/
def plainRow (b : Fin 8) (s : Fin 4096) : Fin 2560 → EReal :=
  proj (fun k => x₁ (ix2 1 k)) (fun k c => x₂ (ix3 1 k c)) (fun k => x₀ (ix3 b s k))

/-- The rows normed, -/
theorem v71_at (b : Fin 8) (s : Fin 4096) (k : Fin 1024) : val_main_v71 (F := Ideal) x₀ x₁ (ix3 b s k)
    = rms (Ideal.ofBits .f32 0x44800000#32) (fun k => x₀ (ix3 b s k)) (fun k => x₁ (ix2 1 k)) k := by
  have h : ∀ k : Fin 1024, val_main_v58 (F := Ideal) x₁ (ix1 k) = x₁ (ix2 1 k) := fun k => by
    unfold val_main_v58 val_main_v57
    pointwise
  unfold val_main_v71 val_main_v70 val_main_v69
  generalize val_main_v58 (F := Ideal) x₁ = g at *
  unfold val_main_v68 val_main_v67 val_main_v66 val_main_v65 val_main_v64 val_main_v63 val_main_v62 val_main_v61 val_main_v60
    val_main_v59 val_main_cst_12 val_main_cst_13 val_main_cst_14
  pointwise
  rw [h]
  rfl

/-- and projected. -/
theorem v74_at (b : Fin 8) (s : Fin 4096) (c : Fin 2560) : val_main_v74 (F := Ideal) x₀ x₁ x₂ (ix3 b s c) = plainRow x₀ x₁ x₂ b s c := by
  have hw : ∀ k c, val_main_v73 (F := Ideal) x₂ (ix2 k c) = x₂ (ix3 1 k c) := fun k c => by
    unfold val_main_v73 val_main_v72
    pointwise
  have h := v71_at x₀ x₁ b s
  unfold val_main_v74
  generalize val_main_v73 (F := Ideal) x₂ = W at *
  generalize val_main_v71 (F := Ideal) x₀ x₁ = N at *
  pointwise
  simp only [h, hw]
  rfl

/-- A head's entry is a column of the projection. -/
theorem head_eq (P : Fin 2560 → EReal) (o l : ℕ) (c : Fin 2560) (d : Fin 64) (h : c.val = o + l / 64 * 64 + d.val) : P c = head P o l d := by
  unfold head
  rw [dif_pos (by have := c.isLt; omega)]
  exact congrArg P (Fin.ext h)

/-! ## The heads normed -/

/-- The first attention's queries, normed, -/
theorem v103_at (b : Fin 8) (s : Fin 4096) (h : Fin 4) (d : Fin 64) : val_main_v103 (F := Ideal) x₀ x₁ x₂ x₃ (ix4 b s h d)
    = headNorm (head (plainRow x₀ x₁ x₂ b s) 0 (h.val * 64)) (fun d => x₃ (ix3 1 0 d)) d := by
  have hg : ∀ d : Fin 64, val_main_v90 (F := Ideal) x₃ (ix1 d) = x₃ (ix3 1 0 d) := fun d => by
    unfold val_main_v90 val_main_v89 val_main_v85 val_main_v84
    pointwise
  have hv : ∀ d : Fin 64, val_main_v88 (F := Ideal) x₀ x₁ x₂ (ix4 b s h d) = head (plainRow x₀ x₁ x₂ b s) 0 (h.val * 64) d := fun d => by
    have e := v74_at x₀ x₁ x₂ b s
    unfold val_main_v88 val_main_v75
    generalize val_main_v74 (F := Ideal) x₀ x₁ x₂ = Z at *
    pointwise
    rw [e]
    exact head_eq _ _ _ _ _ (by dsimp only; omega)
  unfold val_main_v103 val_main_v102 val_main_v101
  generalize val_main_v90 (F := Ideal) x₃ = g at *
  unfold val_main_v100 val_main_v99 val_main_v98 val_main_v97 val_main_v96 val_main_v95 val_main_v94 val_main_v93
    val_main_v92 val_main_v91 val_main_cst_15 val_main_cst_16 val_main_cst_17
  generalize val_main_v88 (F := Ideal) x₀ x₁ x₂ = N at *
  pointwise
  simp only [hg, hv]
  rfl

/-- its keys, -/
theorem v119_at (b : Fin 8) (s : Fin 4096) (h : Fin 4) (d : Fin 64) : val_main_v119 (F := Ideal) x₀ x₁ x₂ x₄ (ix4 b s h d)
    = headNorm (head (plainRow x₀ x₁ x₂ b s) 256 (h.val * 64)) (fun d => x₄ (ix3 1 0 d)) d := by
  have hg : ∀ d : Fin 64, val_main_v106 (F := Ideal) x₄ (ix1 d) = x₄ (ix3 1 0 d) := fun d => by
    unfold val_main_v106 val_main_v105 val_main_v87 val_main_v86
    pointwise
  have hv : ∀ d : Fin 64, val_main_v104 (F := Ideal) x₀ x₁ x₂ (ix4 b s h d) = head (plainRow x₀ x₁ x₂ b s) 256 (h.val * 64) d := fun d => by
    have e := v74_at x₀ x₁ x₂ b s
    unfold val_main_v104 val_main_v76
    generalize val_main_v74 (F := Ideal) x₀ x₁ x₂ = Z at *
    pointwise
    rw [e]
    exact head_eq _ _ _ _ _ (by dsimp only; omega)
  unfold val_main_v119 val_main_v118 val_main_v117
  generalize val_main_v106 (F := Ideal) x₄ = g at *
  unfold val_main_v116 val_main_v115 val_main_v114 val_main_v113 val_main_v112 val_main_v111 val_main_v110 val_main_v109
    val_main_v108 val_main_v107 val_main_cst_18 val_main_cst_19 val_main_cst_20
  generalize val_main_v104 (F := Ideal) x₀ x₁ x₂ = N at *
  pointwise
  simp only [hg, hv]
  rfl

/-- the second's queries, -/
theorem v135_at (b : Fin 8) (s : Fin 4096) (h : Fin 6) (d : Fin 64) : val_main_v135 (F := Ideal) x₀ x₁ x₂ x₃ (ix4 b s h d)
    = headNorm (head (plainRow x₀ x₁ x₂ b s) 768 (h.val * 64)) (fun d => x₃ (ix3 1 1 d)) d := by
  have hg : ∀ d : Fin 64, val_main_v122 (F := Ideal) x₃ (ix1 d) = x₃ (ix3 1 1 d) := fun d => by
    unfold val_main_v122 val_main_v121 val_main_v85 val_main_v84
    pointwise
  have hv : ∀ d : Fin 64, val_main_v120 (F := Ideal) x₀ x₁ x₂ (ix4 b s h d) = head (plainRow x₀ x₁ x₂ b s) 768 (h.val * 64) d := fun d => by
    have e := v74_at x₀ x₁ x₂ b s
    unfold val_main_v120 val_main_v78
    generalize val_main_v74 (F := Ideal) x₀ x₁ x₂ = Z at *
    pointwise
    rw [e]
    exact head_eq _ _ _ _ _ (by dsimp only; omega)
  unfold val_main_v135 val_main_v134 val_main_v133
  generalize val_main_v122 (F := Ideal) x₃ = g at *
  unfold val_main_v132 val_main_v131 val_main_v130 val_main_v129 val_main_v128 val_main_v127 val_main_v126 val_main_v125
    val_main_v124 val_main_v123 val_main_cst_21 val_main_cst_22 val_main_cst_23
  generalize val_main_v120 (F := Ideal) x₀ x₁ x₂ = N at *
  pointwise
  simp only [hg, hv]
  rfl

/-- its keys, -/
theorem v169_at (b : Fin 8) (s : Fin 4096) (h : Fin 6) (d : Fin 64) : val_main_v169 (F := Ideal) x₀ x₁ x₂ x₄ (ix4 b s h d)
    = headNorm (head (plainRow x₀ x₁ x₂ b s) 1152 (h.val * 64)) (fun d => x₄ (ix3 1 1 d)) d := by
  have hg : ∀ d : Fin 64, val_main_v156 (F := Ideal) x₄ (ix1 d) = x₄ (ix3 1 1 d) := fun d => by
    unfold val_main_v156 val_main_v155 val_main_v87 val_main_v86
    pointwise
  have hv : ∀ d : Fin 64, val_main_v154 (F := Ideal) x₀ x₁ x₂ (ix4 b s h d) = head (plainRow x₀ x₁ x₂ b s) 1152 (h.val * 64) d := fun d => by
    have e := v74_at x₀ x₁ x₂ b s
    unfold val_main_v154 val_main_v79
    generalize val_main_v74 (F := Ideal) x₀ x₁ x₂ = Z at *
    pointwise
    rw [e]
    exact head_eq _ _ _ _ _ (by dsimp only; omega)
  unfold val_main_v169 val_main_v168 val_main_v167
  generalize val_main_v156 (F := Ideal) x₄ = g at *
  unfold val_main_v166 val_main_v165 val_main_v164 val_main_v163 val_main_v162 val_main_v161 val_main_v160 val_main_v159
    val_main_v158 val_main_v157 val_main_cst_24 val_main_cst_25 val_main_cst_26
  generalize val_main_v154 (F := Ideal) x₀ x₁ x₂ = N at *
  pointwise
  simp only [hg, hv]
  rfl

/-- the third's queries, -/
theorem v203_at (b : Fin 8) (s : Fin 4096) (h : Fin 6) (d : Fin 64) : val_main_v203 (F := Ideal) x₀ x₁ x₂ x₃ (ix4 b s h d)
    = headNorm (head (plainRow x₀ x₁ x₂ b s) 1920 (h.val * 64)) (fun d => x₃ (ix3 1 2 d)) d := by
  have hg : ∀ d : Fin 64, val_main_v190 (F := Ideal) x₃ (ix1 d) = x₃ (ix3 1 2 d) := fun d => by
    unfold val_main_v190 val_main_v189 val_main_v85 val_main_v84
    pointwise
  have hv : ∀ d : Fin 64, val_main_v188 (F := Ideal) x₀ x₁ x₂ (ix4 b s h d) = head (plainRow x₀ x₁ x₂ b s) 1920 (h.val * 64) d := fun d => by
    have e := v74_at x₀ x₁ x₂ b s
    unfold val_main_v188 val_main_v81
    generalize val_main_v74 (F := Ideal) x₀ x₁ x₂ = Z at *
    pointwise
    rw [e]
    exact head_eq _ _ _ _ _ (by dsimp only; omega)
  unfold val_main_v203 val_main_v202 val_main_v201
  generalize val_main_v190 (F := Ideal) x₃ = g at *
  unfold val_main_v200 val_main_v199 val_main_v198 val_main_v197 val_main_v196 val_main_v195 val_main_v194 val_main_v193
    val_main_v192 val_main_v191 val_main_cst_27 val_main_cst_28 val_main_cst_29
  generalize val_main_v188 (F := Ideal) x₀ x₁ x₂ = N at *
  pointwise
  simp only [hg, hv]
  rfl

/-- and its keys. -/
theorem v252_at (b : Fin 8) (s : Fin 4096) (h : Fin 2) (d : Fin 64) : val_main_v252 (F := Ideal) x₀ x₁ x₂ x₄ (ix4 b s h d)
    = headNorm (head (plainRow x₀ x₁ x₂ b s) 2304 (h.val * 64)) (fun d => x₄ (ix3 1 2 d)) d := by
  have hg : ∀ d : Fin 64, val_main_v239 (F := Ideal) x₄ (ix1 d) = x₄ (ix3 1 2 d) := fun d => by
    unfold val_main_v239 val_main_v238 val_main_v87 val_main_v86
    pointwise
  have hv : ∀ d : Fin 64, val_main_v237 (F := Ideal) x₀ x₁ x₂ (ix4 b s h d) = head (plainRow x₀ x₁ x₂ b s) 2304 (h.val * 64) d := fun d => by
    have e := v74_at x₀ x₁ x₂ b s
    unfold val_main_v237 val_main_v82
    generalize val_main_v74 (F := Ideal) x₀ x₁ x₂ = Z at *
    pointwise
    rw [e]
    exact head_eq _ _ _ _ _ (by dsimp only; omega)
  unfold val_main_v252 val_main_v251 val_main_v250
  generalize val_main_v239 (F := Ideal) x₄ = g at *
  unfold val_main_v249 val_main_v248 val_main_v247 val_main_v246 val_main_v245 val_main_v244 val_main_v243 val_main_v242
    val_main_v241 val_main_v240 val_main_cst_30 val_main_cst_31 val_main_cst_32
  generalize val_main_v237 (F := Ideal) x₀ x₁ x₂ = N at *
  pointwise
  simp only [hg, hv]
  rfl

/-! ## The heads turned -/

/-- The second attention's queries, turned, -/
theorem v153_at (b : Fin 8) (s : Fin 4096) (h : Fin 6) (d : Fin 64) : val_main_v153 (F := Ideal) x₀ x₁ x₂ x₃ (ix4 b s h d)
    = turned (fun d => val_main_v135 (F := Ideal) x₀ x₁ x₂ x₃ (ix4 b s h d)) s d := by
  have ha := v16_at s
  unfold val_main_v153 val_main_v152 val_main_v151 val_main_v150 val_main_v149 val_main_v148 val_main_v147 val_main_v146
    val_main_v145 val_main_v144 val_main_v143 val_main_v142 val_main_v141 val_main_v140 val_main_v139 val_main_v138
    val_main_v137 val_main_v136
  generalize val_main_v135 (F := Ideal) x₀ x₁ x₂ x₃ = N at *
  unfold val_main_v18 val_main_v17
  generalize val_main_v16 (F := Ideal) = A at *
  pointwise
  simp only [ha]
  unfold turned part turn
  split_ifs
  all_goals first
    | omega
    | rfl
    | exact congrArg (fun q => N (ix4 b s h q)) (Fin.ext (by first | rfl | omega | (dsimp only; omega)))

/-- its keys, -/
theorem v187_at (b : Fin 8) (s : Fin 4096) (h : Fin 6) (d : Fin 64) : val_main_v187 (F := Ideal) x₀ x₁ x₂ x₄ (ix4 b s h d)
    = turned (fun d => val_main_v169 (F := Ideal) x₀ x₁ x₂ x₄ (ix4 b s h d)) s d := by
  have ha := v16_at s
  unfold val_main_v187 val_main_v186 val_main_v185 val_main_v184 val_main_v183 val_main_v182 val_main_v181 val_main_v180
    val_main_v179 val_main_v178 val_main_v177 val_main_v176 val_main_v175 val_main_v174 val_main_v173 val_main_v172
    val_main_v171 val_main_v170
  generalize val_main_v169 (F := Ideal) x₀ x₁ x₂ x₄ = N at *
  unfold val_main_v18 val_main_v17
  generalize val_main_v16 (F := Ideal) = A at *
  pointwise
  simp only [ha]
  unfold turned part turn
  split_ifs
  all_goals first
    | omega
    | rfl
    | exact congrArg (fun q => N (ix4 b s h q)) (Fin.ext (by first | rfl | omega | (dsimp only; omega)))

/-- the third's queries, -/
theorem v236_at (b : Fin 8) (s : Fin 4096) (h : Fin 6) (d : Fin 64) : val_main_v236 (F := Ideal) x₀ x₁ x₂ x₃ (ix4 b s h d)
    = turned2 (fun d => val_main_v203 (F := Ideal) x₀ x₁ x₂ x₃ (ix4 b s h d)) s d := by
  have ha := v35_at s
  have hb := v54_at s
  unfold val_main_v236 val_main_v235 val_main_v234 val_main_v233 val_main_v232 val_main_v231 val_main_v230 val_main_v229
    val_main_v228 val_main_v227 val_main_v226 val_main_v225 val_main_v224 val_main_v223 val_main_v222 val_main_v221
    val_main_v220 val_main_v219 val_main_v218 val_main_v217 val_main_v216 val_main_v215 val_main_v214 val_main_v213
    val_main_v212 val_main_v211 val_main_v210 val_main_v209 val_main_v208 val_main_v207 val_main_v206 val_main_v205
    val_main_v204
  generalize val_main_v203 (F := Ideal) x₀ x₁ x₂ x₃ = N at *
  unfold val_main_v36 val_main_v37 val_main_v55 val_main_v56
  generalize val_main_v35 (F := Ideal) = A at *
  generalize val_main_v54 (F := Ideal) = B at *
  pointwise
  simp only [ha, hb]
  unfold turned2 axial turn
  split_ifs
  all_goals try dsimp only
  all_goals try simp only [show ∀ k, 32 + (16 + k) = 48 + k from fun k => by omega]
  all_goals first
    | omega
    | rfl

/-- and its keys. -/
theorem v285_at (b : Fin 8) (s : Fin 4096) (h : Fin 2) (d : Fin 64) : val_main_v285 (F := Ideal) x₀ x₁ x₂ x₄ (ix4 b s h d)
    = turned2 (fun d => val_main_v252 (F := Ideal) x₀ x₁ x₂ x₄ (ix4 b s h d)) s d := by
  have ha := v35_at s
  have hb := v54_at s
  unfold val_main_v285 val_main_v284 val_main_v283 val_main_v282 val_main_v281 val_main_v280 val_main_v279 val_main_v278
    val_main_v277 val_main_v276 val_main_v275 val_main_v274 val_main_v273 val_main_v272 val_main_v271 val_main_v270
    val_main_v269 val_main_v268 val_main_v267 val_main_v266 val_main_v265 val_main_v264 val_main_v263 val_main_v262
    val_main_v261 val_main_v260 val_main_v259 val_main_v258 val_main_v257 val_main_v256 val_main_v255 val_main_v254
    val_main_v253
  generalize val_main_v252 (F := Ideal) x₀ x₁ x₂ x₄ = N at *
  unfold val_main_v36 val_main_v37 val_main_v55 val_main_v56
  generalize val_main_v35 (F := Ideal) = A at *
  generalize val_main_v54 (F := Ideal) = B at *
  pointwise
  simp only [ha, hb]
  unfold turned2 axial turn
  split_ifs
  all_goals try dsimp only
  all_goals try simp only [show ∀ k, 32 + (16 + k) = 48 + k from fun k => by omega]
  all_goals first
    | omega
    | rfl

end Cert.InprojRefIdeal.Plain
-- ==== Proof.InprojPlain.lean ====
/- The eight results of the projection written plainly, at one row and lane. -/
module

public import proofs.«01_k».proof.Proof.InprojRef

@[expose] public section

set_option maxRecDepth 16384

noncomputable section

namespace Cert.InprojRefIdeal.Plain

open Cert.InprojRefIdeal Cert.InprojRefIdeal.Gen Cert.InprojRefIdeal.Read Idealize.ShloMosaic Cert.Feed Cert.Inproj

variable (x₀ : FVec Ideal S8x4096x1024 .f32) (x₁ : FVec Ideal S2x1024 .f32) (x₂ : FVec Ideal S2x1024x2560 .f32)
    (x₃ x₄ : FVec Ideal S2x3x64 .f32)

/-- The sequence a row lies in, -/
def seqOf (i : Fin 32768) : Fin 8 := ⟨i.val / 4096, by omega⟩
/-- and its place there. -/
def posOf (i : Fin 32768) : Fin 4096 := ⟨i.val % 4096, by omega⟩

/-- The plain projection of row `i` of all. -/
abbrev rowAt (i : Fin 32768) : Fin 2560 → EReal := plainRow x₀ x₁ x₂ (seqOf i) (posOf i)
/-- The gains of the heads. -/
abbrev gains (x : FVec Ideal S2x3x64 .f32) (a : Fin 3) (d : Fin 64) : EReal := x (ix3 1 a d)

/-- A head is the same from any of its lanes. -/
theorem head_lane (P : Fin 2560 → EReal) (o l : ℕ) : head P o (l / 64 * 64) = head P o l := by
  funext d
  unfold head
  simp only [show l / 64 * 64 / 64 * 64 = l / 64 * 64 by omega]

/-- The first attention's queries, -/
theorem v297_at (i : Fin 32768) (l : Fin 256) :
    val_main_v297 (F := Ideal) x₀ x₁ x₂ x₃ (ix2 i l) = resQa (rowAt x₀ x₁ x₂ i) (gains x₃) l := by
  have e := v103_at x₀ x₁ x₂ x₃
  unfold val_main_v297 val_main_v296 val_main_v295 val_main_v294 val_main_cst_34
  generalize val_main_v103 (F := Ideal) x₀ x₁ x₂ x₃ = N at *
  pointwise
  rw [e]
  dsimp only
  rw [head_lane]
  rfl

/-- keys, -/
theorem v299_at (i : Fin 32768) (l : Fin 256) :
    val_main_v299 (F := Ideal) x₀ x₁ x₂ x₄ (ix2 i l) = resKa (rowAt x₀ x₁ x₂ i) (gains x₄) l := by
  have e := v119_at x₀ x₁ x₂ x₄
  unfold val_main_v299 val_main_v298
  generalize val_main_v119 (F := Ideal) x₀ x₁ x₂ x₄ = N at *
  pointwise
  rw [e]
  dsimp only
  rw [head_lane]
  rfl

/-- and values; -/
theorem v301_at (i : Fin 32768) (l : Fin 256) :
    val_main_v301 (F := Ideal) x₀ x₁ x₂ (ix2 i l) = resVa (rowAt x₀ x₁ x₂ i) l := by
  have e := v74_at x₀ x₁ x₂
  unfold val_main_v301 val_main_v300 val_main_v77
  generalize val_main_v74 (F := Ideal) x₀ x₁ x₂ = Z at *
  pointwise
  rw [e]
  rfl

/-- the second's queries, -/
theorem v305_at (i : Fin 32768) (l : Fin 384) :
    val_main_v305 (F := Ideal) x₀ x₁ x₂ x₃ (ix2 i l) = resQd (rowAt x₀ x₁ x₂ i) (gains x₃) (i.val % 4096) l := by
  have e : ∀ b s h d, val_main_v153 (F := Ideal) x₀ x₁ x₂ x₃ (ix4 b s h d) = _ := fun b s h d =>
    (v153_at x₀ x₁ x₂ x₃ b s h d).trans (by simp only [v135_at x₀ x₁ x₂ x₃]; rfl)
  unfold val_main_v305 val_main_v304 val_main_v303 val_main_v302 val_main_cst_35
  generalize val_main_v153 (F := Ideal) x₀ x₁ x₂ x₃ = N at *
  pointwise
  rw [e]
  dsimp only
  rw [head_lane]
  rfl

/-- keys, -/
theorem v307_at (i : Fin 32768) (l : Fin 384) :
    val_main_v307 (F := Ideal) x₀ x₁ x₂ x₄ (ix2 i l) = resKd (rowAt x₀ x₁ x₂ i) (gains x₄) (i.val % 4096) l := by
  have e : ∀ b s h d, val_main_v187 (F := Ideal) x₀ x₁ x₂ x₄ (ix4 b s h d) = _ := fun b s h d =>
    (v187_at x₀ x₁ x₂ x₄ b s h d).trans (by simp only [v169_at x₀ x₁ x₂ x₄]; rfl)
  unfold val_main_v307 val_main_v306
  generalize val_main_v187 (F := Ideal) x₀ x₁ x₂ x₄ = N at *
  pointwise
  rw [e]
  dsimp only
  rw [head_lane]
  rfl

/-- and values; -/
theorem v309_at (i : Fin 32768) (l : Fin 384) :
    val_main_v309 (F := Ideal) x₀ x₁ x₂ (ix2 i l) = resVd (rowAt x₀ x₁ x₂ i) l := by
  have e := v74_at x₀ x₁ x₂
  unfold val_main_v309 val_main_v308 val_main_v80
  generalize val_main_v74 (F := Ideal) x₀ x₁ x₂ = Z at *
  pointwise
  rw [e]
  rfl

/-- the third's queries, -/
theorem v313_at (i : Fin 32768) (l : Fin 384) :
    val_main_v313 (F := Ideal) x₀ x₁ x₂ x₃ (ix2 i l) = resQc (rowAt x₀ x₁ x₂ i) (gains x₃) (i.val % 4096) l := by
  have e : ∀ b s h d, val_main_v236 (F := Ideal) x₀ x₁ x₂ x₃ (ix4 b s h d) = _ := fun b s h d =>
    (v236_at x₀ x₁ x₂ x₃ b s h d).trans (by simp only [v203_at x₀ x₁ x₂ x₃]; rfl)
  unfold val_main_v313 val_main_v312 val_main_v311 val_main_v310 val_main_cst_36
  generalize val_main_v236 (F := Ideal) x₀ x₁ x₂ x₃ = N at *
  pointwise
  rw [e]
  dsimp only
  rw [head_lane]
  rfl

section
variable (P : Fin 2560 → EReal) (kg : Fin 3 → Fin 64 → EReal) (s : ℕ) (l : Fin 384)

/-- A lane of the third's keys, -/
theorem beside_key (a : ℕ) (d : Fin 64) (hl : l.val < 128) (ha : a = l.val / 64 * 64) (hd : d.val = l.val % 64) :
    turned2 (headNorm (head P 2304 a) (kg 2)) s d = resKvc P kg s l := by
  subst ha
  unfold resKvc
  rw [if_pos hl, head_lane]
  exact congrArg _ (Fin.ext hd)

/-- of the first head's values, -/
theorem beside_val (q : Fin 2560) (h : 128 ≤ l.val) (hl : l.val < 192) (hq : q.val = 2432 + (l.val - 128)) : P q = resKvc P kg s l := by
  unfold resKvc
  rw [if_neg (by omega), dif_pos hl]
  exact congrArg P (Fin.ext hq)

/-- of the ones, -/
theorem beside_one (h : 192 ≤ l.val) (hl : l.val < 320) : (1 : EReal) = resKvc P kg s l := by
  unfold resKvc
  rw [if_neg (by omega), dif_neg (by omega), dif_pos hl]

/-- and of the second head's values. -/
theorem beside_val' (q : Fin 2560) (h : 320 ≤ l.val) (hq : q.val = 2432 + (l.val - 256)) : P q = resKvc P kg s l := by
  unfold resKvc
  rw [if_neg (by omega), dif_neg (by omega), dif_neg (by omega)]
  exact congrArg P (Fin.ext hq)

end

/-- The third's keys and values side by side. -/
theorem v315_at (i : Fin 32768) (l : Fin 384) :
    val_main_v315 (F := Ideal) x₀ x₁ x₂ x₄ (ix2 i l) = resKvc (rowAt x₀ x₁ x₂ i) (gains x₄) (i.val % 4096) l := by
  have hl := l.isLt
  have e : ∀ b s h d, val_main_v285 (F := Ideal) x₀ x₁ x₂ x₄ (ix4 b s h d)
      = turned2 (headNorm (head (plainRow x₀ x₁ x₂ b s) 2304 (h.val * 64)) (gains x₄ 2)) s.val d := fun b s h d =>
    (v285_at x₀ x₁ x₂ x₄ b s h d).trans (by simp only [v252_at x₀ x₁ x₂ x₄])
  have e' := v74_at x₀ x₁ x₂
  unfold val_main_v315 val_main_v314 val_main_v293 val_main_v292 val_main_v291 val_main_v290 val_main_v289 val_main_v288 val_main_v287
    val_main_v286 val_main_cst_33 val_main_v83
  generalize val_main_v285 (F := Ideal) x₀ x₁ x₂ x₄ = N at *
  generalize val_main_v74 (F := Ideal) x₀ x₁ x₂ = Z at *
  pointwise
  by_cases c₁ : l.val < 64
  · rw [dif_pos c₁]
    exact (e _ _ 0 _).trans (beside_key _ _ _ l _ _ (by omega) (by show 0 * 64 = _; omega) (by show l.val = _; omega))
  rw [dif_neg c₁]
  by_cases c₂ : l.val - 64 < 64
  · rw [dif_pos c₂]
    exact (e _ _ 1 _).trans (beside_key _ _ _ l _ _ (by omega) (by show 1 * 64 = _; omega) (by show l.val - 64 = _; omega))
  rw [dif_neg c₂]
  by_cases c₃ : l.val - 64 - 64 < 64
  · rw [dif_pos c₃]
    exact (e' _ _ _).trans (beside_val _ _ _ l _ (by omega) (by omega) (by show 2432 + (l.val - 64 - 64) = _; omega))
  rw [dif_neg c₃]
  by_cases c₄ : l.val - 64 - 64 - 64 < 64
  · rw [dif_pos c₄]
    exact beside_one _ _ _ l (by omega) (by omega)
  rw [dif_neg c₄]
  by_cases c₅ : l.val - 64 - 64 - 64 - 64 < 64
  · rw [dif_pos c₅]
    exact beside_one _ _ _ l (by omega) (by omega)
  rw [dif_neg c₅]
  exact (e' _ _ _).trans (beside_val' _ _ _ l _ (by omega) (by show 2432 + (64 + (l.val - 64 - 64 - 64 - 64 - 64)) = _; omega))

end Cert.InprojRefIdeal.Plain
-- ==== Proof.InprojClaims.lean ====
/- The claims about the projection: it runs, its idealized form is the program read over the reals, and its eight results are the plain one's. -/
module

public import proofs.«01_k».proof.Defs
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.InprojFinal
public import proofs.«01_k».proof.Proof.InprojPlain
public import Idealize.ShloMosaic.Adequacy
public import Idealize.ShloMosaic.Init

@[expose] public section

set_option maxRecDepth 16384

noncomputable section

namespace Cert.Proof

open Idealize.ShloMosaic Idealize.SL.Sem

/-- The projection kernel runs and leaves its arguments as they were. -/
theorem frame_inproj : Cert.quiescent_Inproj := fun m ρ _ => Cert.Inproj.Gen.frame m ρ

/-- So does its idealized form, -/
theorem frame_inprojIdeal : Cert.quiescent_InprojIdeal := fun m ρ _ => Cert.InprojIdeal.Gen.frame m ρ

/-- and so does the plain program. -/
theorem frame_inprojRefIdeal : Cert.quiescent_InprojRefIdeal := fun m ρ _ =>
  (θ_run (Cert.InprojRefIdeal.defs (F := Ideal)) _ _).mono
    (fun r h => ⟨fun c => (h c).2.2.2.2.2.2.2.2, sem_eq_zero_of_no_sems (by decide) r.2⟩)
    (Cert.InprojRefIdeal.Value.run (F := Ideal) m ρ)

/-- No constant is named and no operation replaced. -/
theorem preserves_inproj : Cert.preserves_Inproj_InprojIdeal := trivial

/-- The tiled projection and the plain one leave the same eight arrays, whatever their arguments. -/
theorem algebraic_inproj : Cert.algebraic_InprojIdeal_InprojRefIdeal := by
  intro m ρ m' ρ' _ hagree
  refine ⟨
    fun c => Cert.InprojRefIdeal.Read.val_main_v297 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg3)),
    fun c => Cert.InprojRefIdeal.Read.val_main_v299 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg4)),
    fun c => Cert.InprojRefIdeal.Read.val_main_v301 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2)),
    fun c => Cert.InprojRefIdeal.Read.val_main_v305 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg3)),
    fun c => Cert.InprojRefIdeal.Read.val_main_v307 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg4)),
    fun c => Cert.InprojRefIdeal.Read.val_main_v309 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2)),
    fun c => Cert.InprojRefIdeal.Read.val_main_v313 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg3)),
    fun c => Cert.InprojRefIdeal.Read.val_main_v315 (F := Ideal)
      (m' ((c.tc : Thread Cert.InprojRefIdeal.nD Cert.InprojRefIdeal.τ).loc Cert.InprojRefIdeal.main_arg0))
      (m' ((c.tc : Thread Cert.InprojRefIdeal.nD Cert.InprojRefIdeal.τ).loc Cert.InprojRefIdeal.main_arg1))
      (m' ((c.tc : Thread Cert.InprojRefIdeal.nD Cert.InprojRefIdeal.τ).loc Cert.InprojRefIdeal.main_arg2))
      (m' ((c.tc : Thread Cert.InprojRefIdeal.nD Cert.InprojRefIdeal.τ).loc Cert.InprojRefIdeal.main_arg4)),
    ?_, ?_⟩
  · refine (θ_run (Cert.InprojIdeal.defs (F := Ideal)) _ _).mono (fun r h c => ⟨(h c).1.trans ?_,
        (h c).2.1.trans ?_,
        (h c).2.2.1.trans ?_,
        (h c).2.2.2.1.trans ?_,
        (h c).2.2.2.2.1.trans ?_,
        (h c).2.2.2.2.2.1.trans ?_,
        (h c).2.2.2.2.2.2.1.trans ?_,
        (h c).2.2.2.2.2.2.2.1.trans ?_,
        (h c).2.2.2.2.2.2.2.2⟩)
      (Cert.InprojIdeal.Value.run_blocks (F := Ideal) m ρ)
    all_goals
      obtain ⟨e₀, e₁, e₂, e₃, e₄⟩ := hagree c
      dsimp only
    · rw [e₀, e₁, e₂, e₃]
      exact Cert.InprojIdeal.Tile.final_9 m c _ fun i l => Cert.InprojRefIdeal.Plain.v297_at _ _ _ _ i l
    · rw [e₀, e₁, e₂, e₄]
      exact Cert.InprojIdeal.Tile.final_10 m c _ fun i l => Cert.InprojRefIdeal.Plain.v299_at _ _ _ _ i l
    · rw [e₀, e₁, e₂]
      exact Cert.InprojIdeal.Tile.final_11 m c _ fun i l => Cert.InprojRefIdeal.Plain.v301_at _ _ _ i l
    · rw [e₀, e₁, e₂, e₃]
      exact Cert.InprojIdeal.Tile.final_12 m c _ fun i l => Cert.InprojRefIdeal.Plain.v305_at _ _ _ _ i l
    · rw [e₀, e₁, e₂, e₄]
      exact Cert.InprojIdeal.Tile.final_13 m c _ fun i l => Cert.InprojRefIdeal.Plain.v307_at _ _ _ _ i l
    · rw [e₀, e₁, e₂]
      exact Cert.InprojIdeal.Tile.final_14 m c _ fun i l => Cert.InprojRefIdeal.Plain.v309_at _ _ _ i l
    · rw [e₀, e₁, e₂, e₃]
      exact Cert.InprojIdeal.Tile.final_15 m c _ fun i l => Cert.InprojRefIdeal.Plain.v313_at _ _ _ _ i l
    · rw [e₀, e₁, e₂, e₄]
      exact Cert.InprojIdeal.Tile.final_16 m c _ fun i l => Cert.InprojRefIdeal.Plain.v315_at _ _ _ _ i l
  · exact (θ_run (Cert.InprojRefIdeal.defs (F := Ideal)) _ _).mono (fun r h c => ⟨(h c).1.trans (Cert.InprojRefIdeal.Read.val_main_v297_eq (F := Ideal) _),
        (h c).2.1.trans (Cert.InprojRefIdeal.Read.val_main_v299_eq (F := Ideal) _),
        (h c).2.2.1.trans (Cert.InprojRefIdeal.Read.val_main_v301_eq (F := Ideal) _),
        (h c).2.2.2.1.trans (Cert.InprojRefIdeal.Read.val_main_v305_eq (F := Ideal) _),
        (h c).2.2.2.2.1.trans (Cert.InprojRefIdeal.Read.val_main_v307_eq (F := Ideal) _),
        (h c).2.2.2.2.2.1.trans (Cert.InprojRefIdeal.Read.val_main_v309_eq (F := Ideal) _),
        (h c).2.2.2.2.2.2.1.trans (Cert.InprojRefIdeal.Read.val_main_v313_eq (F := Ideal) _),
        (h c).2.2.2.2.2.2.2.1.trans (Cert.InprojRefIdeal.Read.val_main_v315_eq (F := Ideal) _),
        (h c).2.2.2.2.2.2.2.2⟩)
      (Cert.InprojRefIdeal.Value.run (F := Ideal) m' ρ')

end Cert.Proof
-- ==== Proof.lean ====
module

public import proofs.«01_k».proof.Defs
public import proofs.«01_k».proof.Proof.Gen.Gqa
public import proofs.«01_k».proof.Proof.Gen.GqaIdeal
public import proofs.«01_k».proof.Proof.Gen.GqaRefIdeal
public import proofs.«01_k».proof.Proof.Gen.Pre_finite
public import proofs.«01_k».proof.Proof.Gen.Ffn
public import proofs.«01_k».proof.Proof.Gen.FfnIdeal
public import proofs.«01_k».proof.Proof.Gen.FfnRefIdeal
public import proofs.«01_k».proof.Proof.GqaClaims
public import proofs.«01_k».proof.Proof.FfnClaims
public import proofs.«01_k».proof.Proof.InprojClaims
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read

@[expose] public section

noncomputable section

namespace Cert.Proof

/-- Everything claimed of the grouped attention, of the feed-forward part and of the projection. -/
theorem claim : Cert.Claim :=
  ⟨Cert.Gqa.Gen.facts, Cert.GqaIdeal.Gen.facts, Cert.GqaRefIdeal.Gen.facts,
    Cert.Ffn.Gen.facts, Cert.FfnIdeal.Gen.facts, Cert.FfnRefIdeal.Gen.facts,
    Cert.Inproj.Gen.facts, Cert.InprojIdeal.Gen.facts, Cert.InprojRefIdeal.Gen.facts, Cert.Pre_finite.Gen.facts,
    frame_gqa, frame_gqaIdeal, frame_gqaIdeal_finite, frame_gqaRefIdeal, frame_gqaRefIdeal_finite,
    frame_ffn, frame_ffnIdeal, frame_ffnRefIdeal,
    frame_inproj, frame_inprojIdeal, frame_inprojRefIdeal,
    preserves_gqa, algebraic_gqa, preserves_ffn, algebraic_ffn,
    preserves_inproj, algebraic_inproj⟩

end Cert.Proof

end
